-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 128, 4, 64]⟩ ⟨4, ![2, 128, 128, 64]⟩ 2 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 4, 64]⟩ ⟨4, ![2, 128, 128, 64]⟩ 2 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x512 : Shape := ⟨3, ![2, 128, 512]⟩
abbrev S512x8192 : Shape := ⟨2, ![512, 8192]⟩
abbrev S2x128x4x64 : Shape := ⟨4, ![2, 128, 4, 64]⟩
abbrev S8192x512 : Shape := ⟨2, ![8192, 512]⟩
abbrev S256x512 : Shape := ⟨2, ![256, 512]⟩
abbrev S512x256 : Shape := ⟨2, ![512, 256]⟩
abbrev S32x8x512 : Shape := ⟨3, ![32, 8, 512]⟩
abbrev S2 : Shape := ⟨1, ![2]⟩
abbrev S32 : Shape := ⟨1, ![32]⟩
abbrev S_ : Shape := ⟨0, ![]⟩
abbrev S1 : Shape := ⟨1, ![1]⟩
abbrev S1x128x512 : Shape := ⟨3, ![1, 128, 512]⟩
abbrev S128x512 : Shape := ⟨2, ![128, 512]⟩
abbrev S128x256 : Shape := ⟨2, ![128, 256]⟩
abbrev S128x64 : Shape := ⟨2, ![128, 64]⟩
abbrev S1x128x1x64 : Shape := ⟨4, ![1, 128, 1, 64]⟩
abbrev S128x128 : Shape := ⟨2, ![128, 128]⟩
abbrev S128 : Shape := ⟨1, ![128]⟩
abbrev S128x1 : Shape := ⟨2, ![128, 1]⟩
abbrev S1x8x512 : Shape := ⟨3, ![1, 8, 512]⟩
abbrev S8x512 : Shape := ⟨2, ![8, 512]⟩

abbrev nBuf : Space → Nat
  | .hbm => 6
  | .vmem => 8
  | .smem => 0
  | _ => 0

abbrev bufTy : (tb : Table) → Fin (tcTables nBuf tb) → BufTy
  | .hbm, ⟨0, _⟩ => ⟨S2x128x512, .f32⟩
  | .hbm, ⟨1, _⟩ => ⟨S512x8192, .f32⟩
  | .hbm, ⟨2, _⟩ => ⟨S2x128x4x64, .f32⟩
  | .hbm, ⟨3, _⟩ => ⟨S2x128x4x64, .f32⟩
  | .hbm, ⟨4, _⟩ => ⟨S8192x512, .f32⟩
  | .hbm, ⟨5, _⟩ => ⟨S2x128x512, .f32⟩
  | .local _ .vmem, ⟨0, _⟩ => ⟨S2x128x512, .f32⟩
  | .local _ .vmem, ⟨1, _⟩ => ⟨S2x128x4x64, .f32⟩
  | .local _ .vmem, ⟨2, _⟩ => ⟨S2x128x4x64, .f32⟩
  | .local _ .vmem, ⟨3, _⟩ => ⟨S2x128x512, .f32⟩
  | .local _ .vmem, ⟨4, _⟩ => ⟨S256x512, .f32⟩
  | .local _ .vmem, ⟨5, _⟩ => ⟨S512x256, .f32⟩
  | .local _ .vmem, ⟨6, _⟩ => ⟨S256x512, .f32⟩
  | .local _ .vmem, ⟨7, _⟩ => ⟨S32x8x512, .f32⟩
  | _, _ => ⟨S2x128x512, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 134 → Bool
  | ⟨i, _⟩ => dmaSemScopedAt i

abbrev sig : RefSig :=
  (ofTc nBuf bufTy 1 134 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let c0_i32 : BitVec 32 := 0#32
  let v5 : BitVec 1 := Scalar.cmpi .eq c32_i32_1 c0_i32
  let c1_i32_2 : BitVec 32 := 1#32
  let v6 : BitVec 32 := Scalar.select v5 c1_i32_2 c32_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v17 : BitVec 32 := Scalar.addi v2 c2_i32
  let c32_i32_9 : BitVec 32 := 32#32
  let c0_i32_10 : BitVec 32 := 0#32
  let v18 : BitVec 1 := Scalar.cmpi .eq c32_i32_9 c0_i32_10
  let c1_i32_11 : BitVec 32 := 1#32
  let v19 : BitVec 32 := Scalar.select v18 c1_i32_11 c32_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v30 : BitVec 32 := Scalar.addi v2 c3_i32
  let c32_i32_18 : BitVec 32 := 32#32
  let c0_i32_19 : BitVec 32 := 0#32
  let v31 : BitVec 1 := Scalar.cmpi .eq c32_i32_18 c0_i32_19
  let c1_i32_20 : BitVec 32 := 1#32
  let v32 : BitVec 32 := Scalar.select v31 c1_i32_20 c32_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v43 : BitVec 32 := Scalar.addi v2 c4_i32
  let c32_i32_27 : BitVec 32 := 32#32
  let c0_i32_28 : BitVec 32 := 0#32
  let v44 : BitVec 1 := Scalar.cmpi .eq c32_i32_27 c0_i32_28
  let c1_i32_29 : BitVec 32 := 1#32
  let v45 : BitVec 32 := Scalar.select v44 c1_i32_29 c32_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v56 : BitVec 32 := Scalar.addi v2 c5_i32
  let c32_i32_36 : BitVec 32 := 32#32
  let c0_i32_37 : BitVec 32 := 0#32
  let v57 : BitVec 1 := Scalar.cmpi .eq c32_i32_36 c0_i32_37
  let c1_i32_38 : BitVec 32 := 1#32
  let v58 : BitVec 32 := Scalar.select v57 c1_i32_38 c32_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v69 : BitVec 32 := Scalar.addi v2 c6_i32
  let c32_i32_45 : BitVec 32 := 32#32
  let c0_i32_46 : BitVec 32 := 0#32
  let v70 : BitVec 1 := Scalar.cmpi .eq c32_i32_45 c0_i32_46
  let c1_i32_47 : BitVec 32 := 1#32
  let v71 : BitVec 32 := Scalar.select v70 c1_i32_47 c32_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v82 : BitVec 32 := Scalar.addi v2 c7_i32
  let c32_i32_54 : BitVec 32 := 32#32
  let c0_i32_55 : BitVec 32 := 0#32
  let v83 : BitVec 1 := Scalar.cmpi .eq c32_i32_54 c0_i32_55
  let c1_i32_56 : BitVec 32 := 1#32
  let v84 : BitVec 32 := Scalar.select v83 c1_i32_56 c32_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v95 : BitVec 32 := Scalar.addi v2 c8_i32
  let c32_i32_63 : BitVec 32 := 32#32
  let c0_i32_64 : BitVec 32 := 0#32
  let v96 : BitVec 1 := Scalar.cmpi .eq c32_i32_63 c0_i32_64
  let c1_i32_65 : BitVec 32 := 1#32
  let v97 : BitVec 32 := Scalar.select v96 c1_i32_65 c32_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v108 : BitVec 32 := Scalar.addi v2 c9_i32
  let c32_i32_72 : BitVec 32 := 32#32
  let c0_i32_73 : BitVec 32 := 0#32
  let v109 : BitVec 1 := Scalar.cmpi .eq c32_i32_72 c0_i32_73
  let c1_i32_74 : BitVec 32 := 1#32
  let v110 : BitVec 32 := Scalar.select v109 c1_i32_74 c32_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v121 : BitVec 32 := Scalar.addi v2 c10_i32
  let c32_i32_81 : BitVec 32 := 32#32
  let c0_i32_82 : BitVec 32 := 0#32
  let v122 : BitVec 1 := Scalar.cmpi .eq c32_i32_81 c0_i32_82
  let c1_i32_83 : BitVec 32 := 1#32
  let v123 : BitVec 32 := Scalar.select v122 c1_i32_83 c32_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v134 : BitVec 32 := Scalar.addi v2 c11_i32
  let c32_i32_90 : BitVec 32 := 32#32
  let c0_i32_91 : BitVec 32 := 0#32
  let v135 : BitVec 1 := Scalar.cmpi .eq c32_i32_90 c0_i32_91
  let c1_i32_92 : BitVec 32 := 1#32
  let v136 : BitVec 32 := Scalar.select v135 c1_i32_92 c32_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v147 : BitVec 32 := Scalar.addi v2 c12_i32
  let c32_i32_99 : BitVec 32 := 32#32
  let c0_i32_100 : BitVec 32 := 0#32
  let v148 : BitVec 1 := Scalar.cmpi .eq c32_i32_99 c0_i32_100
  let c1_i32_101 : BitVec 32 := 1#32
  let v149 : BitVec 32 := Scalar.select v148 c1_i32_101 c32_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v160 : BitVec 32 := Scalar.addi v2 c13_i32
  let c32_i32_108 : BitVec 32 := 32#32
  let c0_i32_109 : BitVec 32 := 0#32
  let v161 : BitVec 1 := Scalar.cmpi .eq c32_i32_108 c0_i32_109
  let c1_i32_110 : BitVec 32 := 1#32
  let v162 : BitVec 32 := Scalar.select v161 c1_i32_110 c32_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v173 : BitVec 32 := Scalar.addi v2 c14_i32
  let c32_i32_117 : BitVec 32 := 32#32
  let c0_i32_118 : BitVec 32 := 0#32
  let v174 : BitVec 1 := Scalar.cmpi .eq c32_i32_117 c0_i32_118
  let c1_i32_119 : BitVec 32 := 1#32
  let v175 : BitVec 32 := Scalar.select v174 c1_i32_119 c32_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v186 : BitVec 32 := Scalar.addi v2 c15_i32
  let c32_i32_126 : BitVec 32 := 32#32
  let c0_i32_127 : BitVec 32 := 0#32
  let v187 : BitVec 1 := Scalar.cmpi .eq c32_i32_126 c0_i32_127
  let c1_i32_128 : BitVec 32 := 1#32
  let v188 : BitVec 32 := Scalar.select v187 c1_i32_128 c32_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v199 : BitVec 32 := Scalar.addi v2 c16_i32
  let c32_i32_135 : BitVec 32 := 32#32
  let c0_i32_136 : BitVec 32 := 0#32
  let v200 : BitVec 1 := Scalar.cmpi .eq c32_i32_135 c0_i32_136
  let c1_i32_137 : BitVec 32 := 1#32
  let v201 : BitVec 32 := Scalar.select v200 c1_i32_137 c32_i32_135
  let v202 : BitVec 32 := Scalar.remsi v199 v201
  let c0_i32_139 : BitVec 32 := 0#32
  let v204 : BitVec 1 := Scalar.cmpi .slt v202 c0_i32_139
  let c0_i32_140 : BitVec 32 := 0#32
  let v205 : BitVec 1 := Scalar.cmpi .slt v201 c0_i32_140
  let v206 : BitVec 1 := Scalar.xori v204 v205
  let c0_i32_138 : BitVec 32 := 0#32
  let v203 : BitVec 1 := Scalar.cmpi .ne v202 c0_i32_138
  let v207 : BitVec 1 := Scalar.andi v206 v203
  let v208 : BitVec 32 := Scalar.addi v202 v201
  let v209 : BitVec 32 := Scalar.select v207 v208 v202
  let c1_i32_142 : BitVec 32 := 1#32
  let v210 : BitVec 32 := Scalar.muli v209 c1_i32_142
  let v211 : BitVec 32 := Scalar.addi c0_i32_143 v210
  v211.toNat
def k0_dev17 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v212 : BitVec 32 := Scalar.addi v2 c17_i32
  let c32_i32_144 : BitVec 32 := 32#32
  let c0_i32_145 : BitVec 32 := 0#32
  let v213 : BitVec 1 := Scalar.cmpi .eq c32_i32_144 c0_i32_145
  let c1_i32_146 : BitVec 32 := 1#32
  let v214 : BitVec 32 := Scalar.select v213 c1_i32_146 c32_i32_144
  let v215 : BitVec 32 := Scalar.remsi v212 v214
  let c0_i32_148 : BitVec 32 := 0#32
  let v217 : BitVec 1 := Scalar.cmpi .slt v215 c0_i32_148
  let c0_i32_149 : BitVec 32 := 0#32
  let v218 : BitVec 1 := Scalar.cmpi .slt v214 c0_i32_149
  let v219 : BitVec 1 := Scalar.xori v217 v218
  let c0_i32_147 : BitVec 32 := 0#32
  let v216 : BitVec 1 := Scalar.cmpi .ne v215 c0_i32_147
  let v220 : BitVec 1 := Scalar.andi v219 v216
  let v221 : BitVec 32 := Scalar.addi v215 v214
  let v222 : BitVec 32 := Scalar.select v220 v221 v215
  let c1_i32_151 : BitVec 32 := 1#32
  let v223 : BitVec 32 := Scalar.muli v222 c1_i32_151
  let v224 : BitVec 32 := Scalar.addi c0_i32_152 v223
  v224.toNat
def k0_dev18 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v225 : BitVec 32 := Scalar.addi v2 c18_i32
  let c32_i32_153 : BitVec 32 := 32#32
  let c0_i32_154 : BitVec 32 := 0#32
  let v226 : BitVec 1 := Scalar.cmpi .eq c32_i32_153 c0_i32_154
  let c1_i32_155 : BitVec 32 := 1#32
  let v227 : BitVec 32 := Scalar.select v226 c1_i32_155 c32_i32_153
  let v228 : BitVec 32 := Scalar.remsi v225 v227
  let c0_i32_157 : BitVec 32 := 0#32
  let v230 : BitVec 1 := Scalar.cmpi .slt v228 c0_i32_157
  let c0_i32_158 : BitVec 32 := 0#32
  let v231 : BitVec 1 := Scalar.cmpi .slt v227 c0_i32_158
  let v232 : BitVec 1 := Scalar.xori v230 v231
  let c0_i32_156 : BitVec 32 := 0#32
  let v229 : BitVec 1 := Scalar.cmpi .ne v228 c0_i32_156
  let v233 : BitVec 1 := Scalar.andi v232 v229
  let v234 : BitVec 32 := Scalar.addi v228 v227
  let v235 : BitVec 32 := Scalar.select v233 v234 v228
  let c1_i32_160 : BitVec 32 := 1#32
  let v236 : BitVec 32 := Scalar.muli v235 c1_i32_160
  let v237 : BitVec 32 := Scalar.addi c0_i32_161 v236
  v237.toNat
def k0_dev19 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v238 : BitVec 32 := Scalar.addi v2 c19_i32
  let c32_i32_162 : BitVec 32 := 32#32
  let c0_i32_163 : BitVec 32 := 0#32
  let v239 : BitVec 1 := Scalar.cmpi .eq c32_i32_162 c0_i32_163
  let c1_i32_164 : BitVec 32 := 1#32
  let v240 : BitVec 32 := Scalar.select v239 c1_i32_164 c32_i32_162
  let v241 : BitVec 32 := Scalar.remsi v238 v240
  let c0_i32_166 : BitVec 32 := 0#32
  let v243 : BitVec 1 := Scalar.cmpi .slt v241 c0_i32_166
  let c0_i32_167 : BitVec 32 := 0#32
  let v244 : BitVec 1 := Scalar.cmpi .slt v240 c0_i32_167
  let v245 : BitVec 1 := Scalar.xori v243 v244
  let c0_i32_165 : BitVec 32 := 0#32
  let v242 : BitVec 1 := Scalar.cmpi .ne v241 c0_i32_165
  let v246 : BitVec 1 := Scalar.andi v245 v242
  let v247 : BitVec 32 := Scalar.addi v241 v240
  let v248 : BitVec 32 := Scalar.select v246 v247 v241
  let c1_i32_169 : BitVec 32 := 1#32
  let v249 : BitVec 32 := Scalar.muli v248 c1_i32_169
  let v250 : BitVec 32 := Scalar.addi c0_i32_170 v249
  v250.toNat
def k0_dev20 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v251 : BitVec 32 := Scalar.addi v2 c20_i32
  let c32_i32_171 : BitVec 32 := 32#32
  let c0_i32_172 : BitVec 32 := 0#32
  let v252 : BitVec 1 := Scalar.cmpi .eq c32_i32_171 c0_i32_172
  let c1_i32_173 : BitVec 32 := 1#32
  let v253 : BitVec 32 := Scalar.select v252 c1_i32_173 c32_i32_171
  let v254 : BitVec 32 := Scalar.remsi v251 v253
  let c0_i32_175 : BitVec 32 := 0#32
  let v256 : BitVec 1 := Scalar.cmpi .slt v254 c0_i32_175
  let c0_i32_176 : BitVec 32 := 0#32
  let v257 : BitVec 1 := Scalar.cmpi .slt v253 c0_i32_176
  let v258 : BitVec 1 := Scalar.xori v256 v257
  let c0_i32_174 : BitVec 32 := 0#32
  let v255 : BitVec 1 := Scalar.cmpi .ne v254 c0_i32_174
  let v259 : BitVec 1 := Scalar.andi v258 v255
  let v260 : BitVec 32 := Scalar.addi v254 v253
  let v261 : BitVec 32 := Scalar.select v259 v260 v254
  let c1_i32_178 : BitVec 32 := 1#32
  let v262 : BitVec 32 := Scalar.muli v261 c1_i32_178
  let v263 : BitVec 32 := Scalar.addi c0_i32_179 v262
  v263.toNat
def k0_dev21 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v264 : BitVec 32 := Scalar.addi v2 c21_i32
  let c32_i32_180 : BitVec 32 := 32#32
  let c0_i32_181 : BitVec 32 := 0#32
  let v265 : BitVec 1 := Scalar.cmpi .eq c32_i32_180 c0_i32_181
  let c1_i32_182 : BitVec 32 := 1#32
  let v266 : BitVec 32 := Scalar.select v265 c1_i32_182 c32_i32_180
  let v267 : BitVec 32 := Scalar.remsi v264 v266
  let c0_i32_184 : BitVec 32 := 0#32
  let v269 : BitVec 1 := Scalar.cmpi .slt v267 c0_i32_184
  let c0_i32_185 : BitVec 32 := 0#32
  let v270 : BitVec 1 := Scalar.cmpi .slt v266 c0_i32_185
  let v271 : BitVec 1 := Scalar.xori v269 v270
  let c0_i32_183 : BitVec 32 := 0#32
  let v268 : BitVec 1 := Scalar.cmpi .ne v267 c0_i32_183
  let v272 : BitVec 1 := Scalar.andi v271 v268
  let v273 : BitVec 32 := Scalar.addi v267 v266
  let v274 : BitVec 32 := Scalar.select v272 v273 v267
  let c1_i32_187 : BitVec 32 := 1#32
  let v275 : BitVec 32 := Scalar.muli v274 c1_i32_187
  let v276 : BitVec 32 := Scalar.addi c0_i32_188 v275
  v276.toNat
def k0_dev22 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v277 : BitVec 32 := Scalar.addi v2 c22_i32
  let c32_i32_189 : BitVec 32 := 32#32
  let c0_i32_190 : BitVec 32 := 0#32
  let v278 : BitVec 1 := Scalar.cmpi .eq c32_i32_189 c0_i32_190
  let c1_i32_191 : BitVec 32 := 1#32
  let v279 : BitVec 32 := Scalar.select v278 c1_i32_191 c32_i32_189
  let v280 : BitVec 32 := Scalar.remsi v277 v279
  let c0_i32_193 : BitVec 32 := 0#32
  let v282 : BitVec 1 := Scalar.cmpi .slt v280 c0_i32_193
  let c0_i32_194 : BitVec 32 := 0#32
  let v283 : BitVec 1 := Scalar.cmpi .slt v279 c0_i32_194
  let v284 : BitVec 1 := Scalar.xori v282 v283
  let c0_i32_192 : BitVec 32 := 0#32
  let v281 : BitVec 1 := Scalar.cmpi .ne v280 c0_i32_192
  let v285 : BitVec 1 := Scalar.andi v284 v281
  let v286 : BitVec 32 := Scalar.addi v280 v279
  let v287 : BitVec 32 := Scalar.select v285 v286 v280
  let c1_i32_196 : BitVec 32 := 1#32
  let v288 : BitVec 32 := Scalar.muli v287 c1_i32_196
  let v289 : BitVec 32 := Scalar.addi c0_i32_197 v288
  v289.toNat
def k0_dev23 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v290 : BitVec 32 := Scalar.addi v2 c23_i32
  let c32_i32_198 : BitVec 32 := 32#32
  let c0_i32_199 : BitVec 32 := 0#32
  let v291 : BitVec 1 := Scalar.cmpi .eq c32_i32_198 c0_i32_199
  let c1_i32_200 : BitVec 32 := 1#32
  let v292 : BitVec 32 := Scalar.select v291 c1_i32_200 c32_i32_198
  let v293 : BitVec 32 := Scalar.remsi v290 v292
  let c0_i32_202 : BitVec 32 := 0#32
  let v295 : BitVec 1 := Scalar.cmpi .slt v293 c0_i32_202
  let c0_i32_203 : BitVec 32 := 0#32
  let v296 : BitVec 1 := Scalar.cmpi .slt v292 c0_i32_203
  let v297 : BitVec 1 := Scalar.xori v295 v296
  let c0_i32_201 : BitVec 32 := 0#32
  let v294 : BitVec 1 := Scalar.cmpi .ne v293 c0_i32_201
  let v298 : BitVec 1 := Scalar.andi v297 v294
  let v299 : BitVec 32 := Scalar.addi v293 v292
  let v300 : BitVec 32 := Scalar.select v298 v299 v293
  let c1_i32_205 : BitVec 32 := 1#32
  let v301 : BitVec 32 := Scalar.muli v300 c1_i32_205
  let v302 : BitVec 32 := Scalar.addi c0_i32_206 v301
  v302.toNat
def k0_dev24 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v303 : BitVec 32 := Scalar.addi v2 c24_i32
  let c32_i32_207 : BitVec 32 := 32#32
  let c0_i32_208 : BitVec 32 := 0#32
  let v304 : BitVec 1 := Scalar.cmpi .eq c32_i32_207 c0_i32_208
  let c1_i32_209 : BitVec 32 := 1#32
  let v305 : BitVec 32 := Scalar.select v304 c1_i32_209 c32_i32_207
  let v306 : BitVec 32 := Scalar.remsi v303 v305
  let c0_i32_211 : BitVec 32 := 0#32
  let v308 : BitVec 1 := Scalar.cmpi .slt v306 c0_i32_211
  let c0_i32_212 : BitVec 32 := 0#32
  let v309 : BitVec 1 := Scalar.cmpi .slt v305 c0_i32_212
  let v310 : BitVec 1 := Scalar.xori v308 v309
  let c0_i32_210 : BitVec 32 := 0#32
  let v307 : BitVec 1 := Scalar.cmpi .ne v306 c0_i32_210
  let v311 : BitVec 1 := Scalar.andi v310 v307
  let v312 : BitVec 32 := Scalar.addi v306 v305
  let v313 : BitVec 32 := Scalar.select v311 v312 v306
  let c1_i32_214 : BitVec 32 := 1#32
  let v314 : BitVec 32 := Scalar.muli v313 c1_i32_214
  let v315 : BitVec 32 := Scalar.addi c0_i32_215 v314
  v315.toNat
def k0_dev25 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v316 : BitVec 32 := Scalar.addi v2 c25_i32
  let c32_i32_216 : BitVec 32 := 32#32
  let c0_i32_217 : BitVec 32 := 0#32
  let v317 : BitVec 1 := Scalar.cmpi .eq c32_i32_216 c0_i32_217
  let c1_i32_218 : BitVec 32 := 1#32
  let v318 : BitVec 32 := Scalar.select v317 c1_i32_218 c32_i32_216
  let v319 : BitVec 32 := Scalar.remsi v316 v318
  let c0_i32_220 : BitVec 32 := 0#32
  let v321 : BitVec 1 := Scalar.cmpi .slt v319 c0_i32_220
  let c0_i32_221 : BitVec 32 := 0#32
  let v322 : BitVec 1 := Scalar.cmpi .slt v318 c0_i32_221
  let v323 : BitVec 1 := Scalar.xori v321 v322
  let c0_i32_219 : BitVec 32 := 0#32
  let v320 : BitVec 1 := Scalar.cmpi .ne v319 c0_i32_219
  let v324 : BitVec 1 := Scalar.andi v323 v320
  let v325 : BitVec 32 := Scalar.addi v319 v318
  let v326 : BitVec 32 := Scalar.select v324 v325 v319
  let c1_i32_223 : BitVec 32 := 1#32
  let v327 : BitVec 32 := Scalar.muli v326 c1_i32_223
  let v328 : BitVec 32 := Scalar.addi c0_i32_224 v327
  v328.toNat
def k0_dev26 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v329 : BitVec 32 := Scalar.addi v2 c26_i32
  let c32_i32_225 : BitVec 32 := 32#32
  let c0_i32_226 : BitVec 32 := 0#32
  let v330 : BitVec 1 := Scalar.cmpi .eq c32_i32_225 c0_i32_226
  let c1_i32_227 : BitVec 32 := 1#32
  let v331 : BitVec 32 := Scalar.select v330 c1_i32_227 c32_i32_225
  let v332 : BitVec 32 := Scalar.remsi v329 v331
  let c0_i32_229 : BitVec 32 := 0#32
  let v334 : BitVec 1 := Scalar.cmpi .slt v332 c0_i32_229
  let c0_i32_230 : BitVec 32 := 0#32
  let v335 : BitVec 1 := Scalar.cmpi .slt v331 c0_i32_230
  let v336 : BitVec 1 := Scalar.xori v334 v335
  let c0_i32_228 : BitVec 32 := 0#32
  let v333 : BitVec 1 := Scalar.cmpi .ne v332 c0_i32_228
  let v337 : BitVec 1 := Scalar.andi v336 v333
  let v338 : BitVec 32 := Scalar.addi v332 v331
  let v339 : BitVec 32 := Scalar.select v337 v338 v332
  let c1_i32_232 : BitVec 32 := 1#32
  let v340 : BitVec 32 := Scalar.muli v339 c1_i32_232
  let v341 : BitVec 32 := Scalar.addi c0_i32_233 v340
  v341.toNat
def k0_dev27 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v342 : BitVec 32 := Scalar.addi v2 c27_i32
  let c32_i32_234 : BitVec 32 := 32#32
  let c0_i32_235 : BitVec 32 := 0#32
  let v343 : BitVec 1 := Scalar.cmpi .eq c32_i32_234 c0_i32_235
  let c1_i32_236 : BitVec 32 := 1#32
  let v344 : BitVec 32 := Scalar.select v343 c1_i32_236 c32_i32_234
  let v345 : BitVec 32 := Scalar.remsi v342 v344
  let c0_i32_238 : BitVec 32 := 0#32
  let v347 : BitVec 1 := Scalar.cmpi .slt v345 c0_i32_238
  let c0_i32_239 : BitVec 32 := 0#32
  let v348 : BitVec 1 := Scalar.cmpi .slt v344 c0_i32_239
  let v349 : BitVec 1 := Scalar.xori v347 v348
  let c0_i32_237 : BitVec 32 := 0#32
  let v346 : BitVec 1 := Scalar.cmpi .ne v345 c0_i32_237
  let v350 : BitVec 1 := Scalar.andi v349 v346
  let v351 : BitVec 32 := Scalar.addi v345 v344
  let v352 : BitVec 32 := Scalar.select v350 v351 v345
  let c1_i32_241 : BitVec 32 := 1#32
  let v353 : BitVec 32 := Scalar.muli v352 c1_i32_241
  let v354 : BitVec 32 := Scalar.addi c0_i32_242 v353
  v354.toNat
def k0_dev28 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v355 : BitVec 32 := Scalar.addi v2 c28_i32
  let c32_i32_243 : BitVec 32 := 32#32
  let c0_i32_244 : BitVec 32 := 0#32
  let v356 : BitVec 1 := Scalar.cmpi .eq c32_i32_243 c0_i32_244
  let c1_i32_245 : BitVec 32 := 1#32
  let v357 : BitVec 32 := Scalar.select v356 c1_i32_245 c32_i32_243
  let v358 : BitVec 32 := Scalar.remsi v355 v357
  let c0_i32_247 : BitVec 32 := 0#32
  let v360 : BitVec 1 := Scalar.cmpi .slt v358 c0_i32_247
  let c0_i32_248 : BitVec 32 := 0#32
  let v361 : BitVec 1 := Scalar.cmpi .slt v357 c0_i32_248
  let v362 : BitVec 1 := Scalar.xori v360 v361
  let c0_i32_246 : BitVec 32 := 0#32
  let v359 : BitVec 1 := Scalar.cmpi .ne v358 c0_i32_246
  let v363 : BitVec 1 := Scalar.andi v362 v359
  let v364 : BitVec 32 := Scalar.addi v358 v357
  let v365 : BitVec 32 := Scalar.select v363 v364 v358
  let c1_i32_250 : BitVec 32 := 1#32
  let v366 : BitVec 32 := Scalar.muli v365 c1_i32_250
  let v367 : BitVec 32 := Scalar.addi c0_i32_251 v366
  v367.toNat
def k0_dev29 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v368 : BitVec 32 := Scalar.addi v2 c29_i32
  let c32_i32_252 : BitVec 32 := 32#32
  let c0_i32_253 : BitVec 32 := 0#32
  let v369 : BitVec 1 := Scalar.cmpi .eq c32_i32_252 c0_i32_253
  let c1_i32_254 : BitVec 32 := 1#32
  let v370 : BitVec 32 := Scalar.select v369 c1_i32_254 c32_i32_252
  let v371 : BitVec 32 := Scalar.remsi v368 v370
  let c0_i32_256 : BitVec 32 := 0#32
  let v373 : BitVec 1 := Scalar.cmpi .slt v371 c0_i32_256
  let c0_i32_257 : BitVec 32 := 0#32
  let v374 : BitVec 1 := Scalar.cmpi .slt v370 c0_i32_257
  let v375 : BitVec 1 := Scalar.xori v373 v374
  let c0_i32_255 : BitVec 32 := 0#32
  let v372 : BitVec 1 := Scalar.cmpi .ne v371 c0_i32_255
  let v376 : BitVec 1 := Scalar.andi v375 v372
  let v377 : BitVec 32 := Scalar.addi v371 v370
  let v378 : BitVec 32 := Scalar.select v376 v377 v371
  let c1_i32_259 : BitVec 32 := 1#32
  let v379 : BitVec 32 := Scalar.muli v378 c1_i32_259
  let v380 : BitVec 32 := Scalar.addi c0_i32_260 v379
  v380.toNat
def k0_dev30 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v381 : BitVec 32 := Scalar.addi v2 c30_i32
  let c32_i32_261 : BitVec 32 := 32#32
  let c0_i32_262 : BitVec 32 := 0#32
  let v382 : BitVec 1 := Scalar.cmpi .eq c32_i32_261 c0_i32_262
  let c1_i32_263 : BitVec 32 := 1#32
  let v383 : BitVec 32 := Scalar.select v382 c1_i32_263 c32_i32_261
  let v384 : BitVec 32 := Scalar.remsi v381 v383
  let c0_i32_265 : BitVec 32 := 0#32
  let v386 : BitVec 1 := Scalar.cmpi .slt v384 c0_i32_265
  let c0_i32_266 : BitVec 32 := 0#32
  let v387 : BitVec 1 := Scalar.cmpi .slt v383 c0_i32_266
  let v388 : BitVec 1 := Scalar.xori v386 v387
  let c0_i32_264 : BitVec 32 := 0#32
  let v385 : BitVec 1 := Scalar.cmpi .ne v384 c0_i32_264
  let v389 : BitVec 1 := Scalar.andi v388 v385
  let v390 : BitVec 32 := Scalar.addi v384 v383
  let v391 : BitVec 32 := Scalar.select v389 v390 v384
  let c1_i32_268 : BitVec 32 := 1#32
  let v392 : BitVec 32 := Scalar.muli v391 c1_i32_268
  let v393 : BitVec 32 := Scalar.addi c0_i32_269 v392
  v393.toNat
def k0_dev31 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v394 : BitVec 32 := Scalar.addi v2 c31_i32
  let c32_i32_270 : BitVec 32 := 32#32
  let c0_i32_271 : BitVec 32 := 0#32
  let v395 : BitVec 1 := Scalar.cmpi .eq c32_i32_270 c0_i32_271
  let c1_i32_272 : BitVec 32 := 1#32
  let v396 : BitVec 32 := Scalar.select v395 c1_i32_272 c32_i32_270
  let v397 : BitVec 32 := Scalar.remsi v394 v396
  let c0_i32_274 : BitVec 32 := 0#32
  let v399 : BitVec 1 := Scalar.cmpi .slt v397 c0_i32_274
  let c0_i32_275 : BitVec 32 := 0#32
  let v400 : BitVec 1 := Scalar.cmpi .slt v396 c0_i32_275
  let v401 : BitVec 1 := Scalar.xori v399 v400
  let c0_i32_273 : BitVec 32 := 0#32
  let v398 : BitVec 1 := Scalar.cmpi .ne v397 c0_i32_273
  let v402 : BitVec 1 := Scalar.andi v401 v398
  let v403 : BitVec 32 := Scalar.addi v397 v396
  let v404 : BitVec 32 := Scalar.select v402 v403 v397
  let c1_i32_277 : BitVec 32 := 1#32
  let v405 : BitVec 32 := Scalar.muli v404 c1_i32_277
  let v406 : BitVec 32 := Scalar.addi c0_i32_278 v405
  v406.toNat
def k0_off1 (d0 : Dev nD) : Fin 2 → Nat :=
  let c0_i32_282 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32 : BitVec 32 := 256#32
  let v407 : BitVec 32 := Scalar.muli v2 c256_i32
  ![0, v407.toNat]
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_280 : BitVec 32 := 256#32
  let v408 : BitVec 32 := Scalar.muli v2 c256_i32_280
  let c0_i32_284 : BitVec 32 := 0#32
  ![v408.toNat, 0]
def k0_off3 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_420 : BitVec 32 := 0#32
  let c0_i32_421 : BitVec 32 := 0#32
  ![v2.toNat, 0, 0]
def k0_off5 (d0 : Dev nD) (c1_i32_409 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v585 : BitVec 32 := Scalar.addi v2 c1_i32_409
  let c32_i32_410 : BitVec 32 := 32#32
  let c0_i32_411 : BitVec 32 := 0#32
  let v586 : BitVec 1 := Scalar.cmpi .eq c32_i32_410 c0_i32_411
  let c1_i32_412 : BitVec 32 := 1#32
  let v587 : BitVec 32 := Scalar.select v586 c1_i32_412 c32_i32_410
  let v588 : BitVec 32 := Scalar.remsi v585 v587
  let c0_i32_414 : BitVec 32 := 0#32
  let v590 : BitVec 1 := Scalar.cmpi .slt v588 c0_i32_414
  let c0_i32_415 : BitVec 32 := 0#32
  let v591 : BitVec 1 := Scalar.cmpi .slt v587 c0_i32_415
  let v592 : BitVec 1 := Scalar.xori v590 v591
  let c0_i32_413 : BitVec 32 := 0#32
  let v589 : BitVec 1 := Scalar.cmpi .ne v588 c0_i32_413
  let v593 : BitVec 1 := Scalar.andi v592 v589
  let v594 : BitVec 32 := Scalar.addi v588 v587
  let v595 : BitVec 32 := Scalar.select v593 v594 v588
  let c8_i32_416 : BitVec 32 := 8#32
  let v596 : BitVec 32 := Scalar.muli v595 c8_i32_416
  let c0_i32_422 : BitVec 32 := 0#32
  ![v596.toNat, 0]
def k0_dev32 (d0 : Dev nD) : Nat :=
  let c0_i32_419 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_409 : BitVec 32 := 1#32
  let v585 : BitVec 32 := Scalar.addi v2 c1_i32_409
  let c32_i32_410 : BitVec 32 := 32#32
  let c0_i32_411 : BitVec 32 := 0#32
  let v586 : BitVec 1 := Scalar.cmpi .eq c32_i32_410 c0_i32_411
  let c1_i32_412 : BitVec 32 := 1#32
  let v587 : BitVec 32 := Scalar.select v586 c1_i32_412 c32_i32_410
  let v588 : BitVec 32 := Scalar.remsi v585 v587
  let c0_i32_414 : BitVec 32 := 0#32
  let v590 : BitVec 1 := Scalar.cmpi .slt v588 c0_i32_414
  let c0_i32_415 : BitVec 32 := 0#32
  let v591 : BitVec 1 := Scalar.cmpi .slt v587 c0_i32_415
  let v592 : BitVec 1 := Scalar.xori v590 v591
  let c0_i32_413 : BitVec 32 := 0#32
  let v589 : BitVec 1 := Scalar.cmpi .ne v588 c0_i32_413
  let v593 : BitVec 1 := Scalar.andi v592 v589
  let v594 : BitVec 32 := Scalar.addi v588 v587
  let v595 : BitVec 32 := Scalar.select v593 v594 v588
  let c1_i32_418 : BitVec 32 := 1#32
  let v597 : BitVec 32 := Scalar.muli v595 c1_i32_418
  let v598 : BitVec 32 := Scalar.addi c0_i32_419 v597
  v598.toNat
def k0_dev33 (d0 : Dev nD) : Nat :=
  let c0_i32_433 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_423 : BitVec 32 := 2#32
  let v606 : BitVec 32 := Scalar.addi v2 c2_i32_423
  let c32_i32_424 : BitVec 32 := 32#32
  let c0_i32_425 : BitVec 32 := 0#32
  let v607 : BitVec 1 := Scalar.cmpi .eq c32_i32_424 c0_i32_425
  let c1_i32_426 : BitVec 32 := 1#32
  let v608 : BitVec 32 := Scalar.select v607 c1_i32_426 c32_i32_424
  let v609 : BitVec 32 := Scalar.remsi v606 v608
  let c0_i32_428 : BitVec 32 := 0#32
  let v611 : BitVec 1 := Scalar.cmpi .slt v609 c0_i32_428
  let c0_i32_429 : BitVec 32 := 0#32
  let v612 : BitVec 1 := Scalar.cmpi .slt v608 c0_i32_429
  let v613 : BitVec 1 := Scalar.xori v611 v612
  let c0_i32_427 : BitVec 32 := 0#32
  let v610 : BitVec 1 := Scalar.cmpi .ne v609 c0_i32_427
  let v614 : BitVec 1 := Scalar.andi v613 v610
  let v615 : BitVec 32 := Scalar.addi v609 v608
  let v616 : BitVec 32 := Scalar.select v614 v615 v609
  let c1_i32_432 : BitVec 32 := 1#32
  let v618 : BitVec 32 := Scalar.muli v616 c1_i32_432
  let v619 : BitVec 32 := Scalar.addi c0_i32_433 v618
  v619.toNat
def k0_dev34 (d0 : Dev nD) : Nat :=
  let c0_i32_447 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_437 : BitVec 32 := 3#32
  let v627 : BitVec 32 := Scalar.addi v2 c3_i32_437
  let c32_i32_438 : BitVec 32 := 32#32
  let c0_i32_439 : BitVec 32 := 0#32
  let v628 : BitVec 1 := Scalar.cmpi .eq c32_i32_438 c0_i32_439
  let c1_i32_440 : BitVec 32 := 1#32
  let v629 : BitVec 32 := Scalar.select v628 c1_i32_440 c32_i32_438
  let v630 : BitVec 32 := Scalar.remsi v627 v629
  let c0_i32_442 : BitVec 32 := 0#32
  let v632 : BitVec 1 := Scalar.cmpi .slt v630 c0_i32_442
  let c0_i32_443 : BitVec 32 := 0#32
  let v633 : BitVec 1 := Scalar.cmpi .slt v629 c0_i32_443
  let v634 : BitVec 1 := Scalar.xori v632 v633
  let c0_i32_441 : BitVec 32 := 0#32
  let v631 : BitVec 1 := Scalar.cmpi .ne v630 c0_i32_441
  let v635 : BitVec 1 := Scalar.andi v634 v631
  let v636 : BitVec 32 := Scalar.addi v630 v629
  let v637 : BitVec 32 := Scalar.select v635 v636 v630
  let c1_i32_446 : BitVec 32 := 1#32
  let v639 : BitVec 32 := Scalar.muli v637 c1_i32_446
  let v640 : BitVec 32 := Scalar.addi c0_i32_447 v639
  v640.toNat
def k0_dev35 (d0 : Dev nD) : Nat :=
  let c0_i32_461 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_451 : BitVec 32 := 4#32
  let v648 : BitVec 32 := Scalar.addi v2 c4_i32_451
  let c32_i32_452 : BitVec 32 := 32#32
  let c0_i32_453 : BitVec 32 := 0#32
  let v649 : BitVec 1 := Scalar.cmpi .eq c32_i32_452 c0_i32_453
  let c1_i32_454 : BitVec 32 := 1#32
  let v650 : BitVec 32 := Scalar.select v649 c1_i32_454 c32_i32_452
  let v651 : BitVec 32 := Scalar.remsi v648 v650
  let c0_i32_456 : BitVec 32 := 0#32
  let v653 : BitVec 1 := Scalar.cmpi .slt v651 c0_i32_456
  let c0_i32_457 : BitVec 32 := 0#32
  let v654 : BitVec 1 := Scalar.cmpi .slt v650 c0_i32_457
  let v655 : BitVec 1 := Scalar.xori v653 v654
  let c0_i32_455 : BitVec 32 := 0#32
  let v652 : BitVec 1 := Scalar.cmpi .ne v651 c0_i32_455
  let v656 : BitVec 1 := Scalar.andi v655 v652
  let v657 : BitVec 32 := Scalar.addi v651 v650
  let v658 : BitVec 32 := Scalar.select v656 v657 v651
  let c1_i32_460 : BitVec 32 := 1#32
  let v660 : BitVec 32 := Scalar.muli v658 c1_i32_460
  let v661 : BitVec 32 := Scalar.addi c0_i32_461 v660
  v661.toNat
def k0_dev36 (d0 : Dev nD) : Nat :=
  let c0_i32_475 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_465 : BitVec 32 := 5#32
  let v669 : BitVec 32 := Scalar.addi v2 c5_i32_465
  let c32_i32_466 : BitVec 32 := 32#32
  let c0_i32_467 : BitVec 32 := 0#32
  let v670 : BitVec 1 := Scalar.cmpi .eq c32_i32_466 c0_i32_467
  let c1_i32_468 : BitVec 32 := 1#32
  let v671 : BitVec 32 := Scalar.select v670 c1_i32_468 c32_i32_466
  let v672 : BitVec 32 := Scalar.remsi v669 v671
  let c0_i32_470 : BitVec 32 := 0#32
  let v674 : BitVec 1 := Scalar.cmpi .slt v672 c0_i32_470
  let c0_i32_471 : BitVec 32 := 0#32
  let v675 : BitVec 1 := Scalar.cmpi .slt v671 c0_i32_471
  let v676 : BitVec 1 := Scalar.xori v674 v675
  let c0_i32_469 : BitVec 32 := 0#32
  let v673 : BitVec 1 := Scalar.cmpi .ne v672 c0_i32_469
  let v677 : BitVec 1 := Scalar.andi v676 v673
  let v678 : BitVec 32 := Scalar.addi v672 v671
  let v679 : BitVec 32 := Scalar.select v677 v678 v672
  let c1_i32_474 : BitVec 32 := 1#32
  let v681 : BitVec 32 := Scalar.muli v679 c1_i32_474
  let v682 : BitVec 32 := Scalar.addi c0_i32_475 v681
  v682.toNat
def k0_dev37 (d0 : Dev nD) : Nat :=
  let c0_i32_489 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_479 : BitVec 32 := 6#32
  let v690 : BitVec 32 := Scalar.addi v2 c6_i32_479
  let c32_i32_480 : BitVec 32 := 32#32
  let c0_i32_481 : BitVec 32 := 0#32
  let v691 : BitVec 1 := Scalar.cmpi .eq c32_i32_480 c0_i32_481
  let c1_i32_482 : BitVec 32 := 1#32
  let v692 : BitVec 32 := Scalar.select v691 c1_i32_482 c32_i32_480
  let v693 : BitVec 32 := Scalar.remsi v690 v692
  let c0_i32_484 : BitVec 32 := 0#32
  let v695 : BitVec 1 := Scalar.cmpi .slt v693 c0_i32_484
  let c0_i32_485 : BitVec 32 := 0#32
  let v696 : BitVec 1 := Scalar.cmpi .slt v692 c0_i32_485
  let v697 : BitVec 1 := Scalar.xori v695 v696
  let c0_i32_483 : BitVec 32 := 0#32
  let v694 : BitVec 1 := Scalar.cmpi .ne v693 c0_i32_483
  let v698 : BitVec 1 := Scalar.andi v697 v694
  let v699 : BitVec 32 := Scalar.addi v693 v692
  let v700 : BitVec 32 := Scalar.select v698 v699 v693
  let c1_i32_488 : BitVec 32 := 1#32
  let v702 : BitVec 32 := Scalar.muli v700 c1_i32_488
  let v703 : BitVec 32 := Scalar.addi c0_i32_489 v702
  v703.toNat
def k0_dev38 (d0 : Dev nD) : Nat :=
  let c0_i32_503 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_493 : BitVec 32 := 7#32
  let v711 : BitVec 32 := Scalar.addi v2 c7_i32_493
  let c32_i32_494 : BitVec 32 := 32#32
  let c0_i32_495 : BitVec 32 := 0#32
  let v712 : BitVec 1 := Scalar.cmpi .eq c32_i32_494 c0_i32_495
  let c1_i32_496 : BitVec 32 := 1#32
  let v713 : BitVec 32 := Scalar.select v712 c1_i32_496 c32_i32_494
  let v714 : BitVec 32 := Scalar.remsi v711 v713
  let c0_i32_498 : BitVec 32 := 0#32
  let v716 : BitVec 1 := Scalar.cmpi .slt v714 c0_i32_498
  let c0_i32_499 : BitVec 32 := 0#32
  let v717 : BitVec 1 := Scalar.cmpi .slt v713 c0_i32_499
  let v718 : BitVec 1 := Scalar.xori v716 v717
  let c0_i32_497 : BitVec 32 := 0#32
  let v715 : BitVec 1 := Scalar.cmpi .ne v714 c0_i32_497
  let v719 : BitVec 1 := Scalar.andi v718 v715
  let v720 : BitVec 32 := Scalar.addi v714 v713
  let v721 : BitVec 32 := Scalar.select v719 v720 v714
  let c1_i32_502 : BitVec 32 := 1#32
  let v723 : BitVec 32 := Scalar.muli v721 c1_i32_502
  let v724 : BitVec 32 := Scalar.addi c0_i32_503 v723
  v724.toNat
def k0_dev39 (d0 : Dev nD) : Nat :=
  let c0_i32_517 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_507 : BitVec 32 := 8#32
  let v732 : BitVec 32 := Scalar.addi v2 c8_i32_507
  let c32_i32_508 : BitVec 32 := 32#32
  let c0_i32_509 : BitVec 32 := 0#32
  let v733 : BitVec 1 := Scalar.cmpi .eq c32_i32_508 c0_i32_509
  let c1_i32_510 : BitVec 32 := 1#32
  let v734 : BitVec 32 := Scalar.select v733 c1_i32_510 c32_i32_508
  let v735 : BitVec 32 := Scalar.remsi v732 v734
  let c0_i32_512 : BitVec 32 := 0#32
  let v737 : BitVec 1 := Scalar.cmpi .slt v735 c0_i32_512
  let c0_i32_513 : BitVec 32 := 0#32
  let v738 : BitVec 1 := Scalar.cmpi .slt v734 c0_i32_513
  let v739 : BitVec 1 := Scalar.xori v737 v738
  let c0_i32_511 : BitVec 32 := 0#32
  let v736 : BitVec 1 := Scalar.cmpi .ne v735 c0_i32_511
  let v740 : BitVec 1 := Scalar.andi v739 v736
  let v741 : BitVec 32 := Scalar.addi v735 v734
  let v742 : BitVec 32 := Scalar.select v740 v741 v735
  let c1_i32_516 : BitVec 32 := 1#32
  let v744 : BitVec 32 := Scalar.muli v742 c1_i32_516
  let v745 : BitVec 32 := Scalar.addi c0_i32_517 v744
  v745.toNat
def k0_dev40 (d0 : Dev nD) : Nat :=
  let c0_i32_531 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_521 : BitVec 32 := 9#32
  let v753 : BitVec 32 := Scalar.addi v2 c9_i32_521
  let c32_i32_522 : BitVec 32 := 32#32
  let c0_i32_523 : BitVec 32 := 0#32
  let v754 : BitVec 1 := Scalar.cmpi .eq c32_i32_522 c0_i32_523
  let c1_i32_524 : BitVec 32 := 1#32
  let v755 : BitVec 32 := Scalar.select v754 c1_i32_524 c32_i32_522
  let v756 : BitVec 32 := Scalar.remsi v753 v755
  let c0_i32_526 : BitVec 32 := 0#32
  let v758 : BitVec 1 := Scalar.cmpi .slt v756 c0_i32_526
  let c0_i32_527 : BitVec 32 := 0#32
  let v759 : BitVec 1 := Scalar.cmpi .slt v755 c0_i32_527
  let v760 : BitVec 1 := Scalar.xori v758 v759
  let c0_i32_525 : BitVec 32 := 0#32
  let v757 : BitVec 1 := Scalar.cmpi .ne v756 c0_i32_525
  let v761 : BitVec 1 := Scalar.andi v760 v757
  let v762 : BitVec 32 := Scalar.addi v756 v755
  let v763 : BitVec 32 := Scalar.select v761 v762 v756
  let c1_i32_530 : BitVec 32 := 1#32
  let v765 : BitVec 32 := Scalar.muli v763 c1_i32_530
  let v766 : BitVec 32 := Scalar.addi c0_i32_531 v765
  v766.toNat
def k0_dev41 (d0 : Dev nD) : Nat :=
  let c0_i32_545 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_535 : BitVec 32 := 10#32
  let v774 : BitVec 32 := Scalar.addi v2 c10_i32_535
  let c32_i32_536 : BitVec 32 := 32#32
  let c0_i32_537 : BitVec 32 := 0#32
  let v775 : BitVec 1 := Scalar.cmpi .eq c32_i32_536 c0_i32_537
  let c1_i32_538 : BitVec 32 := 1#32
  let v776 : BitVec 32 := Scalar.select v775 c1_i32_538 c32_i32_536
  let v777 : BitVec 32 := Scalar.remsi v774 v776
  let c0_i32_540 : BitVec 32 := 0#32
  let v779 : BitVec 1 := Scalar.cmpi .slt v777 c0_i32_540
  let c0_i32_541 : BitVec 32 := 0#32
  let v780 : BitVec 1 := Scalar.cmpi .slt v776 c0_i32_541
  let v781 : BitVec 1 := Scalar.xori v779 v780
  let c0_i32_539 : BitVec 32 := 0#32
  let v778 : BitVec 1 := Scalar.cmpi .ne v777 c0_i32_539
  let v782 : BitVec 1 := Scalar.andi v781 v778
  let v783 : BitVec 32 := Scalar.addi v777 v776
  let v784 : BitVec 32 := Scalar.select v782 v783 v777
  let c1_i32_544 : BitVec 32 := 1#32
  let v786 : BitVec 32 := Scalar.muli v784 c1_i32_544
  let v787 : BitVec 32 := Scalar.addi c0_i32_545 v786
  v787.toNat
def k0_dev42 (d0 : Dev nD) : Nat :=
  let c0_i32_559 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_549 : BitVec 32 := 11#32
  let v795 : BitVec 32 := Scalar.addi v2 c11_i32_549
  let c32_i32_550 : BitVec 32 := 32#32
  let c0_i32_551 : BitVec 32 := 0#32
  let v796 : BitVec 1 := Scalar.cmpi .eq c32_i32_550 c0_i32_551
  let c1_i32_552 : BitVec 32 := 1#32
  let v797 : BitVec 32 := Scalar.select v796 c1_i32_552 c32_i32_550
  let v798 : BitVec 32 := Scalar.remsi v795 v797
  let c0_i32_554 : BitVec 32 := 0#32
  let v800 : BitVec 1 := Scalar.cmpi .slt v798 c0_i32_554
  let c0_i32_555 : BitVec 32 := 0#32
  let v801 : BitVec 1 := Scalar.cmpi .slt v797 c0_i32_555
  let v802 : BitVec 1 := Scalar.xori v800 v801
  let c0_i32_553 : BitVec 32 := 0#32
  let v799 : BitVec 1 := Scalar.cmpi .ne v798 c0_i32_553
  let v803 : BitVec 1 := Scalar.andi v802 v799
  let v804 : BitVec 32 := Scalar.addi v798 v797
  let v805 : BitVec 32 := Scalar.select v803 v804 v798
  let c1_i32_558 : BitVec 32 := 1#32
  let v807 : BitVec 32 := Scalar.muli v805 c1_i32_558
  let v808 : BitVec 32 := Scalar.addi c0_i32_559 v807
  v808.toNat
def k0_dev43 (d0 : Dev nD) : Nat :=
  let c0_i32_573 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_563 : BitVec 32 := 12#32
  let v816 : BitVec 32 := Scalar.addi v2 c12_i32_563
  let c32_i32_564 : BitVec 32 := 32#32
  let c0_i32_565 : BitVec 32 := 0#32
  let v817 : BitVec 1 := Scalar.cmpi .eq c32_i32_564 c0_i32_565
  let c1_i32_566 : BitVec 32 := 1#32
  let v818 : BitVec 32 := Scalar.select v817 c1_i32_566 c32_i32_564
  let v819 : BitVec 32 := Scalar.remsi v816 v818
  let c0_i32_568 : BitVec 32 := 0#32
  let v821 : BitVec 1 := Scalar.cmpi .slt v819 c0_i32_568
  let c0_i32_569 : BitVec 32 := 0#32
  let v822 : BitVec 1 := Scalar.cmpi .slt v818 c0_i32_569
  let v823 : BitVec 1 := Scalar.xori v821 v822
  let c0_i32_567 : BitVec 32 := 0#32
  let v820 : BitVec 1 := Scalar.cmpi .ne v819 c0_i32_567
  let v824 : BitVec 1 := Scalar.andi v823 v820
  let v825 : BitVec 32 := Scalar.addi v819 v818
  let v826 : BitVec 32 := Scalar.select v824 v825 v819
  let c1_i32_572 : BitVec 32 := 1#32
  let v828 : BitVec 32 := Scalar.muli v826 c1_i32_572
  let v829 : BitVec 32 := Scalar.addi c0_i32_573 v828
  v829.toNat
def k0_dev44 (d0 : Dev nD) : Nat :=
  let c0_i32_587 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_577 : BitVec 32 := 13#32
  let v837 : BitVec 32 := Scalar.addi v2 c13_i32_577
  let c32_i32_578 : BitVec 32 := 32#32
  let c0_i32_579 : BitVec 32 := 0#32
  let v838 : BitVec 1 := Scalar.cmpi .eq c32_i32_578 c0_i32_579
  let c1_i32_580 : BitVec 32 := 1#32
  let v839 : BitVec 32 := Scalar.select v838 c1_i32_580 c32_i32_578
  let v840 : BitVec 32 := Scalar.remsi v837 v839
  let c0_i32_582 : BitVec 32 := 0#32
  let v842 : BitVec 1 := Scalar.cmpi .slt v840 c0_i32_582
  let c0_i32_583 : BitVec 32 := 0#32
  let v843 : BitVec 1 := Scalar.cmpi .slt v839 c0_i32_583
  let v844 : BitVec 1 := Scalar.xori v842 v843
  let c0_i32_581 : BitVec 32 := 0#32
  let v841 : BitVec 1 := Scalar.cmpi .ne v840 c0_i32_581
  let v845 : BitVec 1 := Scalar.andi v844 v841
  let v846 : BitVec 32 := Scalar.addi v840 v839
  let v847 : BitVec 32 := Scalar.select v845 v846 v840
  let c1_i32_586 : BitVec 32 := 1#32
  let v849 : BitVec 32 := Scalar.muli v847 c1_i32_586
  let v850 : BitVec 32 := Scalar.addi c0_i32_587 v849
  v850.toNat
def k0_dev45 (d0 : Dev nD) : Nat :=
  let c0_i32_601 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_591 : BitVec 32 := 14#32
  let v858 : BitVec 32 := Scalar.addi v2 c14_i32_591
  let c32_i32_592 : BitVec 32 := 32#32
  let c0_i32_593 : BitVec 32 := 0#32
  let v859 : BitVec 1 := Scalar.cmpi .eq c32_i32_592 c0_i32_593
  let c1_i32_594 : BitVec 32 := 1#32
  let v860 : BitVec 32 := Scalar.select v859 c1_i32_594 c32_i32_592
  let v861 : BitVec 32 := Scalar.remsi v858 v860
  let c0_i32_596 : BitVec 32 := 0#32
  let v863 : BitVec 1 := Scalar.cmpi .slt v861 c0_i32_596
  let c0_i32_597 : BitVec 32 := 0#32
  let v864 : BitVec 1 := Scalar.cmpi .slt v860 c0_i32_597
  let v865 : BitVec 1 := Scalar.xori v863 v864
  let c0_i32_595 : BitVec 32 := 0#32
  let v862 : BitVec 1 := Scalar.cmpi .ne v861 c0_i32_595
  let v866 : BitVec 1 := Scalar.andi v865 v862
  let v867 : BitVec 32 := Scalar.addi v861 v860
  let v868 : BitVec 32 := Scalar.select v866 v867 v861
  let c1_i32_600 : BitVec 32 := 1#32
  let v870 : BitVec 32 := Scalar.muli v868 c1_i32_600
  let v871 : BitVec 32 := Scalar.addi c0_i32_601 v870
  v871.toNat
def k0_dev46 (d0 : Dev nD) : Nat :=
  let c0_i32_615 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_605 : BitVec 32 := 15#32
  let v879 : BitVec 32 := Scalar.addi v2 c15_i32_605
  let c32_i32_606 : BitVec 32 := 32#32
  let c0_i32_607 : BitVec 32 := 0#32
  let v880 : BitVec 1 := Scalar.cmpi .eq c32_i32_606 c0_i32_607
  let c1_i32_608 : BitVec 32 := 1#32
  let v881 : BitVec 32 := Scalar.select v880 c1_i32_608 c32_i32_606
  let v882 : BitVec 32 := Scalar.remsi v879 v881
  let c0_i32_610 : BitVec 32 := 0#32
  let v884 : BitVec 1 := Scalar.cmpi .slt v882 c0_i32_610
  let c0_i32_611 : BitVec 32 := 0#32
  let v885 : BitVec 1 := Scalar.cmpi .slt v881 c0_i32_611
  let v886 : BitVec 1 := Scalar.xori v884 v885
  let c0_i32_609 : BitVec 32 := 0#32
  let v883 : BitVec 1 := Scalar.cmpi .ne v882 c0_i32_609
  let v887 : BitVec 1 := Scalar.andi v886 v883
  let v888 : BitVec 32 := Scalar.addi v882 v881
  let v889 : BitVec 32 := Scalar.select v887 v888 v882
  let c1_i32_614 : BitVec 32 := 1#32
  let v891 : BitVec 32 := Scalar.muli v889 c1_i32_614
  let v892 : BitVec 32 := Scalar.addi c0_i32_615 v891
  v892.toNat
def k0_dev47 (d0 : Dev nD) : Nat :=
  let c0_i32_629 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_619 : BitVec 32 := 16#32
  let v900 : BitVec 32 := Scalar.addi v2 c16_i32_619
  let c32_i32_620 : BitVec 32 := 32#32
  let c0_i32_621 : BitVec 32 := 0#32
  let v901 : BitVec 1 := Scalar.cmpi .eq c32_i32_620 c0_i32_621
  let c1_i32_622 : BitVec 32 := 1#32
  let v902 : BitVec 32 := Scalar.select v901 c1_i32_622 c32_i32_620
  let v903 : BitVec 32 := Scalar.remsi v900 v902
  let c0_i32_624 : BitVec 32 := 0#32
  let v905 : BitVec 1 := Scalar.cmpi .slt v903 c0_i32_624
  let c0_i32_625 : BitVec 32 := 0#32
  let v906 : BitVec 1 := Scalar.cmpi .slt v902 c0_i32_625
  let v907 : BitVec 1 := Scalar.xori v905 v906
  let c0_i32_623 : BitVec 32 := 0#32
  let v904 : BitVec 1 := Scalar.cmpi .ne v903 c0_i32_623
  let v908 : BitVec 1 := Scalar.andi v907 v904
  let v909 : BitVec 32 := Scalar.addi v903 v902
  let v910 : BitVec 32 := Scalar.select v908 v909 v903
  let c1_i32_628 : BitVec 32 := 1#32
  let v912 : BitVec 32 := Scalar.muli v910 c1_i32_628
  let v913 : BitVec 32 := Scalar.addi c0_i32_629 v912
  v913.toNat
def k0_dev48 (d0 : Dev nD) : Nat :=
  let c0_i32_643 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_633 : BitVec 32 := 17#32
  let v921 : BitVec 32 := Scalar.addi v2 c17_i32_633
  let c32_i32_634 : BitVec 32 := 32#32
  let c0_i32_635 : BitVec 32 := 0#32
  let v922 : BitVec 1 := Scalar.cmpi .eq c32_i32_634 c0_i32_635
  let c1_i32_636 : BitVec 32 := 1#32
  let v923 : BitVec 32 := Scalar.select v922 c1_i32_636 c32_i32_634
  let v924 : BitVec 32 := Scalar.remsi v921 v923
  let c0_i32_638 : BitVec 32 := 0#32
  let v926 : BitVec 1 := Scalar.cmpi .slt v924 c0_i32_638
  let c0_i32_639 : BitVec 32 := 0#32
  let v927 : BitVec 1 := Scalar.cmpi .slt v923 c0_i32_639
  let v928 : BitVec 1 := Scalar.xori v926 v927
  let c0_i32_637 : BitVec 32 := 0#32
  let v925 : BitVec 1 := Scalar.cmpi .ne v924 c0_i32_637
  let v929 : BitVec 1 := Scalar.andi v928 v925
  let v930 : BitVec 32 := Scalar.addi v924 v923
  let v931 : BitVec 32 := Scalar.select v929 v930 v924
  let c1_i32_642 : BitVec 32 := 1#32
  let v933 : BitVec 32 := Scalar.muli v931 c1_i32_642
  let v934 : BitVec 32 := Scalar.addi c0_i32_643 v933
  v934.toNat
def k0_dev49 (d0 : Dev nD) : Nat :=
  let c0_i32_657 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_647 : BitVec 32 := 18#32
  let v942 : BitVec 32 := Scalar.addi v2 c18_i32_647
  let c32_i32_648 : BitVec 32 := 32#32
  let c0_i32_649 : BitVec 32 := 0#32
  let v943 : BitVec 1 := Scalar.cmpi .eq c32_i32_648 c0_i32_649
  let c1_i32_650 : BitVec 32 := 1#32
  let v944 : BitVec 32 := Scalar.select v943 c1_i32_650 c32_i32_648
  let v945 : BitVec 32 := Scalar.remsi v942 v944
  let c0_i32_652 : BitVec 32 := 0#32
  let v947 : BitVec 1 := Scalar.cmpi .slt v945 c0_i32_652
  let c0_i32_653 : BitVec 32 := 0#32
  let v948 : BitVec 1 := Scalar.cmpi .slt v944 c0_i32_653
  let v949 : BitVec 1 := Scalar.xori v947 v948
  let c0_i32_651 : BitVec 32 := 0#32
  let v946 : BitVec 1 := Scalar.cmpi .ne v945 c0_i32_651
  let v950 : BitVec 1 := Scalar.andi v949 v946
  let v951 : BitVec 32 := Scalar.addi v945 v944
  let v952 : BitVec 32 := Scalar.select v950 v951 v945
  let c1_i32_656 : BitVec 32 := 1#32
  let v954 : BitVec 32 := Scalar.muli v952 c1_i32_656
  let v955 : BitVec 32 := Scalar.addi c0_i32_657 v954
  v955.toNat
def k0_dev50 (d0 : Dev nD) : Nat :=
  let c0_i32_671 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_661 : BitVec 32 := 19#32
  let v963 : BitVec 32 := Scalar.addi v2 c19_i32_661
  let c32_i32_662 : BitVec 32 := 32#32
  let c0_i32_663 : BitVec 32 := 0#32
  let v964 : BitVec 1 := Scalar.cmpi .eq c32_i32_662 c0_i32_663
  let c1_i32_664 : BitVec 32 := 1#32
  let v965 : BitVec 32 := Scalar.select v964 c1_i32_664 c32_i32_662
  let v966 : BitVec 32 := Scalar.remsi v963 v965
  let c0_i32_666 : BitVec 32 := 0#32
  let v968 : BitVec 1 := Scalar.cmpi .slt v966 c0_i32_666
  let c0_i32_667 : BitVec 32 := 0#32
  let v969 : BitVec 1 := Scalar.cmpi .slt v965 c0_i32_667
  let v970 : BitVec 1 := Scalar.xori v968 v969
  let c0_i32_665 : BitVec 32 := 0#32
  let v967 : BitVec 1 := Scalar.cmpi .ne v966 c0_i32_665
  let v971 : BitVec 1 := Scalar.andi v970 v967
  let v972 : BitVec 32 := Scalar.addi v966 v965
  let v973 : BitVec 32 := Scalar.select v971 v972 v966
  let c1_i32_670 : BitVec 32 := 1#32
  let v975 : BitVec 32 := Scalar.muli v973 c1_i32_670
  let v976 : BitVec 32 := Scalar.addi c0_i32_671 v975
  v976.toNat
def k0_dev51 (d0 : Dev nD) : Nat :=
  let c0_i32_685 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_675 : BitVec 32 := 20#32
  let v984 : BitVec 32 := Scalar.addi v2 c20_i32_675
  let c32_i32_676 : BitVec 32 := 32#32
  let c0_i32_677 : BitVec 32 := 0#32
  let v985 : BitVec 1 := Scalar.cmpi .eq c32_i32_676 c0_i32_677
  let c1_i32_678 : BitVec 32 := 1#32
  let v986 : BitVec 32 := Scalar.select v985 c1_i32_678 c32_i32_676
  let v987 : BitVec 32 := Scalar.remsi v984 v986
  let c0_i32_680 : BitVec 32 := 0#32
  let v989 : BitVec 1 := Scalar.cmpi .slt v987 c0_i32_680
  let c0_i32_681 : BitVec 32 := 0#32
  let v990 : BitVec 1 := Scalar.cmpi .slt v986 c0_i32_681
  let v991 : BitVec 1 := Scalar.xori v989 v990
  let c0_i32_679 : BitVec 32 := 0#32
  let v988 : BitVec 1 := Scalar.cmpi .ne v987 c0_i32_679
  let v992 : BitVec 1 := Scalar.andi v991 v988
  let v993 : BitVec 32 := Scalar.addi v987 v986
  let v994 : BitVec 32 := Scalar.select v992 v993 v987
  let c1_i32_684 : BitVec 32 := 1#32
  let v996 : BitVec 32 := Scalar.muli v994 c1_i32_684
  let v997 : BitVec 32 := Scalar.addi c0_i32_685 v996
  v997.toNat
def k0_dev52 (d0 : Dev nD) : Nat :=
  let c0_i32_699 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_689 : BitVec 32 := 21#32
  let v1005 : BitVec 32 := Scalar.addi v2 c21_i32_689
  let c32_i32_690 : BitVec 32 := 32#32
  let c0_i32_691 : BitVec 32 := 0#32
  let v1006 : BitVec 1 := Scalar.cmpi .eq c32_i32_690 c0_i32_691
  let c1_i32_692 : BitVec 32 := 1#32
  let v1007 : BitVec 32 := Scalar.select v1006 c1_i32_692 c32_i32_690
  let v1008 : BitVec 32 := Scalar.remsi v1005 v1007
  let c0_i32_694 : BitVec 32 := 0#32
  let v1010 : BitVec 1 := Scalar.cmpi .slt v1008 c0_i32_694
  let c0_i32_695 : BitVec 32 := 0#32
  let v1011 : BitVec 1 := Scalar.cmpi .slt v1007 c0_i32_695
  let v1012 : BitVec 1 := Scalar.xori v1010 v1011
  let c0_i32_693 : BitVec 32 := 0#32
  let v1009 : BitVec 1 := Scalar.cmpi .ne v1008 c0_i32_693
  let v1013 : BitVec 1 := Scalar.andi v1012 v1009
  let v1014 : BitVec 32 := Scalar.addi v1008 v1007
  let v1015 : BitVec 32 := Scalar.select v1013 v1014 v1008
  let c1_i32_698 : BitVec 32 := 1#32
  let v1017 : BitVec 32 := Scalar.muli v1015 c1_i32_698
  let v1018 : BitVec 32 := Scalar.addi c0_i32_699 v1017
  v1018.toNat
def k0_dev53 (d0 : Dev nD) : Nat :=
  let c0_i32_713 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_703 : BitVec 32 := 22#32
  let v1026 : BitVec 32 := Scalar.addi v2 c22_i32_703
  let c32_i32_704 : BitVec 32 := 32#32
  let c0_i32_705 : BitVec 32 := 0#32
  let v1027 : BitVec 1 := Scalar.cmpi .eq c32_i32_704 c0_i32_705
  let c1_i32_706 : BitVec 32 := 1#32
  let v1028 : BitVec 32 := Scalar.select v1027 c1_i32_706 c32_i32_704
  let v1029 : BitVec 32 := Scalar.remsi v1026 v1028
  let c0_i32_708 : BitVec 32 := 0#32
  let v1031 : BitVec 1 := Scalar.cmpi .slt v1029 c0_i32_708
  let c0_i32_709 : BitVec 32 := 0#32
  let v1032 : BitVec 1 := Scalar.cmpi .slt v1028 c0_i32_709
  let v1033 : BitVec 1 := Scalar.xori v1031 v1032
  let c0_i32_707 : BitVec 32 := 0#32
  let v1030 : BitVec 1 := Scalar.cmpi .ne v1029 c0_i32_707
  let v1034 : BitVec 1 := Scalar.andi v1033 v1030
  let v1035 : BitVec 32 := Scalar.addi v1029 v1028
  let v1036 : BitVec 32 := Scalar.select v1034 v1035 v1029
  let c1_i32_712 : BitVec 32 := 1#32
  let v1038 : BitVec 32 := Scalar.muli v1036 c1_i32_712
  let v1039 : BitVec 32 := Scalar.addi c0_i32_713 v1038
  v1039.toNat
def k0_dev54 (d0 : Dev nD) : Nat :=
  let c0_i32_727 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_717 : BitVec 32 := 23#32
  let v1047 : BitVec 32 := Scalar.addi v2 c23_i32_717
  let c32_i32_718 : BitVec 32 := 32#32
  let c0_i32_719 : BitVec 32 := 0#32
  let v1048 : BitVec 1 := Scalar.cmpi .eq c32_i32_718 c0_i32_719
  let c1_i32_720 : BitVec 32 := 1#32
  let v1049 : BitVec 32 := Scalar.select v1048 c1_i32_720 c32_i32_718
  let v1050 : BitVec 32 := Scalar.remsi v1047 v1049
  let c0_i32_722 : BitVec 32 := 0#32
  let v1052 : BitVec 1 := Scalar.cmpi .slt v1050 c0_i32_722
  let c0_i32_723 : BitVec 32 := 0#32
  let v1053 : BitVec 1 := Scalar.cmpi .slt v1049 c0_i32_723
  let v1054 : BitVec 1 := Scalar.xori v1052 v1053
  let c0_i32_721 : BitVec 32 := 0#32
  let v1051 : BitVec 1 := Scalar.cmpi .ne v1050 c0_i32_721
  let v1055 : BitVec 1 := Scalar.andi v1054 v1051
  let v1056 : BitVec 32 := Scalar.addi v1050 v1049
  let v1057 : BitVec 32 := Scalar.select v1055 v1056 v1050
  let c1_i32_726 : BitVec 32 := 1#32
  let v1059 : BitVec 32 := Scalar.muli v1057 c1_i32_726
  let v1060 : BitVec 32 := Scalar.addi c0_i32_727 v1059
  v1060.toNat
def k0_dev55 (d0 : Dev nD) : Nat :=
  let c0_i32_741 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_731 : BitVec 32 := 24#32
  let v1068 : BitVec 32 := Scalar.addi v2 c24_i32_731
  let c32_i32_732 : BitVec 32 := 32#32
  let c0_i32_733 : BitVec 32 := 0#32
  let v1069 : BitVec 1 := Scalar.cmpi .eq c32_i32_732 c0_i32_733
  let c1_i32_734 : BitVec 32 := 1#32
  let v1070 : BitVec 32 := Scalar.select v1069 c1_i32_734 c32_i32_732
  let v1071 : BitVec 32 := Scalar.remsi v1068 v1070
  let c0_i32_736 : BitVec 32 := 0#32
  let v1073 : BitVec 1 := Scalar.cmpi .slt v1071 c0_i32_736
  let c0_i32_737 : BitVec 32 := 0#32
  let v1074 : BitVec 1 := Scalar.cmpi .slt v1070 c0_i32_737
  let v1075 : BitVec 1 := Scalar.xori v1073 v1074
  let c0_i32_735 : BitVec 32 := 0#32
  let v1072 : BitVec 1 := Scalar.cmpi .ne v1071 c0_i32_735
  let v1076 : BitVec 1 := Scalar.andi v1075 v1072
  let v1077 : BitVec 32 := Scalar.addi v1071 v1070
  let v1078 : BitVec 32 := Scalar.select v1076 v1077 v1071
  let c1_i32_740 : BitVec 32 := 1#32
  let v1080 : BitVec 32 := Scalar.muli v1078 c1_i32_740
  let v1081 : BitVec 32 := Scalar.addi c0_i32_741 v1080
  v1081.toNat
def k0_dev56 (d0 : Dev nD) : Nat :=
  let c0_i32_755 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_745 : BitVec 32 := 25#32
  let v1089 : BitVec 32 := Scalar.addi v2 c25_i32_745
  let c32_i32_746 : BitVec 32 := 32#32
  let c0_i32_747 : BitVec 32 := 0#32
  let v1090 : BitVec 1 := Scalar.cmpi .eq c32_i32_746 c0_i32_747
  let c1_i32_748 : BitVec 32 := 1#32
  let v1091 : BitVec 32 := Scalar.select v1090 c1_i32_748 c32_i32_746
  let v1092 : BitVec 32 := Scalar.remsi v1089 v1091
  let c0_i32_750 : BitVec 32 := 0#32
  let v1094 : BitVec 1 := Scalar.cmpi .slt v1092 c0_i32_750
  let c0_i32_751 : BitVec 32 := 0#32
  let v1095 : BitVec 1 := Scalar.cmpi .slt v1091 c0_i32_751
  let v1096 : BitVec 1 := Scalar.xori v1094 v1095
  let c0_i32_749 : BitVec 32 := 0#32
  let v1093 : BitVec 1 := Scalar.cmpi .ne v1092 c0_i32_749
  let v1097 : BitVec 1 := Scalar.andi v1096 v1093
  let v1098 : BitVec 32 := Scalar.addi v1092 v1091
  let v1099 : BitVec 32 := Scalar.select v1097 v1098 v1092
  let c1_i32_754 : BitVec 32 := 1#32
  let v1101 : BitVec 32 := Scalar.muli v1099 c1_i32_754
  let v1102 : BitVec 32 := Scalar.addi c0_i32_755 v1101
  v1102.toNat
def k0_dev57 (d0 : Dev nD) : Nat :=
  let c0_i32_769 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_759 : BitVec 32 := 26#32
  let v1110 : BitVec 32 := Scalar.addi v2 c26_i32_759
  let c32_i32_760 : BitVec 32 := 32#32
  let c0_i32_761 : BitVec 32 := 0#32
  let v1111 : BitVec 1 := Scalar.cmpi .eq c32_i32_760 c0_i32_761
  let c1_i32_762 : BitVec 32 := 1#32
  let v1112 : BitVec 32 := Scalar.select v1111 c1_i32_762 c32_i32_760
  let v1113 : BitVec 32 := Scalar.remsi v1110 v1112
  let c0_i32_764 : BitVec 32 := 0#32
  let v1115 : BitVec 1 := Scalar.cmpi .slt v1113 c0_i32_764
  let c0_i32_765 : BitVec 32 := 0#32
  let v1116 : BitVec 1 := Scalar.cmpi .slt v1112 c0_i32_765
  let v1117 : BitVec 1 := Scalar.xori v1115 v1116
  let c0_i32_763 : BitVec 32 := 0#32
  let v1114 : BitVec 1 := Scalar.cmpi .ne v1113 c0_i32_763
  let v1118 : BitVec 1 := Scalar.andi v1117 v1114
  let v1119 : BitVec 32 := Scalar.addi v1113 v1112
  let v1120 : BitVec 32 := Scalar.select v1118 v1119 v1113
  let c1_i32_768 : BitVec 32 := 1#32
  let v1122 : BitVec 32 := Scalar.muli v1120 c1_i32_768
  let v1123 : BitVec 32 := Scalar.addi c0_i32_769 v1122
  v1123.toNat
def k0_dev58 (d0 : Dev nD) : Nat :=
  let c0_i32_783 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_773 : BitVec 32 := 27#32
  let v1131 : BitVec 32 := Scalar.addi v2 c27_i32_773
  let c32_i32_774 : BitVec 32 := 32#32
  let c0_i32_775 : BitVec 32 := 0#32
  let v1132 : BitVec 1 := Scalar.cmpi .eq c32_i32_774 c0_i32_775
  let c1_i32_776 : BitVec 32 := 1#32
  let v1133 : BitVec 32 := Scalar.select v1132 c1_i32_776 c32_i32_774
  let v1134 : BitVec 32 := Scalar.remsi v1131 v1133
  let c0_i32_778 : BitVec 32 := 0#32
  let v1136 : BitVec 1 := Scalar.cmpi .slt v1134 c0_i32_778
  let c0_i32_779 : BitVec 32 := 0#32
  let v1137 : BitVec 1 := Scalar.cmpi .slt v1133 c0_i32_779
  let v1138 : BitVec 1 := Scalar.xori v1136 v1137
  let c0_i32_777 : BitVec 32 := 0#32
  let v1135 : BitVec 1 := Scalar.cmpi .ne v1134 c0_i32_777
  let v1139 : BitVec 1 := Scalar.andi v1138 v1135
  let v1140 : BitVec 32 := Scalar.addi v1134 v1133
  let v1141 : BitVec 32 := Scalar.select v1139 v1140 v1134
  let c1_i32_782 : BitVec 32 := 1#32
  let v1143 : BitVec 32 := Scalar.muli v1141 c1_i32_782
  let v1144 : BitVec 32 := Scalar.addi c0_i32_783 v1143
  v1144.toNat
def k0_dev59 (d0 : Dev nD) : Nat :=
  let c0_i32_797 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_787 : BitVec 32 := 28#32
  let v1152 : BitVec 32 := Scalar.addi v2 c28_i32_787
  let c32_i32_788 : BitVec 32 := 32#32
  let c0_i32_789 : BitVec 32 := 0#32
  let v1153 : BitVec 1 := Scalar.cmpi .eq c32_i32_788 c0_i32_789
  let c1_i32_790 : BitVec 32 := 1#32
  let v1154 : BitVec 32 := Scalar.select v1153 c1_i32_790 c32_i32_788
  let v1155 : BitVec 32 := Scalar.remsi v1152 v1154
  let c0_i32_792 : BitVec 32 := 0#32
  let v1157 : BitVec 1 := Scalar.cmpi .slt v1155 c0_i32_792
  let c0_i32_793 : BitVec 32 := 0#32
  let v1158 : BitVec 1 := Scalar.cmpi .slt v1154 c0_i32_793
  let v1159 : BitVec 1 := Scalar.xori v1157 v1158
  let c0_i32_791 : BitVec 32 := 0#32
  let v1156 : BitVec 1 := Scalar.cmpi .ne v1155 c0_i32_791
  let v1160 : BitVec 1 := Scalar.andi v1159 v1156
  let v1161 : BitVec 32 := Scalar.addi v1155 v1154
  let v1162 : BitVec 32 := Scalar.select v1160 v1161 v1155
  let c1_i32_796 : BitVec 32 := 1#32
  let v1164 : BitVec 32 := Scalar.muli v1162 c1_i32_796
  let v1165 : BitVec 32 := Scalar.addi c0_i32_797 v1164
  v1165.toNat
def k0_dev60 (d0 : Dev nD) : Nat :=
  let c0_i32_811 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_801 : BitVec 32 := 29#32
  let v1173 : BitVec 32 := Scalar.addi v2 c29_i32_801
  let c32_i32_802 : BitVec 32 := 32#32
  let c0_i32_803 : BitVec 32 := 0#32
  let v1174 : BitVec 1 := Scalar.cmpi .eq c32_i32_802 c0_i32_803
  let c1_i32_804 : BitVec 32 := 1#32
  let v1175 : BitVec 32 := Scalar.select v1174 c1_i32_804 c32_i32_802
  let v1176 : BitVec 32 := Scalar.remsi v1173 v1175
  let c0_i32_806 : BitVec 32 := 0#32
  let v1178 : BitVec 1 := Scalar.cmpi .slt v1176 c0_i32_806
  let c0_i32_807 : BitVec 32 := 0#32
  let v1179 : BitVec 1 := Scalar.cmpi .slt v1175 c0_i32_807
  let v1180 : BitVec 1 := Scalar.xori v1178 v1179
  let c0_i32_805 : BitVec 32 := 0#32
  let v1177 : BitVec 1 := Scalar.cmpi .ne v1176 c0_i32_805
  let v1181 : BitVec 1 := Scalar.andi v1180 v1177
  let v1182 : BitVec 32 := Scalar.addi v1176 v1175
  let v1183 : BitVec 32 := Scalar.select v1181 v1182 v1176
  let c1_i32_810 : BitVec 32 := 1#32
  let v1185 : BitVec 32 := Scalar.muli v1183 c1_i32_810
  let v1186 : BitVec 32 := Scalar.addi c0_i32_811 v1185
  v1186.toNat
def k0_dev61 (d0 : Dev nD) : Nat :=
  let c0_i32_825 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_815 : BitVec 32 := 30#32
  let v1194 : BitVec 32 := Scalar.addi v2 c30_i32_815
  let c32_i32_816 : BitVec 32 := 32#32
  let c0_i32_817 : BitVec 32 := 0#32
  let v1195 : BitVec 1 := Scalar.cmpi .eq c32_i32_816 c0_i32_817
  let c1_i32_818 : BitVec 32 := 1#32
  let v1196 : BitVec 32 := Scalar.select v1195 c1_i32_818 c32_i32_816
  let v1197 : BitVec 32 := Scalar.remsi v1194 v1196
  let c0_i32_820 : BitVec 32 := 0#32
  let v1199 : BitVec 1 := Scalar.cmpi .slt v1197 c0_i32_820
  let c0_i32_821 : BitVec 32 := 0#32
  let v1200 : BitVec 1 := Scalar.cmpi .slt v1196 c0_i32_821
  let v1201 : BitVec 1 := Scalar.xori v1199 v1200
  let c0_i32_819 : BitVec 32 := 0#32
  let v1198 : BitVec 1 := Scalar.cmpi .ne v1197 c0_i32_819
  let v1202 : BitVec 1 := Scalar.andi v1201 v1198
  let v1203 : BitVec 32 := Scalar.addi v1197 v1196
  let v1204 : BitVec 32 := Scalar.select v1202 v1203 v1197
  let c1_i32_824 : BitVec 32 := 1#32
  let v1206 : BitVec 32 := Scalar.muli v1204 c1_i32_824
  let v1207 : BitVec 32 := Scalar.addi c0_i32_825 v1206
  v1207.toNat
def k0_dev62 (d0 : Dev nD) : Nat :=
  let c0_i32_839 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_829 : BitVec 32 := 31#32
  let v1215 : BitVec 32 := Scalar.addi v2 c31_i32_829
  let c32_i32_830 : BitVec 32 := 32#32
  let c0_i32_831 : BitVec 32 := 0#32
  let v1216 : BitVec 1 := Scalar.cmpi .eq c32_i32_830 c0_i32_831
  let c1_i32_832 : BitVec 32 := 1#32
  let v1217 : BitVec 32 := Scalar.select v1216 c1_i32_832 c32_i32_830
  let v1218 : BitVec 32 := Scalar.remsi v1215 v1217
  let c0_i32_834 : BitVec 32 := 0#32
  let v1220 : BitVec 1 := Scalar.cmpi .slt v1218 c0_i32_834
  let c0_i32_835 : BitVec 32 := 0#32
  let v1221 : BitVec 1 := Scalar.cmpi .slt v1217 c0_i32_835
  let v1222 : BitVec 1 := Scalar.xori v1220 v1221
  let c0_i32_833 : BitVec 32 := 0#32
  let v1219 : BitVec 1 := Scalar.cmpi .ne v1218 c0_i32_833
  let v1223 : BitVec 1 := Scalar.andi v1222 v1219
  let v1224 : BitVec 32 := Scalar.addi v1218 v1217
  let v1225 : BitVec 32 := Scalar.select v1223 v1224 v1218
  let c1_i32_838 : BitVec 32 := 1#32
  let v1227 : BitVec 32 := Scalar.muli v1225 c1_i32_838
  let v1228 : BitVec 32 := Scalar.addi c0_i32_839 v1227
  v1228.toNat
def k0_off6 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_843 : BitVec 32 := 8#32
  let v1236 : BitVec 32 := Scalar.muli v2 c8_i32_843
  let v1237 : Index := Scalar.indexCast v1236
  let c0_844 : Index := 0#32
  ![v1237.toNat, 0]
def k0_off7 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1240 : Index := Scalar.indexCast v2
  let c0_845 : Index := 0#32
  let c0_846 : Index := 0#32
  ![v1240.toNat, 0, 0]
def k0_off8 (d0 : Dev nD) (c1_i32_847 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1244 : BitVec 32 := Scalar.addi v2 c1_i32_847
  let c32_i32_848 : BitVec 32 := 32#32
  let c0_i32_849 : BitVec 32 := 0#32
  let v1245 : BitVec 1 := Scalar.cmpi .eq c32_i32_848 c0_i32_849
  let c1_i32_850 : BitVec 32 := 1#32
  let v1246 : BitVec 32 := Scalar.select v1245 c1_i32_850 c32_i32_848
  let v1247 : BitVec 32 := Scalar.remsi v1244 v1246
  let c0_i32_852 : BitVec 32 := 0#32
  let v1249 : BitVec 1 := Scalar.cmpi .slt v1247 c0_i32_852
  let c0_i32_853 : BitVec 32 := 0#32
  let v1250 : BitVec 1 := Scalar.cmpi .slt v1246 c0_i32_853
  let v1251 : BitVec 1 := Scalar.xori v1249 v1250
  let c0_i32_851 : BitVec 32 := 0#32
  let v1248 : BitVec 1 := Scalar.cmpi .ne v1247 c0_i32_851
  let v1252 : BitVec 1 := Scalar.andi v1251 v1248
  let v1253 : BitVec 32 := Scalar.addi v1247 v1246
  let v1254 : BitVec 32 := Scalar.select v1252 v1253 v1247
  ![v1254.toNat]
def k0_off9 (d0 : Dev nD) (c1_i32_847 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1244 : BitVec 32 := Scalar.addi v2 c1_i32_847
  let c32_i32_848 : BitVec 32 := 32#32
  let c0_i32_849 : BitVec 32 := 0#32
  let v1245 : BitVec 1 := Scalar.cmpi .eq c32_i32_848 c0_i32_849
  let c1_i32_850 : BitVec 32 := 1#32
  let v1246 : BitVec 32 := Scalar.select v1245 c1_i32_850 c32_i32_848
  let v1247 : BitVec 32 := Scalar.remsi v1244 v1246
  let c0_i32_852 : BitVec 32 := 0#32
  let v1249 : BitVec 1 := Scalar.cmpi .slt v1247 c0_i32_852
  let c0_i32_853 : BitVec 32 := 0#32
  let v1250 : BitVec 1 := Scalar.cmpi .slt v1246 c0_i32_853
  let v1251 : BitVec 1 := Scalar.xori v1249 v1250
  let c0_i32_851 : BitVec 32 := 0#32
  let v1248 : BitVec 1 := Scalar.cmpi .ne v1247 c0_i32_851
  let v1252 : BitVec 1 := Scalar.andi v1251 v1248
  let v1253 : BitVec 32 := Scalar.addi v1247 v1246
  let v1254 : BitVec 32 := Scalar.select v1252 v1253 v1247
  let c0_i32_857 : BitVec 32 := 0#32
  let c0_i32_858 : BitVec 32 := 0#32
  ![v1254.toNat, 0, 0]
def k0_off10 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1295 : BitVec 32 := 8#32
  let v1852 : BitVec 32 := Scalar.muli v2 c8_i32_1295
  let c0_i32_1299 : BitVec 32 := 0#32
  ![v1852.toNat, 0]
def k0_dev63 (d0 : Dev nD) : Nat :=
  let c0_i32_1298 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1287 : BitVec 32 := 1#32
  let v1840 : BitVec 32 := Scalar.addi v2 c1_i32_1287
  let c32_i32_1288 : BitVec 32 := 32#32
  let c0_i32_1289 : BitVec 32 := 0#32
  let v1841 : BitVec 1 := Scalar.cmpi .eq c32_i32_1288 c0_i32_1289
  let c1_i32_1290 : BitVec 32 := 1#32
  let v1842 : BitVec 32 := Scalar.select v1841 c1_i32_1290 c32_i32_1288
  let v1843 : BitVec 32 := Scalar.remsi v1840 v1842
  let c0_i32_1292 : BitVec 32 := 0#32
  let v1845 : BitVec 1 := Scalar.cmpi .slt v1843 c0_i32_1292
  let c0_i32_1293 : BitVec 32 := 0#32
  let v1846 : BitVec 1 := Scalar.cmpi .slt v1842 c0_i32_1293
  let v1847 : BitVec 1 := Scalar.xori v1845 v1846
  let c0_i32_1291 : BitVec 32 := 0#32
  let v1844 : BitVec 1 := Scalar.cmpi .ne v1843 c0_i32_1291
  let v1848 : BitVec 1 := Scalar.andi v1847 v1844
  let v1849 : BitVec 32 := Scalar.addi v1843 v1842
  let v1850 : BitVec 32 := Scalar.select v1848 v1849 v1843
  let c1_i32_1297 : BitVec 32 := 1#32
  let v1853 : BitVec 32 := Scalar.muli v1850 c1_i32_1297
  let v1854 : BitVec 32 := Scalar.addi c0_i32_1298 v1853
  v1854.toNat
def k0_dev64 (d0 : Dev nD) : Nat :=
  let c0_i32_1312 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1301 : BitVec 32 := 2#32
  let v1861 : BitVec 32 := Scalar.addi v2 c2_i32_1301
  let c32_i32_1302 : BitVec 32 := 32#32
  let c0_i32_1303 : BitVec 32 := 0#32
  let v1862 : BitVec 1 := Scalar.cmpi .eq c32_i32_1302 c0_i32_1303
  let c1_i32_1304 : BitVec 32 := 1#32
  let v1863 : BitVec 32 := Scalar.select v1862 c1_i32_1304 c32_i32_1302
  let v1864 : BitVec 32 := Scalar.remsi v1861 v1863
  let c0_i32_1306 : BitVec 32 := 0#32
  let v1866 : BitVec 1 := Scalar.cmpi .slt v1864 c0_i32_1306
  let c0_i32_1307 : BitVec 32 := 0#32
  let v1867 : BitVec 1 := Scalar.cmpi .slt v1863 c0_i32_1307
  let v1868 : BitVec 1 := Scalar.xori v1866 v1867
  let c0_i32_1305 : BitVec 32 := 0#32
  let v1865 : BitVec 1 := Scalar.cmpi .ne v1864 c0_i32_1305
  let v1869 : BitVec 1 := Scalar.andi v1868 v1865
  let v1870 : BitVec 32 := Scalar.addi v1864 v1863
  let v1871 : BitVec 32 := Scalar.select v1869 v1870 v1864
  let c1_i32_1311 : BitVec 32 := 1#32
  let v1874 : BitVec 32 := Scalar.muli v1871 c1_i32_1311
  let v1875 : BitVec 32 := Scalar.addi c0_i32_1312 v1874
  v1875.toNat
def k0_dev65 (d0 : Dev nD) : Nat :=
  let c0_i32_1326 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1315 : BitVec 32 := 3#32
  let v1882 : BitVec 32 := Scalar.addi v2 c3_i32_1315
  let c32_i32_1316 : BitVec 32 := 32#32
  let c0_i32_1317 : BitVec 32 := 0#32
  let v1883 : BitVec 1 := Scalar.cmpi .eq c32_i32_1316 c0_i32_1317
  let c1_i32_1318 : BitVec 32 := 1#32
  let v1884 : BitVec 32 := Scalar.select v1883 c1_i32_1318 c32_i32_1316
  let v1885 : BitVec 32 := Scalar.remsi v1882 v1884
  let c0_i32_1320 : BitVec 32 := 0#32
  let v1887 : BitVec 1 := Scalar.cmpi .slt v1885 c0_i32_1320
  let c0_i32_1321 : BitVec 32 := 0#32
  let v1888 : BitVec 1 := Scalar.cmpi .slt v1884 c0_i32_1321
  let v1889 : BitVec 1 := Scalar.xori v1887 v1888
  let c0_i32_1319 : BitVec 32 := 0#32
  let v1886 : BitVec 1 := Scalar.cmpi .ne v1885 c0_i32_1319
  let v1890 : BitVec 1 := Scalar.andi v1889 v1886
  let v1891 : BitVec 32 := Scalar.addi v1885 v1884
  let v1892 : BitVec 32 := Scalar.select v1890 v1891 v1885
  let c1_i32_1325 : BitVec 32 := 1#32
  let v1895 : BitVec 32 := Scalar.muli v1892 c1_i32_1325
  let v1896 : BitVec 32 := Scalar.addi c0_i32_1326 v1895
  v1896.toNat
def k0_dev66 (d0 : Dev nD) : Nat :=
  let c0_i32_1340 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1329 : BitVec 32 := 4#32
  let v1903 : BitVec 32 := Scalar.addi v2 c4_i32_1329
  let c32_i32_1330 : BitVec 32 := 32#32
  let c0_i32_1331 : BitVec 32 := 0#32
  let v1904 : BitVec 1 := Scalar.cmpi .eq c32_i32_1330 c0_i32_1331
  let c1_i32_1332 : BitVec 32 := 1#32
  let v1905 : BitVec 32 := Scalar.select v1904 c1_i32_1332 c32_i32_1330
  let v1906 : BitVec 32 := Scalar.remsi v1903 v1905
  let c0_i32_1334 : BitVec 32 := 0#32
  let v1908 : BitVec 1 := Scalar.cmpi .slt v1906 c0_i32_1334
  let c0_i32_1335 : BitVec 32 := 0#32
  let v1909 : BitVec 1 := Scalar.cmpi .slt v1905 c0_i32_1335
  let v1910 : BitVec 1 := Scalar.xori v1908 v1909
  let c0_i32_1333 : BitVec 32 := 0#32
  let v1907 : BitVec 1 := Scalar.cmpi .ne v1906 c0_i32_1333
  let v1911 : BitVec 1 := Scalar.andi v1910 v1907
  let v1912 : BitVec 32 := Scalar.addi v1906 v1905
  let v1913 : BitVec 32 := Scalar.select v1911 v1912 v1906
  let c1_i32_1339 : BitVec 32 := 1#32
  let v1916 : BitVec 32 := Scalar.muli v1913 c1_i32_1339
  let v1917 : BitVec 32 := Scalar.addi c0_i32_1340 v1916
  v1917.toNat
def k0_dev67 (d0 : Dev nD) : Nat :=
  let c0_i32_1354 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1343 : BitVec 32 := 5#32
  let v1924 : BitVec 32 := Scalar.addi v2 c5_i32_1343
  let c32_i32_1344 : BitVec 32 := 32#32
  let c0_i32_1345 : BitVec 32 := 0#32
  let v1925 : BitVec 1 := Scalar.cmpi .eq c32_i32_1344 c0_i32_1345
  let c1_i32_1346 : BitVec 32 := 1#32
  let v1926 : BitVec 32 := Scalar.select v1925 c1_i32_1346 c32_i32_1344
  let v1927 : BitVec 32 := Scalar.remsi v1924 v1926
  let c0_i32_1348 : BitVec 32 := 0#32
  let v1929 : BitVec 1 := Scalar.cmpi .slt v1927 c0_i32_1348
  let c0_i32_1349 : BitVec 32 := 0#32
  let v1930 : BitVec 1 := Scalar.cmpi .slt v1926 c0_i32_1349
  let v1931 : BitVec 1 := Scalar.xori v1929 v1930
  let c0_i32_1347 : BitVec 32 := 0#32
  let v1928 : BitVec 1 := Scalar.cmpi .ne v1927 c0_i32_1347
  let v1932 : BitVec 1 := Scalar.andi v1931 v1928
  let v1933 : BitVec 32 := Scalar.addi v1927 v1926
  let v1934 : BitVec 32 := Scalar.select v1932 v1933 v1927
  let c1_i32_1353 : BitVec 32 := 1#32
  let v1937 : BitVec 32 := Scalar.muli v1934 c1_i32_1353
  let v1938 : BitVec 32 := Scalar.addi c0_i32_1354 v1937
  v1938.toNat
def k0_dev68 (d0 : Dev nD) : Nat :=
  let c0_i32_1368 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1357 : BitVec 32 := 6#32
  let v1945 : BitVec 32 := Scalar.addi v2 c6_i32_1357
  let c32_i32_1358 : BitVec 32 := 32#32
  let c0_i32_1359 : BitVec 32 := 0#32
  let v1946 : BitVec 1 := Scalar.cmpi .eq c32_i32_1358 c0_i32_1359
  let c1_i32_1360 : BitVec 32 := 1#32
  let v1947 : BitVec 32 := Scalar.select v1946 c1_i32_1360 c32_i32_1358
  let v1948 : BitVec 32 := Scalar.remsi v1945 v1947
  let c0_i32_1362 : BitVec 32 := 0#32
  let v1950 : BitVec 1 := Scalar.cmpi .slt v1948 c0_i32_1362
  let c0_i32_1363 : BitVec 32 := 0#32
  let v1951 : BitVec 1 := Scalar.cmpi .slt v1947 c0_i32_1363
  let v1952 : BitVec 1 := Scalar.xori v1950 v1951
  let c0_i32_1361 : BitVec 32 := 0#32
  let v1949 : BitVec 1 := Scalar.cmpi .ne v1948 c0_i32_1361
  let v1953 : BitVec 1 := Scalar.andi v1952 v1949
  let v1954 : BitVec 32 := Scalar.addi v1948 v1947
  let v1955 : BitVec 32 := Scalar.select v1953 v1954 v1948
  let c1_i32_1367 : BitVec 32 := 1#32
  let v1958 : BitVec 32 := Scalar.muli v1955 c1_i32_1367
  let v1959 : BitVec 32 := Scalar.addi c0_i32_1368 v1958
  v1959.toNat
def k0_dev69 (d0 : Dev nD) : Nat :=
  let c0_i32_1382 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1371 : BitVec 32 := 7#32
  let v1966 : BitVec 32 := Scalar.addi v2 c7_i32_1371
  let c32_i32_1372 : BitVec 32 := 32#32
  let c0_i32_1373 : BitVec 32 := 0#32
  let v1967 : BitVec 1 := Scalar.cmpi .eq c32_i32_1372 c0_i32_1373
  let c1_i32_1374 : BitVec 32 := 1#32
  let v1968 : BitVec 32 := Scalar.select v1967 c1_i32_1374 c32_i32_1372
  let v1969 : BitVec 32 := Scalar.remsi v1966 v1968
  let c0_i32_1376 : BitVec 32 := 0#32
  let v1971 : BitVec 1 := Scalar.cmpi .slt v1969 c0_i32_1376
  let c0_i32_1377 : BitVec 32 := 0#32
  let v1972 : BitVec 1 := Scalar.cmpi .slt v1968 c0_i32_1377
  let v1973 : BitVec 1 := Scalar.xori v1971 v1972
  let c0_i32_1375 : BitVec 32 := 0#32
  let v1970 : BitVec 1 := Scalar.cmpi .ne v1969 c0_i32_1375
  let v1974 : BitVec 1 := Scalar.andi v1973 v1970
  let v1975 : BitVec 32 := Scalar.addi v1969 v1968
  let v1976 : BitVec 32 := Scalar.select v1974 v1975 v1969
  let c1_i32_1381 : BitVec 32 := 1#32
  let v1979 : BitVec 32 := Scalar.muli v1976 c1_i32_1381
  let v1980 : BitVec 32 := Scalar.addi c0_i32_1382 v1979
  v1980.toNat
def k0_dev70 (d0 : Dev nD) : Nat :=
  let c0_i32_1396 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1385 : BitVec 32 := 8#32
  let v1987 : BitVec 32 := Scalar.addi v2 c8_i32_1385
  let c32_i32_1386 : BitVec 32 := 32#32
  let c0_i32_1387 : BitVec 32 := 0#32
  let v1988 : BitVec 1 := Scalar.cmpi .eq c32_i32_1386 c0_i32_1387
  let c1_i32_1388 : BitVec 32 := 1#32
  let v1989 : BitVec 32 := Scalar.select v1988 c1_i32_1388 c32_i32_1386
  let v1990 : BitVec 32 := Scalar.remsi v1987 v1989
  let c0_i32_1390 : BitVec 32 := 0#32
  let v1992 : BitVec 1 := Scalar.cmpi .slt v1990 c0_i32_1390
  let c0_i32_1391 : BitVec 32 := 0#32
  let v1993 : BitVec 1 := Scalar.cmpi .slt v1989 c0_i32_1391
  let v1994 : BitVec 1 := Scalar.xori v1992 v1993
  let c0_i32_1389 : BitVec 32 := 0#32
  let v1991 : BitVec 1 := Scalar.cmpi .ne v1990 c0_i32_1389
  let v1995 : BitVec 1 := Scalar.andi v1994 v1991
  let v1996 : BitVec 32 := Scalar.addi v1990 v1989
  let v1997 : BitVec 32 := Scalar.select v1995 v1996 v1990
  let c1_i32_1395 : BitVec 32 := 1#32
  let v2000 : BitVec 32 := Scalar.muli v1997 c1_i32_1395
  let v2001 : BitVec 32 := Scalar.addi c0_i32_1396 v2000
  v2001.toNat
def k0_dev71 (d0 : Dev nD) : Nat :=
  let c0_i32_1410 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1399 : BitVec 32 := 9#32
  let v2008 : BitVec 32 := Scalar.addi v2 c9_i32_1399
  let c32_i32_1400 : BitVec 32 := 32#32
  let c0_i32_1401 : BitVec 32 := 0#32
  let v2009 : BitVec 1 := Scalar.cmpi .eq c32_i32_1400 c0_i32_1401
  let c1_i32_1402 : BitVec 32 := 1#32
  let v2010 : BitVec 32 := Scalar.select v2009 c1_i32_1402 c32_i32_1400
  let v2011 : BitVec 32 := Scalar.remsi v2008 v2010
  let c0_i32_1404 : BitVec 32 := 0#32
  let v2013 : BitVec 1 := Scalar.cmpi .slt v2011 c0_i32_1404
  let c0_i32_1405 : BitVec 32 := 0#32
  let v2014 : BitVec 1 := Scalar.cmpi .slt v2010 c0_i32_1405
  let v2015 : BitVec 1 := Scalar.xori v2013 v2014
  let c0_i32_1403 : BitVec 32 := 0#32
  let v2012 : BitVec 1 := Scalar.cmpi .ne v2011 c0_i32_1403
  let v2016 : BitVec 1 := Scalar.andi v2015 v2012
  let v2017 : BitVec 32 := Scalar.addi v2011 v2010
  let v2018 : BitVec 32 := Scalar.select v2016 v2017 v2011
  let c1_i32_1409 : BitVec 32 := 1#32
  let v2021 : BitVec 32 := Scalar.muli v2018 c1_i32_1409
  let v2022 : BitVec 32 := Scalar.addi c0_i32_1410 v2021
  v2022.toNat
def k0_dev72 (d0 : Dev nD) : Nat :=
  let c0_i32_1424 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1413 : BitVec 32 := 10#32
  let v2029 : BitVec 32 := Scalar.addi v2 c10_i32_1413
  let c32_i32_1414 : BitVec 32 := 32#32
  let c0_i32_1415 : BitVec 32 := 0#32
  let v2030 : BitVec 1 := Scalar.cmpi .eq c32_i32_1414 c0_i32_1415
  let c1_i32_1416 : BitVec 32 := 1#32
  let v2031 : BitVec 32 := Scalar.select v2030 c1_i32_1416 c32_i32_1414
  let v2032 : BitVec 32 := Scalar.remsi v2029 v2031
  let c0_i32_1418 : BitVec 32 := 0#32
  let v2034 : BitVec 1 := Scalar.cmpi .slt v2032 c0_i32_1418
  let c0_i32_1419 : BitVec 32 := 0#32
  let v2035 : BitVec 1 := Scalar.cmpi .slt v2031 c0_i32_1419
  let v2036 : BitVec 1 := Scalar.xori v2034 v2035
  let c0_i32_1417 : BitVec 32 := 0#32
  let v2033 : BitVec 1 := Scalar.cmpi .ne v2032 c0_i32_1417
  let v2037 : BitVec 1 := Scalar.andi v2036 v2033
  let v2038 : BitVec 32 := Scalar.addi v2032 v2031
  let v2039 : BitVec 32 := Scalar.select v2037 v2038 v2032
  let c1_i32_1423 : BitVec 32 := 1#32
  let v2042 : BitVec 32 := Scalar.muli v2039 c1_i32_1423
  let v2043 : BitVec 32 := Scalar.addi c0_i32_1424 v2042
  v2043.toNat
def k0_dev73 (d0 : Dev nD) : Nat :=
  let c0_i32_1438 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1427 : BitVec 32 := 11#32
  let v2050 : BitVec 32 := Scalar.addi v2 c11_i32_1427
  let c32_i32_1428 : BitVec 32 := 32#32
  let c0_i32_1429 : BitVec 32 := 0#32
  let v2051 : BitVec 1 := Scalar.cmpi .eq c32_i32_1428 c0_i32_1429
  let c1_i32_1430 : BitVec 32 := 1#32
  let v2052 : BitVec 32 := Scalar.select v2051 c1_i32_1430 c32_i32_1428
  let v2053 : BitVec 32 := Scalar.remsi v2050 v2052
  let c0_i32_1432 : BitVec 32 := 0#32
  let v2055 : BitVec 1 := Scalar.cmpi .slt v2053 c0_i32_1432
  let c0_i32_1433 : BitVec 32 := 0#32
  let v2056 : BitVec 1 := Scalar.cmpi .slt v2052 c0_i32_1433
  let v2057 : BitVec 1 := Scalar.xori v2055 v2056
  let c0_i32_1431 : BitVec 32 := 0#32
  let v2054 : BitVec 1 := Scalar.cmpi .ne v2053 c0_i32_1431
  let v2058 : BitVec 1 := Scalar.andi v2057 v2054
  let v2059 : BitVec 32 := Scalar.addi v2053 v2052
  let v2060 : BitVec 32 := Scalar.select v2058 v2059 v2053
  let c1_i32_1437 : BitVec 32 := 1#32
  let v2063 : BitVec 32 := Scalar.muli v2060 c1_i32_1437
  let v2064 : BitVec 32 := Scalar.addi c0_i32_1438 v2063
  v2064.toNat
def k0_dev74 (d0 : Dev nD) : Nat :=
  let c0_i32_1452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1441 : BitVec 32 := 12#32
  let v2071 : BitVec 32 := Scalar.addi v2 c12_i32_1441
  let c32_i32_1442 : BitVec 32 := 32#32
  let c0_i32_1443 : BitVec 32 := 0#32
  let v2072 : BitVec 1 := Scalar.cmpi .eq c32_i32_1442 c0_i32_1443
  let c1_i32_1444 : BitVec 32 := 1#32
  let v2073 : BitVec 32 := Scalar.select v2072 c1_i32_1444 c32_i32_1442
  let v2074 : BitVec 32 := Scalar.remsi v2071 v2073
  let c0_i32_1446 : BitVec 32 := 0#32
  let v2076 : BitVec 1 := Scalar.cmpi .slt v2074 c0_i32_1446
  let c0_i32_1447 : BitVec 32 := 0#32
  let v2077 : BitVec 1 := Scalar.cmpi .slt v2073 c0_i32_1447
  let v2078 : BitVec 1 := Scalar.xori v2076 v2077
  let c0_i32_1445 : BitVec 32 := 0#32
  let v2075 : BitVec 1 := Scalar.cmpi .ne v2074 c0_i32_1445
  let v2079 : BitVec 1 := Scalar.andi v2078 v2075
  let v2080 : BitVec 32 := Scalar.addi v2074 v2073
  let v2081 : BitVec 32 := Scalar.select v2079 v2080 v2074
  let c1_i32_1451 : BitVec 32 := 1#32
  let v2084 : BitVec 32 := Scalar.muli v2081 c1_i32_1451
  let v2085 : BitVec 32 := Scalar.addi c0_i32_1452 v2084
  v2085.toNat
def k0_dev75 (d0 : Dev nD) : Nat :=
  let c0_i32_1466 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1455 : BitVec 32 := 13#32
  let v2092 : BitVec 32 := Scalar.addi v2 c13_i32_1455
  let c32_i32_1456 : BitVec 32 := 32#32
  let c0_i32_1457 : BitVec 32 := 0#32
  let v2093 : BitVec 1 := Scalar.cmpi .eq c32_i32_1456 c0_i32_1457
  let c1_i32_1458 : BitVec 32 := 1#32
  let v2094 : BitVec 32 := Scalar.select v2093 c1_i32_1458 c32_i32_1456
  let v2095 : BitVec 32 := Scalar.remsi v2092 v2094
  let c0_i32_1460 : BitVec 32 := 0#32
  let v2097 : BitVec 1 := Scalar.cmpi .slt v2095 c0_i32_1460
  let c0_i32_1461 : BitVec 32 := 0#32
  let v2098 : BitVec 1 := Scalar.cmpi .slt v2094 c0_i32_1461
  let v2099 : BitVec 1 := Scalar.xori v2097 v2098
  let c0_i32_1459 : BitVec 32 := 0#32
  let v2096 : BitVec 1 := Scalar.cmpi .ne v2095 c0_i32_1459
  let v2100 : BitVec 1 := Scalar.andi v2099 v2096
  let v2101 : BitVec 32 := Scalar.addi v2095 v2094
  let v2102 : BitVec 32 := Scalar.select v2100 v2101 v2095
  let c1_i32_1465 : BitVec 32 := 1#32
  let v2105 : BitVec 32 := Scalar.muli v2102 c1_i32_1465
  let v2106 : BitVec 32 := Scalar.addi c0_i32_1466 v2105
  v2106.toNat
def k0_dev76 (d0 : Dev nD) : Nat :=
  let c0_i32_1480 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1469 : BitVec 32 := 14#32
  let v2113 : BitVec 32 := Scalar.addi v2 c14_i32_1469
  let c32_i32_1470 : BitVec 32 := 32#32
  let c0_i32_1471 : BitVec 32 := 0#32
  let v2114 : BitVec 1 := Scalar.cmpi .eq c32_i32_1470 c0_i32_1471
  let c1_i32_1472 : BitVec 32 := 1#32
  let v2115 : BitVec 32 := Scalar.select v2114 c1_i32_1472 c32_i32_1470
  let v2116 : BitVec 32 := Scalar.remsi v2113 v2115
  let c0_i32_1474 : BitVec 32 := 0#32
  let v2118 : BitVec 1 := Scalar.cmpi .slt v2116 c0_i32_1474
  let c0_i32_1475 : BitVec 32 := 0#32
  let v2119 : BitVec 1 := Scalar.cmpi .slt v2115 c0_i32_1475
  let v2120 : BitVec 1 := Scalar.xori v2118 v2119
  let c0_i32_1473 : BitVec 32 := 0#32
  let v2117 : BitVec 1 := Scalar.cmpi .ne v2116 c0_i32_1473
  let v2121 : BitVec 1 := Scalar.andi v2120 v2117
  let v2122 : BitVec 32 := Scalar.addi v2116 v2115
  let v2123 : BitVec 32 := Scalar.select v2121 v2122 v2116
  let c1_i32_1479 : BitVec 32 := 1#32
  let v2126 : BitVec 32 := Scalar.muli v2123 c1_i32_1479
  let v2127 : BitVec 32 := Scalar.addi c0_i32_1480 v2126
  v2127.toNat
def k0_dev77 (d0 : Dev nD) : Nat :=
  let c0_i32_1494 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1483 : BitVec 32 := 15#32
  let v2134 : BitVec 32 := Scalar.addi v2 c15_i32_1483
  let c32_i32_1484 : BitVec 32 := 32#32
  let c0_i32_1485 : BitVec 32 := 0#32
  let v2135 : BitVec 1 := Scalar.cmpi .eq c32_i32_1484 c0_i32_1485
  let c1_i32_1486 : BitVec 32 := 1#32
  let v2136 : BitVec 32 := Scalar.select v2135 c1_i32_1486 c32_i32_1484
  let v2137 : BitVec 32 := Scalar.remsi v2134 v2136
  let c0_i32_1488 : BitVec 32 := 0#32
  let v2139 : BitVec 1 := Scalar.cmpi .slt v2137 c0_i32_1488
  let c0_i32_1489 : BitVec 32 := 0#32
  let v2140 : BitVec 1 := Scalar.cmpi .slt v2136 c0_i32_1489
  let v2141 : BitVec 1 := Scalar.xori v2139 v2140
  let c0_i32_1487 : BitVec 32 := 0#32
  let v2138 : BitVec 1 := Scalar.cmpi .ne v2137 c0_i32_1487
  let v2142 : BitVec 1 := Scalar.andi v2141 v2138
  let v2143 : BitVec 32 := Scalar.addi v2137 v2136
  let v2144 : BitVec 32 := Scalar.select v2142 v2143 v2137
  let c1_i32_1493 : BitVec 32 := 1#32
  let v2147 : BitVec 32 := Scalar.muli v2144 c1_i32_1493
  let v2148 : BitVec 32 := Scalar.addi c0_i32_1494 v2147
  v2148.toNat
def k0_dev78 (d0 : Dev nD) : Nat :=
  let c0_i32_1508 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1497 : BitVec 32 := 16#32
  let v2155 : BitVec 32 := Scalar.addi v2 c16_i32_1497
  let c32_i32_1498 : BitVec 32 := 32#32
  let c0_i32_1499 : BitVec 32 := 0#32
  let v2156 : BitVec 1 := Scalar.cmpi .eq c32_i32_1498 c0_i32_1499
  let c1_i32_1500 : BitVec 32 := 1#32
  let v2157 : BitVec 32 := Scalar.select v2156 c1_i32_1500 c32_i32_1498
  let v2158 : BitVec 32 := Scalar.remsi v2155 v2157
  let c0_i32_1502 : BitVec 32 := 0#32
  let v2160 : BitVec 1 := Scalar.cmpi .slt v2158 c0_i32_1502
  let c0_i32_1503 : BitVec 32 := 0#32
  let v2161 : BitVec 1 := Scalar.cmpi .slt v2157 c0_i32_1503
  let v2162 : BitVec 1 := Scalar.xori v2160 v2161
  let c0_i32_1501 : BitVec 32 := 0#32
  let v2159 : BitVec 1 := Scalar.cmpi .ne v2158 c0_i32_1501
  let v2163 : BitVec 1 := Scalar.andi v2162 v2159
  let v2164 : BitVec 32 := Scalar.addi v2158 v2157
  let v2165 : BitVec 32 := Scalar.select v2163 v2164 v2158
  let c1_i32_1507 : BitVec 32 := 1#32
  let v2168 : BitVec 32 := Scalar.muli v2165 c1_i32_1507
  let v2169 : BitVec 32 := Scalar.addi c0_i32_1508 v2168
  v2169.toNat
def k0_dev79 (d0 : Dev nD) : Nat :=
  let c0_i32_1522 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1511 : BitVec 32 := 17#32
  let v2176 : BitVec 32 := Scalar.addi v2 c17_i32_1511
  let c32_i32_1512 : BitVec 32 := 32#32
  let c0_i32_1513 : BitVec 32 := 0#32
  let v2177 : BitVec 1 := Scalar.cmpi .eq c32_i32_1512 c0_i32_1513
  let c1_i32_1514 : BitVec 32 := 1#32
  let v2178 : BitVec 32 := Scalar.select v2177 c1_i32_1514 c32_i32_1512
  let v2179 : BitVec 32 := Scalar.remsi v2176 v2178
  let c0_i32_1516 : BitVec 32 := 0#32
  let v2181 : BitVec 1 := Scalar.cmpi .slt v2179 c0_i32_1516
  let c0_i32_1517 : BitVec 32 := 0#32
  let v2182 : BitVec 1 := Scalar.cmpi .slt v2178 c0_i32_1517
  let v2183 : BitVec 1 := Scalar.xori v2181 v2182
  let c0_i32_1515 : BitVec 32 := 0#32
  let v2180 : BitVec 1 := Scalar.cmpi .ne v2179 c0_i32_1515
  let v2184 : BitVec 1 := Scalar.andi v2183 v2180
  let v2185 : BitVec 32 := Scalar.addi v2179 v2178
  let v2186 : BitVec 32 := Scalar.select v2184 v2185 v2179
  let c1_i32_1521 : BitVec 32 := 1#32
  let v2189 : BitVec 32 := Scalar.muli v2186 c1_i32_1521
  let v2190 : BitVec 32 := Scalar.addi c0_i32_1522 v2189
  v2190.toNat
def k0_dev80 (d0 : Dev nD) : Nat :=
  let c0_i32_1536 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1525 : BitVec 32 := 18#32
  let v2197 : BitVec 32 := Scalar.addi v2 c18_i32_1525
  let c32_i32_1526 : BitVec 32 := 32#32
  let c0_i32_1527 : BitVec 32 := 0#32
  let v2198 : BitVec 1 := Scalar.cmpi .eq c32_i32_1526 c0_i32_1527
  let c1_i32_1528 : BitVec 32 := 1#32
  let v2199 : BitVec 32 := Scalar.select v2198 c1_i32_1528 c32_i32_1526
  let v2200 : BitVec 32 := Scalar.remsi v2197 v2199
  let c0_i32_1530 : BitVec 32 := 0#32
  let v2202 : BitVec 1 := Scalar.cmpi .slt v2200 c0_i32_1530
  let c0_i32_1531 : BitVec 32 := 0#32
  let v2203 : BitVec 1 := Scalar.cmpi .slt v2199 c0_i32_1531
  let v2204 : BitVec 1 := Scalar.xori v2202 v2203
  let c0_i32_1529 : BitVec 32 := 0#32
  let v2201 : BitVec 1 := Scalar.cmpi .ne v2200 c0_i32_1529
  let v2205 : BitVec 1 := Scalar.andi v2204 v2201
  let v2206 : BitVec 32 := Scalar.addi v2200 v2199
  let v2207 : BitVec 32 := Scalar.select v2205 v2206 v2200
  let c1_i32_1535 : BitVec 32 := 1#32
  let v2210 : BitVec 32 := Scalar.muli v2207 c1_i32_1535
  let v2211 : BitVec 32 := Scalar.addi c0_i32_1536 v2210
  v2211.toNat
def k0_dev81 (d0 : Dev nD) : Nat :=
  let c0_i32_1550 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1539 : BitVec 32 := 19#32
  let v2218 : BitVec 32 := Scalar.addi v2 c19_i32_1539
  let c32_i32_1540 : BitVec 32 := 32#32
  let c0_i32_1541 : BitVec 32 := 0#32
  let v2219 : BitVec 1 := Scalar.cmpi .eq c32_i32_1540 c0_i32_1541
  let c1_i32_1542 : BitVec 32 := 1#32
  let v2220 : BitVec 32 := Scalar.select v2219 c1_i32_1542 c32_i32_1540
  let v2221 : BitVec 32 := Scalar.remsi v2218 v2220
  let c0_i32_1544 : BitVec 32 := 0#32
  let v2223 : BitVec 1 := Scalar.cmpi .slt v2221 c0_i32_1544
  let c0_i32_1545 : BitVec 32 := 0#32
  let v2224 : BitVec 1 := Scalar.cmpi .slt v2220 c0_i32_1545
  let v2225 : BitVec 1 := Scalar.xori v2223 v2224
  let c0_i32_1543 : BitVec 32 := 0#32
  let v2222 : BitVec 1 := Scalar.cmpi .ne v2221 c0_i32_1543
  let v2226 : BitVec 1 := Scalar.andi v2225 v2222
  let v2227 : BitVec 32 := Scalar.addi v2221 v2220
  let v2228 : BitVec 32 := Scalar.select v2226 v2227 v2221
  let c1_i32_1549 : BitVec 32 := 1#32
  let v2231 : BitVec 32 := Scalar.muli v2228 c1_i32_1549
  let v2232 : BitVec 32 := Scalar.addi c0_i32_1550 v2231
  v2232.toNat
def k0_dev82 (d0 : Dev nD) : Nat :=
  let c0_i32_1564 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1553 : BitVec 32 := 20#32
  let v2239 : BitVec 32 := Scalar.addi v2 c20_i32_1553
  let c32_i32_1554 : BitVec 32 := 32#32
  let c0_i32_1555 : BitVec 32 := 0#32
  let v2240 : BitVec 1 := Scalar.cmpi .eq c32_i32_1554 c0_i32_1555
  let c1_i32_1556 : BitVec 32 := 1#32
  let v2241 : BitVec 32 := Scalar.select v2240 c1_i32_1556 c32_i32_1554
  let v2242 : BitVec 32 := Scalar.remsi v2239 v2241
  let c0_i32_1558 : BitVec 32 := 0#32
  let v2244 : BitVec 1 := Scalar.cmpi .slt v2242 c0_i32_1558
  let c0_i32_1559 : BitVec 32 := 0#32
  let v2245 : BitVec 1 := Scalar.cmpi .slt v2241 c0_i32_1559
  let v2246 : BitVec 1 := Scalar.xori v2244 v2245
  let c0_i32_1557 : BitVec 32 := 0#32
  let v2243 : BitVec 1 := Scalar.cmpi .ne v2242 c0_i32_1557
  let v2247 : BitVec 1 := Scalar.andi v2246 v2243
  let v2248 : BitVec 32 := Scalar.addi v2242 v2241
  let v2249 : BitVec 32 := Scalar.select v2247 v2248 v2242
  let c1_i32_1563 : BitVec 32 := 1#32
  let v2252 : BitVec 32 := Scalar.muli v2249 c1_i32_1563
  let v2253 : BitVec 32 := Scalar.addi c0_i32_1564 v2252
  v2253.toNat
def k0_dev83 (d0 : Dev nD) : Nat :=
  let c0_i32_1578 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1567 : BitVec 32 := 21#32
  let v2260 : BitVec 32 := Scalar.addi v2 c21_i32_1567
  let c32_i32_1568 : BitVec 32 := 32#32
  let c0_i32_1569 : BitVec 32 := 0#32
  let v2261 : BitVec 1 := Scalar.cmpi .eq c32_i32_1568 c0_i32_1569
  let c1_i32_1570 : BitVec 32 := 1#32
  let v2262 : BitVec 32 := Scalar.select v2261 c1_i32_1570 c32_i32_1568
  let v2263 : BitVec 32 := Scalar.remsi v2260 v2262
  let c0_i32_1572 : BitVec 32 := 0#32
  let v2265 : BitVec 1 := Scalar.cmpi .slt v2263 c0_i32_1572
  let c0_i32_1573 : BitVec 32 := 0#32
  let v2266 : BitVec 1 := Scalar.cmpi .slt v2262 c0_i32_1573
  let v2267 : BitVec 1 := Scalar.xori v2265 v2266
  let c0_i32_1571 : BitVec 32 := 0#32
  let v2264 : BitVec 1 := Scalar.cmpi .ne v2263 c0_i32_1571
  let v2268 : BitVec 1 := Scalar.andi v2267 v2264
  let v2269 : BitVec 32 := Scalar.addi v2263 v2262
  let v2270 : BitVec 32 := Scalar.select v2268 v2269 v2263
  let c1_i32_1577 : BitVec 32 := 1#32
  let v2273 : BitVec 32 := Scalar.muli v2270 c1_i32_1577
  let v2274 : BitVec 32 := Scalar.addi c0_i32_1578 v2273
  v2274.toNat
def k0_dev84 (d0 : Dev nD) : Nat :=
  let c0_i32_1592 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1581 : BitVec 32 := 22#32
  let v2281 : BitVec 32 := Scalar.addi v2 c22_i32_1581
  let c32_i32_1582 : BitVec 32 := 32#32
  let c0_i32_1583 : BitVec 32 := 0#32
  let v2282 : BitVec 1 := Scalar.cmpi .eq c32_i32_1582 c0_i32_1583
  let c1_i32_1584 : BitVec 32 := 1#32
  let v2283 : BitVec 32 := Scalar.select v2282 c1_i32_1584 c32_i32_1582
  let v2284 : BitVec 32 := Scalar.remsi v2281 v2283
  let c0_i32_1586 : BitVec 32 := 0#32
  let v2286 : BitVec 1 := Scalar.cmpi .slt v2284 c0_i32_1586
  let c0_i32_1587 : BitVec 32 := 0#32
  let v2287 : BitVec 1 := Scalar.cmpi .slt v2283 c0_i32_1587
  let v2288 : BitVec 1 := Scalar.xori v2286 v2287
  let c0_i32_1585 : BitVec 32 := 0#32
  let v2285 : BitVec 1 := Scalar.cmpi .ne v2284 c0_i32_1585
  let v2289 : BitVec 1 := Scalar.andi v2288 v2285
  let v2290 : BitVec 32 := Scalar.addi v2284 v2283
  let v2291 : BitVec 32 := Scalar.select v2289 v2290 v2284
  let c1_i32_1591 : BitVec 32 := 1#32
  let v2294 : BitVec 32 := Scalar.muli v2291 c1_i32_1591
  let v2295 : BitVec 32 := Scalar.addi c0_i32_1592 v2294
  v2295.toNat
def k0_dev85 (d0 : Dev nD) : Nat :=
  let c0_i32_1606 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1595 : BitVec 32 := 23#32
  let v2302 : BitVec 32 := Scalar.addi v2 c23_i32_1595
  let c32_i32_1596 : BitVec 32 := 32#32
  let c0_i32_1597 : BitVec 32 := 0#32
  let v2303 : BitVec 1 := Scalar.cmpi .eq c32_i32_1596 c0_i32_1597
  let c1_i32_1598 : BitVec 32 := 1#32
  let v2304 : BitVec 32 := Scalar.select v2303 c1_i32_1598 c32_i32_1596
  let v2305 : BitVec 32 := Scalar.remsi v2302 v2304
  let c0_i32_1600 : BitVec 32 := 0#32
  let v2307 : BitVec 1 := Scalar.cmpi .slt v2305 c0_i32_1600
  let c0_i32_1601 : BitVec 32 := 0#32
  let v2308 : BitVec 1 := Scalar.cmpi .slt v2304 c0_i32_1601
  let v2309 : BitVec 1 := Scalar.xori v2307 v2308
  let c0_i32_1599 : BitVec 32 := 0#32
  let v2306 : BitVec 1 := Scalar.cmpi .ne v2305 c0_i32_1599
  let v2310 : BitVec 1 := Scalar.andi v2309 v2306
  let v2311 : BitVec 32 := Scalar.addi v2305 v2304
  let v2312 : BitVec 32 := Scalar.select v2310 v2311 v2305
  let c1_i32_1605 : BitVec 32 := 1#32
  let v2315 : BitVec 32 := Scalar.muli v2312 c1_i32_1605
  let v2316 : BitVec 32 := Scalar.addi c0_i32_1606 v2315
  v2316.toNat
def k0_dev86 (d0 : Dev nD) : Nat :=
  let c0_i32_1620 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1609 : BitVec 32 := 24#32
  let v2323 : BitVec 32 := Scalar.addi v2 c24_i32_1609
  let c32_i32_1610 : BitVec 32 := 32#32
  let c0_i32_1611 : BitVec 32 := 0#32
  let v2324 : BitVec 1 := Scalar.cmpi .eq c32_i32_1610 c0_i32_1611
  let c1_i32_1612 : BitVec 32 := 1#32
  let v2325 : BitVec 32 := Scalar.select v2324 c1_i32_1612 c32_i32_1610
  let v2326 : BitVec 32 := Scalar.remsi v2323 v2325
  let c0_i32_1614 : BitVec 32 := 0#32
  let v2328 : BitVec 1 := Scalar.cmpi .slt v2326 c0_i32_1614
  let c0_i32_1615 : BitVec 32 := 0#32
  let v2329 : BitVec 1 := Scalar.cmpi .slt v2325 c0_i32_1615
  let v2330 : BitVec 1 := Scalar.xori v2328 v2329
  let c0_i32_1613 : BitVec 32 := 0#32
  let v2327 : BitVec 1 := Scalar.cmpi .ne v2326 c0_i32_1613
  let v2331 : BitVec 1 := Scalar.andi v2330 v2327
  let v2332 : BitVec 32 := Scalar.addi v2326 v2325
  let v2333 : BitVec 32 := Scalar.select v2331 v2332 v2326
  let c1_i32_1619 : BitVec 32 := 1#32
  let v2336 : BitVec 32 := Scalar.muli v2333 c1_i32_1619
  let v2337 : BitVec 32 := Scalar.addi c0_i32_1620 v2336
  v2337.toNat
def k0_dev87 (d0 : Dev nD) : Nat :=
  let c0_i32_1634 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1623 : BitVec 32 := 25#32
  let v2344 : BitVec 32 := Scalar.addi v2 c25_i32_1623
  let c32_i32_1624 : BitVec 32 := 32#32
  let c0_i32_1625 : BitVec 32 := 0#32
  let v2345 : BitVec 1 := Scalar.cmpi .eq c32_i32_1624 c0_i32_1625
  let c1_i32_1626 : BitVec 32 := 1#32
  let v2346 : BitVec 32 := Scalar.select v2345 c1_i32_1626 c32_i32_1624
  let v2347 : BitVec 32 := Scalar.remsi v2344 v2346
  let c0_i32_1628 : BitVec 32 := 0#32
  let v2349 : BitVec 1 := Scalar.cmpi .slt v2347 c0_i32_1628
  let c0_i32_1629 : BitVec 32 := 0#32
  let v2350 : BitVec 1 := Scalar.cmpi .slt v2346 c0_i32_1629
  let v2351 : BitVec 1 := Scalar.xori v2349 v2350
  let c0_i32_1627 : BitVec 32 := 0#32
  let v2348 : BitVec 1 := Scalar.cmpi .ne v2347 c0_i32_1627
  let v2352 : BitVec 1 := Scalar.andi v2351 v2348
  let v2353 : BitVec 32 := Scalar.addi v2347 v2346
  let v2354 : BitVec 32 := Scalar.select v2352 v2353 v2347
  let c1_i32_1633 : BitVec 32 := 1#32
  let v2357 : BitVec 32 := Scalar.muli v2354 c1_i32_1633
  let v2358 : BitVec 32 := Scalar.addi c0_i32_1634 v2357
  v2358.toNat
def k0_dev88 (d0 : Dev nD) : Nat :=
  let c0_i32_1648 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1637 : BitVec 32 := 26#32
  let v2365 : BitVec 32 := Scalar.addi v2 c26_i32_1637
  let c32_i32_1638 : BitVec 32 := 32#32
  let c0_i32_1639 : BitVec 32 := 0#32
  let v2366 : BitVec 1 := Scalar.cmpi .eq c32_i32_1638 c0_i32_1639
  let c1_i32_1640 : BitVec 32 := 1#32
  let v2367 : BitVec 32 := Scalar.select v2366 c1_i32_1640 c32_i32_1638
  let v2368 : BitVec 32 := Scalar.remsi v2365 v2367
  let c0_i32_1642 : BitVec 32 := 0#32
  let v2370 : BitVec 1 := Scalar.cmpi .slt v2368 c0_i32_1642
  let c0_i32_1643 : BitVec 32 := 0#32
  let v2371 : BitVec 1 := Scalar.cmpi .slt v2367 c0_i32_1643
  let v2372 : BitVec 1 := Scalar.xori v2370 v2371
  let c0_i32_1641 : BitVec 32 := 0#32
  let v2369 : BitVec 1 := Scalar.cmpi .ne v2368 c0_i32_1641
  let v2373 : BitVec 1 := Scalar.andi v2372 v2369
  let v2374 : BitVec 32 := Scalar.addi v2368 v2367
  let v2375 : BitVec 32 := Scalar.select v2373 v2374 v2368
  let c1_i32_1647 : BitVec 32 := 1#32
  let v2378 : BitVec 32 := Scalar.muli v2375 c1_i32_1647
  let v2379 : BitVec 32 := Scalar.addi c0_i32_1648 v2378
  v2379.toNat
def k0_dev89 (d0 : Dev nD) : Nat :=
  let c0_i32_1662 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1651 : BitVec 32 := 27#32
  let v2386 : BitVec 32 := Scalar.addi v2 c27_i32_1651
  let c32_i32_1652 : BitVec 32 := 32#32
  let c0_i32_1653 : BitVec 32 := 0#32
  let v2387 : BitVec 1 := Scalar.cmpi .eq c32_i32_1652 c0_i32_1653
  let c1_i32_1654 : BitVec 32 := 1#32
  let v2388 : BitVec 32 := Scalar.select v2387 c1_i32_1654 c32_i32_1652
  let v2389 : BitVec 32 := Scalar.remsi v2386 v2388
  let c0_i32_1656 : BitVec 32 := 0#32
  let v2391 : BitVec 1 := Scalar.cmpi .slt v2389 c0_i32_1656
  let c0_i32_1657 : BitVec 32 := 0#32
  let v2392 : BitVec 1 := Scalar.cmpi .slt v2388 c0_i32_1657
  let v2393 : BitVec 1 := Scalar.xori v2391 v2392
  let c0_i32_1655 : BitVec 32 := 0#32
  let v2390 : BitVec 1 := Scalar.cmpi .ne v2389 c0_i32_1655
  let v2394 : BitVec 1 := Scalar.andi v2393 v2390
  let v2395 : BitVec 32 := Scalar.addi v2389 v2388
  let v2396 : BitVec 32 := Scalar.select v2394 v2395 v2389
  let c1_i32_1661 : BitVec 32 := 1#32
  let v2399 : BitVec 32 := Scalar.muli v2396 c1_i32_1661
  let v2400 : BitVec 32 := Scalar.addi c0_i32_1662 v2399
  v2400.toNat
def k0_dev90 (d0 : Dev nD) : Nat :=
  let c0_i32_1676 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1665 : BitVec 32 := 28#32
  let v2407 : BitVec 32 := Scalar.addi v2 c28_i32_1665
  let c32_i32_1666 : BitVec 32 := 32#32
  let c0_i32_1667 : BitVec 32 := 0#32
  let v2408 : BitVec 1 := Scalar.cmpi .eq c32_i32_1666 c0_i32_1667
  let c1_i32_1668 : BitVec 32 := 1#32
  let v2409 : BitVec 32 := Scalar.select v2408 c1_i32_1668 c32_i32_1666
  let v2410 : BitVec 32 := Scalar.remsi v2407 v2409
  let c0_i32_1670 : BitVec 32 := 0#32
  let v2412 : BitVec 1 := Scalar.cmpi .slt v2410 c0_i32_1670
  let c0_i32_1671 : BitVec 32 := 0#32
  let v2413 : BitVec 1 := Scalar.cmpi .slt v2409 c0_i32_1671
  let v2414 : BitVec 1 := Scalar.xori v2412 v2413
  let c0_i32_1669 : BitVec 32 := 0#32
  let v2411 : BitVec 1 := Scalar.cmpi .ne v2410 c0_i32_1669
  let v2415 : BitVec 1 := Scalar.andi v2414 v2411
  let v2416 : BitVec 32 := Scalar.addi v2410 v2409
  let v2417 : BitVec 32 := Scalar.select v2415 v2416 v2410
  let c1_i32_1675 : BitVec 32 := 1#32
  let v2420 : BitVec 32 := Scalar.muli v2417 c1_i32_1675
  let v2421 : BitVec 32 := Scalar.addi c0_i32_1676 v2420
  v2421.toNat
def k0_dev91 (d0 : Dev nD) : Nat :=
  let c0_i32_1690 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1679 : BitVec 32 := 29#32
  let v2428 : BitVec 32 := Scalar.addi v2 c29_i32_1679
  let c32_i32_1680 : BitVec 32 := 32#32
  let c0_i32_1681 : BitVec 32 := 0#32
  let v2429 : BitVec 1 := Scalar.cmpi .eq c32_i32_1680 c0_i32_1681
  let c1_i32_1682 : BitVec 32 := 1#32
  let v2430 : BitVec 32 := Scalar.select v2429 c1_i32_1682 c32_i32_1680
  let v2431 : BitVec 32 := Scalar.remsi v2428 v2430
  let c0_i32_1684 : BitVec 32 := 0#32
  let v2433 : BitVec 1 := Scalar.cmpi .slt v2431 c0_i32_1684
  let c0_i32_1685 : BitVec 32 := 0#32
  let v2434 : BitVec 1 := Scalar.cmpi .slt v2430 c0_i32_1685
  let v2435 : BitVec 1 := Scalar.xori v2433 v2434
  let c0_i32_1683 : BitVec 32 := 0#32
  let v2432 : BitVec 1 := Scalar.cmpi .ne v2431 c0_i32_1683
  let v2436 : BitVec 1 := Scalar.andi v2435 v2432
  let v2437 : BitVec 32 := Scalar.addi v2431 v2430
  let v2438 : BitVec 32 := Scalar.select v2436 v2437 v2431
  let c1_i32_1689 : BitVec 32 := 1#32
  let v2441 : BitVec 32 := Scalar.muli v2438 c1_i32_1689
  let v2442 : BitVec 32 := Scalar.addi c0_i32_1690 v2441
  v2442.toNat
def k0_dev92 (d0 : Dev nD) : Nat :=
  let c0_i32_1704 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1693 : BitVec 32 := 30#32
  let v2449 : BitVec 32 := Scalar.addi v2 c30_i32_1693
  let c32_i32_1694 : BitVec 32 := 32#32
  let c0_i32_1695 : BitVec 32 := 0#32
  let v2450 : BitVec 1 := Scalar.cmpi .eq c32_i32_1694 c0_i32_1695
  let c1_i32_1696 : BitVec 32 := 1#32
  let v2451 : BitVec 32 := Scalar.select v2450 c1_i32_1696 c32_i32_1694
  let v2452 : BitVec 32 := Scalar.remsi v2449 v2451
  let c0_i32_1698 : BitVec 32 := 0#32
  let v2454 : BitVec 1 := Scalar.cmpi .slt v2452 c0_i32_1698
  let c0_i32_1699 : BitVec 32 := 0#32
  let v2455 : BitVec 1 := Scalar.cmpi .slt v2451 c0_i32_1699
  let v2456 : BitVec 1 := Scalar.xori v2454 v2455
  let c0_i32_1697 : BitVec 32 := 0#32
  let v2453 : BitVec 1 := Scalar.cmpi .ne v2452 c0_i32_1697
  let v2457 : BitVec 1 := Scalar.andi v2456 v2453
  let v2458 : BitVec 32 := Scalar.addi v2452 v2451
  let v2459 : BitVec 32 := Scalar.select v2457 v2458 v2452
  let c1_i32_1703 : BitVec 32 := 1#32
  let v2462 : BitVec 32 := Scalar.muli v2459 c1_i32_1703
  let v2463 : BitVec 32 := Scalar.addi c0_i32_1704 v2462
  v2463.toNat
def k0_dev93 (d0 : Dev nD) : Nat :=
  let c0_i32_1718 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1707 : BitVec 32 := 31#32
  let v2470 : BitVec 32 := Scalar.addi v2 c31_i32_1707
  let c32_i32_1708 : BitVec 32 := 32#32
  let c0_i32_1709 : BitVec 32 := 0#32
  let v2471 : BitVec 1 := Scalar.cmpi .eq c32_i32_1708 c0_i32_1709
  let c1_i32_1710 : BitVec 32 := 1#32
  let v2472 : BitVec 32 := Scalar.select v2471 c1_i32_1710 c32_i32_1708
  let v2473 : BitVec 32 := Scalar.remsi v2470 v2472
  let c0_i32_1712 : BitVec 32 := 0#32
  let v2475 : BitVec 1 := Scalar.cmpi .slt v2473 c0_i32_1712
  let c0_i32_1713 : BitVec 32 := 0#32
  let v2476 : BitVec 1 := Scalar.cmpi .slt v2472 c0_i32_1713
  let v2477 : BitVec 1 := Scalar.xori v2475 v2476
  let c0_i32_1711 : BitVec 32 := 0#32
  let v2474 : BitVec 1 := Scalar.cmpi .ne v2473 c0_i32_1711
  let v2478 : BitVec 1 := Scalar.andi v2477 v2474
  let v2479 : BitVec 32 := Scalar.addi v2473 v2472
  let v2480 : BitVec 32 := Scalar.select v2478 v2479 v2473
  let c1_i32_1717 : BitVec 32 := 1#32
  let v2483 : BitVec 32 := Scalar.muli v2480 c1_i32_1717
  let v2484 : BitVec 32 := Scalar.addi c0_i32_1718 v2483
  v2484.toNat
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x128x4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x128x512 : Shape := ⟨3, ![2, 128, 512]⟩
abbrev S512x8192 : Shape := ⟨2, ![512, 8192]⟩
abbrev S2x128x128x64 : Shape := ⟨4, ![2, 128, 128, 64]⟩
abbrev S8192x512 : Shape := ⟨2, ![8192, 512]⟩
abbrev S2x128x8192 : Shape := ⟨3, ![2, 128, 8192]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S2x128x128x128 : Shape := ⟨4, ![2, 128, 128, 128]⟩
abbrev S1x1x128x128 : Shape := ⟨4, ![1, 1, 128, 128]⟩
abbrev S2x128x128 : Shape := ⟨3, ![2, 128, 128]⟩
abbrev S2x128x128x1 : Shape := ⟨4, ![2, 128, 128, 1]⟩
abbrev S1x1x128x1 : Shape := ⟨4, ![1, 1, 128, 1]⟩
abbrev S2x128x64x128 : Shape := ⟨4, ![2, 128, 64, 128]⟩

abbrev nBuf : Space → Nat
  | .hbm => 57
  | .vmem => 0
  | .smem => 0
  | _ => 0

abbrev bufTy : (tb : Table) → Fin (tcTables nBuf tb) → BufTy
  | .hbm, ⟨0, _⟩ => ⟨S2x128x512, .f32⟩
  | .hbm, ⟨1, _⟩ => ⟨S512x8192, .f32⟩
  | .hbm, ⟨2, _⟩ => ⟨S2x128x128x64, .f32⟩
  | .hbm, ⟨3, _⟩ => ⟨S2x128x128x64, .f32⟩
  | .hbm, ⟨4, _⟩ => ⟨S8192x512, .f32⟩
  | .hbm, ⟨5, _⟩ => ⟨S2x128x8192, .f32⟩
  | .hbm, ⟨6, _⟩ => ⟨S2x128x128x64, .f32⟩
  | .hbm, ⟨7, _⟩ => ⟨S128, .i32⟩
  | .hbm, ⟨8, _⟩ => ⟨S128x1, .i32⟩
  | .hbm, ⟨9, _⟩ => ⟨S128, .i32⟩
  | .hbm, ⟨10, _⟩ => ⟨S1x128, .i32⟩
  | .hbm, ⟨11, _⟩ => ⟨S128x128, .i32⟩
  | .hbm, ⟨12, _⟩ => ⟨S128x128, .i32⟩
  | .hbm, ⟨13, _⟩ => ⟨S128x128, .i32⟩
  | .hbm, ⟨14, _⟩ => ⟨S128x128, .i32⟩
  | .hbm, ⟨15, _⟩ => ⟨S_, .i32⟩
  | .hbm, ⟨16, _⟩ => ⟨S128x128, .i32⟩
  | .hbm, ⟨17, _⟩ => ⟨S128x128, .i1⟩
  | .hbm, ⟨18, _⟩ => ⟨S2x128x128x128, .f32⟩
  | .hbm, ⟨19, _⟩ => ⟨S_, .f32⟩
  | .hbm, ⟨20, _⟩ => ⟨S2x128x128x128, .f32⟩
  | .hbm, ⟨21, _⟩ => ⟨S2x128x128x128, .f32⟩
  | .hbm, ⟨22, _⟩ => ⟨S1x1x128x128, .i1⟩
  | .hbm, ⟨23, _⟩ => ⟨S_, .f32⟩
  | .hbm, ⟨24, _⟩ => ⟨S_, .f32⟩
  | .hbm, ⟨25, _⟩ => ⟨S2x128x128x128, .i1⟩
  | .hbm, ⟨26, _⟩ => ⟨S2x128x128x128, .f32⟩
  | .hbm, ⟨27, _⟩ => ⟨S2x128x128x128, .f32⟩
  | .hbm, ⟨28, _⟩ => ⟨S_, .f32⟩
  | .hbm, ⟨29, _⟩ => ⟨S2x128x128, .f32⟩
  | .hbm, ⟨30, _⟩ => ⟨S2x128x128x1, .f32⟩
  | .hbm, ⟨31, _⟩ => ⟨S2x128x128x128, .f32⟩
  | .hbm, ⟨32, _⟩ => ⟨S2x128x128x128, .f32⟩
  | .hbm, ⟨33, _⟩ => ⟨S2x128x128x128, .f32⟩
  | .hbm, ⟨34, _⟩ => ⟨S_, .i1⟩
  | .hbm, ⟨35, _⟩ => ⟨S128, .i1⟩
  | .hbm, ⟨36, _⟩ => ⟨S1x1x128x1, .i1⟩
  | .hbm, ⟨37, _⟩ => ⟨S_, .f32⟩
  | .hbm, ⟨38, _⟩ => ⟨S2x128x128, .f32⟩
  | .hbm, ⟨39, _⟩ => ⟨S2x128x128x1, .f32⟩
  | .hbm, ⟨40, _⟩ => ⟨S_, .f32⟩
  | .hbm, ⟨41, _⟩ => ⟨S_, .f32⟩
  | .hbm, ⟨42, _⟩ => ⟨S2x128x128x1, .i1⟩
  | .hbm, ⟨43, _⟩ => ⟨S2x128x128x1, .f32⟩
  | .hbm, ⟨44, _⟩ => ⟨S2x128x128x1, .f32⟩
  | .hbm, ⟨45, _⟩ => ⟨S2x128x128x128, .f32⟩
  | .hbm, ⟨46, _⟩ => ⟨S2x128x128x128, .f32⟩
  | .hbm, ⟨47, _⟩ => ⟨S1x1x128x1, .i1⟩
  | .hbm, ⟨48, _⟩ => ⟨S_, .f32⟩
  | .hbm, ⟨49, _⟩ => ⟨S_, .f32⟩
  | .hbm, ⟨50, _⟩ => ⟨S2x128x128x128, .i1⟩
  | .hbm, ⟨51, _⟩ => ⟨S2x128x128x128, .f32⟩
  | .hbm, ⟨52, _⟩ => ⟨S2x128x128x128, .f32⟩
  | .hbm, ⟨53, _⟩ => ⟨S2x128x64x128, .f32⟩
  | .hbm, ⟨54, _⟩ => ⟨S2x128x128x64, .f32⟩
  | .hbm, ⟨55, _⟩ => ⟨S2x128x8192, .f32⟩
  | .hbm, ⟨56, _⟩ => ⟨S2x128x512, .f32⟩
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩

abbrev nD : Nat := 1
abbrev τ : Topo := Topo.v7x

variable {F : FTy → Type} [FloatOps F]
-- ==== Proof.Proto.lean ====
/-
The protocol of the kernel: which semaphores its devices share, what each of their rounds hands over, and what every
buffer holds in each phase.

Device `c` runs the phases: signal the barrier semaphore of every other device; wait for the 31 signals of the others;
copy its columns of the query weights and its rows of the output weights in; compute its partial result (256 rows); send
row block `p` of it to device `p`, which stores it as slot `c` of its exchange buffer; sum the 32 slots; send the summed
row block to every other device; write the result. One round of every semaphore is used.

* the barrier cell of `p`: 31 units, one from every other device `d`, handing over slot `p` of the exchange buffer of `d`;
* the two copy cells: the copied weights and the share of the array they came from;
* the send cell of a row-block transfer: nothing; its receive cell on `d`, from `p`: slot `p` of the exchange buffer of
  `d` with the sent rows, and the row block `d` of the partial-result buffer of `p`, which the last phase writes into;
* the send cell of a result transfer: the share of the row block it reads; its receive cell on `d`, from `p`: row block
  `p` of the result buffer of `d`, holding the summed rows.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.Transfers
public import Idealize.ShloMosaic.Lib.ValueIdxCore

@[expose] public section

noncomputable section

namespace Cert.AttnProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.ValueIdx (ix1 ix2 ix3 ix4)

variable {F : FTy → Type} [FloatOps F]

/-! ## The resource algebra: the pipeline library's copy and the devices' own (duties named by devices) -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The peers -/

set_option backward.proofsInPublic true in
/-- The device `i + 1` places after `c` around the mesh. -/
def pr (c : Dev nD) (i : ℕ) : Dev nD := ⟨(c.val + 1 + i) % 32, Nat.mod_lt _ (by decide)⟩

theorem pr_val (c : Dev nD) (i : ℕ) : (pr c i).val = (c.val + 1 + i) % 32 := rfl
theorem dev_lt (c : Dev nD) : c.val < 32 := c.isLt
theorem pr_ne (c : Dev nD) {i : ℕ} (hi : i < 31) : pr c i ≠ c := fun h => by
  have h1 := congrArg Fin.val h; rw [pr_val] at h1; have := dev_lt c; omega
theorem pr_inj (c : Dev nD) {i j : ℕ} (hi : i < 31) (hj : j < 31) (h : pr c i = pr c j) : i = j := by
  have h1 := congrArg Fin.val h; rw [pr_val, pr_val] at h1; have := dev_lt c; omega
theorem exists_pr {c d : Dev nD} (h : d ≠ c) : ∃ i, i < 31 ∧ pr c i = d := by
  have hc := dev_lt c; have hd := dev_lt d
  have hne : d.val ≠ c.val := fun e => h (Fin.ext e)
  refine ⟨(d.val + 31 - c.val) % 32, ?_, Fin.ext ?_⟩
  · omega
  · rw [pr_val]; omega

/-- All devices: `c` and its 31 peers. -/
theorem univ_eq_peers (c : Dev nD) : (Finset.univ : Finset (Dev nD)) = insert c ((Finset.range 31).image (pr c)) := by
  ext d
  simp only [Finset.mem_univ, Finset.mem_insert, Finset.mem_image, Finset.mem_range, true_iff]
  by_cases h : d = c
  · exact Or.inl h
  · obtain ⟨i, hi, e⟩ := exists_pr h; exact Or.inr ⟨i, hi, e⟩
theorem erase_eq_peers (c : Dev nD) : (Finset.univ.erase c : Finset (Dev nD)) = (Finset.range 31).image (pr c) := by
  rw [univ_eq_peers c, Finset.erase_insert]
  simp only [Finset.mem_image, Finset.mem_range, not_exists, not_and]
  exact fun i hi => pr_ne c hi
theorem pr_injOn (c : Dev nD) : Set.InjOn (pr c) (Finset.range 31 : Finset ℕ) := fun i hi j hj h =>
  pr_inj c (Finset.mem_range.mp hi) (Finset.mem_range.mp hj) h

/-- A conjunction over the peers of `c`, by their places; -/
theorem bigSep_peers {M : Type} [URA M] (c : Dev nD) (Φ : Dev nD → sProp M) :
    bigSep (Finset.univ.erase c) Φ = bigSep (Finset.range 31) fun i => Φ (pr c i) := by
  rw [erase_eq_peers, bigSep_image_of_injOn (pr_injOn c)]
/-- and one over all devices. -/
theorem bigSep_devs {M : Type} [URA M] (c : Dev nD) (Φ : Dev nD → sProp M) :
    bigSep Finset.univ Φ = iprop(Φ c ∗ bigSep (Finset.range 31) fun i => Φ (pr c i)) := by
  rw [← bigSep_peers, ← Finset.insert_erase (Finset.mem_univ c), bigSep_insert (Finset.notMem_erase c _),
    Finset.erase_insert (Finset.notMem_erase c _)]
  rfl

/-! ## The memrefs -/

abbrev xM : Memref sig .tc .vmem S2x128x512 .f32 := Memref.whole cc0_stg0_0
abbrev kM : Memref sig .tc .vmem S2x128x4x64 .f32 := Memref.whole cc0_stg1_0
abbrev vM : Memref sig .tc .vmem S2x128x4x64 .f32 := Memref.whole cc0_stg2_0
abbrev oM : Memref sig .tc .vmem S2x128x512 .f32 := Memref.whole cc0_stg3_0
abbrev wqA : Memref sig .tc .hbm S512x8192 .f32 := Memref.whole main_arg1
abbrev woA : Memref sig .tc .hbm S8192x512 .f32 := Memref.whole main_arg4
abbrev accM : Memref sig .tc .vmem S256x512 .f32 := Memref.whole cc0_scratch0
abbrev wqM : Memref sig .tc .vmem S512x256 .f32 := Memref.whole cc0_scratch1
abbrev woM : Memref sig .tc .vmem S256x512 .f32 := Memref.whole cc0_scratch2
abbrev rsM : Memref sig .tc .vmem S32x8x512 .f32 := Memref.whole cc0_scratch3

theorem wq_inb (c : Dev nD) : ∀ a, (![0, 256 * c.val] : Fin 2 → ℕ) a + S512x256.size a ≤ S512x8192.size a := by
  revert c; decide
theorem wo_inb (c : Dev nD) : ∀ a, (![256 * c.val, 0] : Fin 2 → ℕ) a + S256x512.size a ≤ S8192x512.size a := by
  revert c; decide
theorem blk_inb (p : Dev nD) : ∀ a, (![8 * p.val, 0] : Fin 2 → ℕ) a + S8x512.size a ≤ S256x512.size a := by
  revert p; decide
theorem slot_inb (p : Dev nD) : ∀ a, (![p.val, 0, 0] : Fin 3 → ℕ) a + S1x8x512.size a ≤ S32x8x512.size a := by
  revert p; decide

/-- The columns of the query weights and the rows of the output weights device `c` uses. -/
abbrev wqSl (c : Dev nD) : Memref sig .tc .hbm S512x256 .f32 :=
  wqA.slice (Rect.unit (s := S512x8192) ![0, 256 * c.val] S512x256.size (wq_inb c)) (fun _ => rfl)
abbrev woSl (c : Dev nD) : Memref sig .tc .hbm S256x512 .f32 :=
  woA.slice (Rect.unit (s := S8192x512) ![256 * c.val, 0] S256x512.size (wo_inb c)) (fun _ => rfl)
/-- Row block `p` (eight rows) of the partial-result buffer. -/
abbrev blkR (p : Dev nD) : Rect S256x512 := Rect.unit (s := S256x512) ![8 * p.val, 0] S8x512.size (blk_inb p)
abbrev blkV (p : Dev nD) : Memref sig .tc .vmem S8x512 .f32 := accM.slice (blkR p) (fun _ => rfl)
/-- Slot `p` of the exchange buffer, as a row block. -/
abbrev slotR (p : Dev nD) : Rect S32x8x512 := Rect.unit (s := S32x8x512) ![p.val, 0, 0] S1x8x512.size (slot_inb p)
abbrev slotV (p : Dev nD) : Memref sig .tc .vmem S8x512 .f32 :=
  (rsM.slice (slotR p) (fun _ => rfl)).squeeze S8x512 squeezes_S1x8x512_S8x512

/-! ## The semaphores -/

abbrev barS : Sem sig := (SemArray.scalar (sig.barrier 0 rfl) : Sems sig S_).sem
set_option backward.proofsInPublic true in
def cpS (j : Fin 2) : DmaSem sig := ⟨4 + j.val, by have := j.isLt; show _ < 134; omega⟩
set_option backward.proofsInPublic true in
/-- Array `a` (0: send of a row block, 1: its receive, 2: send of a result, 3: its receive), entry `j`. -/
def xS (a : Fin 4) (j : Dev nD) : DmaSem sig := ⟨6 + 32 * a.val + j.val, by have := a.isLt; have := dev_lt j; show _ < 134; omega⟩

abbrev bar (c : Dev nD) : GSem nD τ sig := ((c : Thread nD τ), .reg barS)
abbrev cp (c : Dev nD) (j : Fin 2) : GSem nD τ sig := ((c : Thread nD τ), .dma (cpS j))
abbrev xc (c : Dev nD) (a : Fin 4) (j : Dev nD) : GSem nD τ sig := ((c : Thread nD τ), .dma (xS a j))

/-- The semaphores of a device the protocol uses: the barrier, two copies, four arrays of 32. -/
abbrev CK : Type := Unit ⊕ (Fin 2 ⊕ (Fin 4 × Dev nD))
abbrev csem : CK → SemLoc sig
  | .inl _ => .reg barS
  | .inr (.inl j) => .dma (cpS j)
  | .inr (.inr (a, j)) => .dma (xS a j)
abbrev kcell (x : Dev nD × CK) : GSem nD τ sig := ((x.1 : Thread nD τ), csem x.2)

/-- Which of the protocol's DMA semaphores `q` is. -/
inductive Kd where
  | copy (j : Fin 2)
  | xfer (a : Fin 4) (j : Dev nD)
  | none

set_option backward.proofsInPublic true in
def kd (q : DmaSem sig) : Kd :=
  if h : 4 ≤ q.val ∧ q.val < 6 then .copy ⟨q.val - 4, by omega⟩
  else if h : 6 ≤ q.val ∧ q.val < 134 then .xfer ⟨(q.val - 6) / 32, by omega⟩ ⟨(q.val - 6) % 32, Nat.mod_lt _ (by decide)⟩
  else .none

theorem kd_cp (j : Fin 2) : kd (cpS j) = .copy j := by
  have := j.isLt
  unfold kd; rw [dif_pos (by show 4 ≤ 4 + j.val ∧ 4 + j.val < 6; omega)]
  congr 1; apply Fin.ext; show 4 + j.val - 4 = j.val; omega
theorem kd_x (a : Fin 4) (j : Dev nD) : kd (xS a j) = .xfer a j := by
  have := a.isLt; have := dev_lt j
  unfold kd; rw [dif_neg (by show ¬(4 ≤ 6 + 32 * a.val + j.val ∧ 6 + 32 * a.val + j.val < 6); omega),
    dif_pos (by show 6 ≤ 6 + 32 * a.val + j.val ∧ 6 + 32 * a.val + j.val < 134; omega)]
  congr 1
  · apply Fin.ext; show (6 + 32 * a.val + j.val - 6) / 32 = a.val; omega
  · apply Fin.ext; show (6 + 32 * a.val + j.val - 6) % 32 = j.val; omega

/-! ## Amounts -/

/-- What a row block's transfer adds, and the two copies. -/
def N : ℕ := (blkV 0).view.dmaCredit
def Ncp (j : Fin 2) : ℕ := if j = 0 then (wqM : Memref sig .tc .vmem S512x256 .f32).view.dmaCredit else (woM : Memref sig .tc .vmem S256x512 .f32).view.dmaCredit
theorem N_pos : 0 < N := View.dmaCredit_pos _ (by decide)
theorem Ncp_pos (j : Fin 2) : 0 < Ncp j := by
  unfold Ncp; split <;> exact View.dmaCredit_pos _ (by decide)
theorem N_blk (p : Dev nD) : (blkV p).view.dmaCredit = N := rfl
theorem N_slot (p : Dev nD) : (slotV p).view.dmaCredit = N := rfl

/-! ## Contents -/

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- The staged inputs of device `c`. -/
def xC (c : Dev nD) : (cc0_stg0_0 : Ref sig .tc).ty.Contents (Elt F) :=
  (win0_0.blk (0 : Fin 1)).view.read (Elt F) (m ((c : Thread nD τ).loc main_arg0))
def kC (c : Dev nD) : (cc0_stg1_0 : Ref sig .tc).ty.Contents (Elt F) :=
  (win0_1.blk (0 : Fin 1)).view.read (Elt F) (m ((c : Thread nD τ).loc main_arg2))
def vC (c : Dev nD) : (cc0_stg2_0 : Ref sig .tc).ty.Contents (Elt F) :=
  (win0_2.blk (0 : Fin 1)).view.read (Elt F) (m ((c : Thread nD τ).loc main_arg3))
/-- Its columns of the query weights, its rows of the output weights. -/
def wqC (c : Dev nD) : (cc0_scratch1 : Ref sig .tc).ty.Contents (Elt F) :=
  (wqSl c).view.read (Elt F) (m ((c : Thread nD τ).loc main_arg1))
def woC (c : Dev nD) : (cc0_scratch2 : Ref sig .tc).ty.Contents (Elt F) :=
  (woSl c).view.read (Elt F) (m ((c : Thread nD τ).loc main_arg4))

/-- What the loads of the computing phase read: batch `b` of the activations, head `h` of batch `b` of the keys and of
    the values, the weights. -/
def ldX (c : Dev nD) (b : Fin 2) : Vec F S1x128x512 .f32 := fun i => xC m c (ix3 b (i 1) (i 2))
def ldK (c : Dev nD) (b : Fin 2) (h : Fin 4) : Vec F S1x128x1x64 .f32 := fun i => kC m c (ix4 b (i 1) h (i 3))
def ldV (c : Dev nD) (b : Fin 2) (h : Fin 4) : Vec F S1x128x1x64 .f32 := fun i => vC m c (ix4 b (i 1) h (i 3))
def ldWq (c : Dev nD) : Vec F S512x256 .f32 := wqC m c
def ldWo (c : Dev nD) : Vec F S256x512 .f32 := woC m c

/-- The partial result of device `c` for batch 0 and for batch 1. -/
def P0 (c : Dev nD) : FVec F S128x512 .f32 :=
  k0_pay12 (k0_pay4 (ldX m c 0) (ldWq m c) (ldK m c 0 0) (ldV m c 0 0))
    (k0_pay8 (k0_pay5 (ldV m c 0 1)) (k0_pay6 (ldX m c 0) (ldWq m c) (ldK m c 0 1)) k0_pay7)
    (k0_pay9 (k0_pay3 (ldX m c 0) (ldWq m c)) (ldK m c 0 2) (ldV m c 0 2))
    (k0_pay10 (ldV m c 0 3)) (k0_pay11 (k0_pay3 (ldX m c 0) (ldWq m c)) (ldK m c 0 3)) (ldWo m c)
def P1 (c : Dev nD) : FVec F S128x512 .f32 :=
  k0_pay22 (k0_pay13 (ldX m c 1) (ldWq m c))
    (k0_pay17 (k0_pay14 (ldV m c 1 0)) (k0_pay15 (ldX m c 1) (ldWq m c) (ldK m c 1 0)) (k0_pay16 (ldX m c 1) (ldWq m c) (ldK m c 1 0)))
    (k0_pay18 (k0_pay13 (ldX m c 1) (ldWq m c)) (ldK m c 1 1) (ldV m c 1 1))
    (k0_pay19 (ldV m c 1 2)) (k0_pay20 (k0_pay13 (ldX m c 1) (ldWq m c)) (ldK m c 1 2))
    (k0_pay21 (k0_pay13 (ldX m c 1) (ldWq m c)) (ldK m c 1 2)) (ldK m c 1 3) (ldV m c 1 3) (ldWo m c)

set_option backward.proofsInPublic true in
/-- The partial-result buffer of device `c` after its computing phase. -/
def A0 (c : Dev nD) : (cc0_scratch0 : Ref sig .tc).ty.Contents (Elt F) := fun i =>
  if h : (i 0).val < 128 then P0 m c (ix2 ⟨(i 0).val, h⟩ (i 1))
  else P1 m c (ix2 ⟨(i 0).val - 128, by have : (i 0).val < 256 := (i 0).isLt; omega⟩ (i 1))

set_option backward.proofsInPublic true in
/-- The exchange buffer of device `c`, full: slot `p` holds row block `c` of the partial result of `p`. -/
def R0 (c : Dev nD) : (cc0_scratch3 : Ref sig .tc).ty.Contents (Elt F) := fun i =>
  A0 m (i 0) (ix2 ⟨8 * c.val + (i 1).val, by have := dev_lt c; have : (i 1).val < 8 := (i 1).isLt; omega⟩ (i 2))

set_option backward.proofsInPublic true in
/-- The result buffer, the same on every device: row block `p` is the sum device `p` computed. -/
def A1 : (cc0_scratch0 : Ref sig .tc).ty.Contents (Elt F) := fun i =>
  k0_pay24 (R0 m ⟨(i 0).val / 8, by have : (i 0).val < 256 := (i 0).isLt; show _ < 32; omega⟩)
    (ix2 ⟨(i 0).val % 8, Nat.mod_lt _ (by decide)⟩ (i 1))

set_option backward.proofsInPublic true in
/-- The kernel's result, the same on every device. -/
def outC : (cc0_stg3_0 : Ref sig .tc).ty.Contents (Elt F) := fun i =>
  A1 m (ix2 ⟨128 * (i 0).val + (i 1).val, by have : (i 0).val < 2 := (i 0).isLt; have : (i 1).val < 128 := (i 1).isLt; omega⟩ (i 2))

/-! ## Ownership of the slots and row blocks -/

/-- Row block `p` of the partial-result buffer of device `d`. -/
def blkPts (d p : Dev nD) (q : PosShare TreeShare) (f : (cc0_scratch0 : Ref sig .tc).ty.Contents (Elt F)) : sProp 𝕄 :=
  (blkV p).view.loc (d : Thread nD τ) ↦[(blkV p).view.set]{q} f
/-- Slot `p` of the exchange buffer of device `d`. -/
def slotPts (d p : Dev nD) (f : (cc0_scratch3 : Ref sig .tc).ty.Contents (Elt F)) : sProp 𝕄 :=
  (slotV p).view.loc (d : Thread nD τ) ↦[(slotV p).view.set]{fullShare} f
/-- The weights as copied, with the arrays they came from. -/
def wqPay (c : Dev nD) : sProp 𝕄 :=
  iprop(((wqM : Memref sig .tc .vmem S512x256 .f32).view.loc (c : Thread nD τ) ↦[(wqM : Memref sig .tc .vmem S512x256 .f32).view.set]{fullShare} wqC m c)
    ∗ ((wqSl c).view.loc (c : Thread nD τ) ↦[(wqSl c).view.set]{fullShare} m ((c : Thread nD τ).loc main_arg1)))
def woPay (c : Dev nD) : sProp 𝕄 :=
  iprop(((woM : Memref sig .tc .vmem S256x512 .f32).view.loc (c : Thread nD τ) ↦[(woM : Memref sig .tc .vmem S256x512 .f32).view.set]{fullShare} woC m c)
    ∗ ((woSl c).view.loc (c : Thread nD τ) ↦[(woSl c).view.set]{fullShare} m ((c : Thread nD τ).loc main_arg4)))

omit [FloatOps F] in
instance blkPts_storable (d p : Dev nD) (q f) : BI.Storable (upEmb : UEmb _ 𝕄) (blkPts (F := F) d p q f) := by unfold blkPts; infer_instance
omit [FloatOps F] in
instance slotPts_storable (d p : Dev nD) (f) : BI.Storable (upEmb : UEmb _ 𝕄) (slotPts (F := F) d p f) := by unfold slotPts; infer_instance
omit [FloatOps F] in
instance wqPay_storable (c : Dev nD) : BI.Storable (upEmb : UEmb _ 𝕄) (wqPay (F := F) m c) := by unfold wqPay; infer_instance
omit [FloatOps F] in
instance woPay_storable (c : Dev nD) : BI.Storable (upEmb : UEmb _ 𝕄) (woPay (F := F) m c) := by unfold woPay; infer_instance

/-! ## The schedule -/

/-- What cell `q` of device `c` hands over. -/
def xPay (c : Dev nD) : Kd → sProp 𝕄
  | .copy j => if j = 0 then wqPay m c else woPay m c
  | .xfer a p =>
    if a = 1 then iprop(slotPts c p (R0 m c) ∗ blkPts p c fullShare (A0 m p))
    else if a = 2 then blkPts c c (shareTokN fullShare (p.val - 1)) (A1 m)
    else if a = 3 then blkPts c p fullShare (A1 m)
    else iprop(emp)
  | .none => iprop(emp)

instance xPay_storable (c : Dev nD) (x : Kd) : BI.Storable (upEmb : UEmb _ 𝕄) (xPay (F := F) m c x) := by
  unfold xPay; split
  · split <;> infer_instance
  · (repeat' split) <;> infer_instance
  · infer_instance

/-- The duties of a DMA cell of device `c`: one, but none at the entries no transfer uses (entry 0 of a send array, the
    own entry of a receive array). -/
def xDuties (c : Dev nD) : Kd → Finset (Dev nD)
  | .copy _ => {0}
  | .xfer a p => if a = 0 ∨ a = 2 then (if p = 0 then ∅ else {0}) else (if p = c then ∅ else {0})
  | .none => ∅

def xAmt : Kd → ℕ
  | .copy j => Ncp j
  | .xfer _ _ => N
  | .none => 1

def Rd : Rounds.Schedule (GSem nD τ sig) (Dev nD) 𝕄 where
  duties g r := if r = 0 ∧ g.1.2 = .tc then (match g.2 with | .reg _ => Finset.univ.erase g.1.1 | .dma q => xDuties g.1.1 (kd q)) else ∅
  unitless _ := False
  amount g _ _ := match g.2 with | .reg _ => 1 | .dma q => xAmt (kd q)
  payload g _ d := match g.2 with
    | .reg _ => iprop(∃ f, slotPts d g.1.1 f)
    | .dma q => xPay m g.1.1 (kd q)
  amount_pos g _ _ _ := by
    split
    · exact Nat.one_pos
    · unfold xAmt; split
      · exact Ncp_pos _
      · exact N_pos
      · exact Nat.one_pos

instance Rd_payload_storable (g : GSem nD τ sig) (r : ℕ) (d : Dev nD) :
    BI.Storable (upEmb : UEmb _ 𝕄) ((Rd (F := F) m).payload g r d) := by
  unfold Rd; dsimp only; split <;> infer_instance

section Sched
variable (c : Dev nD)

theorem duties_bar : (Rd (F := F) m).duties (bar c) 0 = Finset.univ.erase c := by
  unfold Rd; dsimp only; rw [if_pos ⟨rfl, rfl⟩]
theorem duties_cp (j : Fin 2) : (Rd (F := F) m).duties (cp c j) 0 = {0} := by
  unfold Rd; dsimp only; rw [if_pos ⟨rfl, rfl⟩, kd_cp]; rfl
theorem duties_x (a : Fin 4) (j : Dev nD) : (Rd (F := F) m).duties (xc c a j) 0 = xDuties c (.xfer a j) := by
  unfold Rd; dsimp only; rw [if_pos ⟨rfl, rfl⟩, kd_x]
theorem xDuties_send {a : Fin 4} (ha : a = 0 ∨ a = 2) {i : ℕ} (hi : i < 31) : xDuties c (.xfer a (pr 0 i)) = {0} := by
  unfold xDuties; dsimp only; rw [if_pos ha, if_neg (pr_ne 0 hi)]
theorem xDuties_recv {a : Fin 4} (ha : a = 1 ∨ a = 3) {p : Dev nD} (hp : p ≠ c) : xDuties c (.xfer a p) = {0} := by
  unfold xDuties; dsimp only; rw [if_neg (by rcases ha with rfl | rfl <;> decide), if_neg hp]
theorem duties_later (g : GSem nD τ sig) : ∀ r, 1 ≤ r → (Rd (F := F) m).duties g r = ∅ :=
  fun r hr => by unfold Rd; dsimp only; rw [if_neg fun h => by omega]
theorem duties_unused (a : Fin 4) (j : Dev nD) (h : xDuties c (.xfer a j) = ∅) : ∀ r, 0 ≤ r → (Rd (F := F) m).duties (xc c a j) r = ∅ :=
  fun r _ => by
    by_cases hr : r = 0
    · subst hr; rw [duties_x, h]
    · exact duties_later m _ r (Nat.one_le_iff_ne_zero.mpr hr)

theorem amount_bar (d : Dev nD) : (Rd (F := F) m).amount (bar c) 0 d = 1 := rfl
theorem amount_cp (j : Fin 2) (d : Dev nD) : (Rd (F := F) m).amount (cp c j) 0 d = Ncp j := by
  unfold Rd; dsimp only; rw [kd_cp]; rfl
theorem amount_x (a : Fin 4) (j d : Dev nD) : (Rd (F := F) m).amount (xc c a j) 0 d = N := by
  unfold Rd; dsimp only; rw [kd_x]; rfl

theorem expect_bar : (Rd (F := F) m).expect (bar c) 0 = 31 := by
  unfold Schedule.expect Schedule.amountOf
  rw [duties_bar, Finset.sum_congr rfl fun d _ => amount_bar m c d, Finset.sum_const, Finset.card_erase_of_mem (Finset.mem_univ _),
    Finset.card_univ, Fintype.card_fin, smul_eq_mul]
  rfl
theorem expect_cp (j : Fin 2) : (Rd (F := F) m).expect (cp c j) 0 = Ncp j := by
  unfold Schedule.expect Schedule.amountOf; rw [duties_cp, Finset.sum_singleton, amount_cp]
theorem expect_x (a : Fin 4) (j : Dev nD) (h : xDuties c (.xfer a j) = {0}) : (Rd (F := F) m).expect (xc c a j) 0 = N := by
  unfold Schedule.expect Schedule.amountOf; rw [duties_x, h, Finset.sum_singleton, amount_x]

theorem payload_bar (d : Dev nD) : (Rd (F := F) m).payload (bar c) 0 d = iprop(∃ f, slotPts d c f) := rfl
theorem payload_cp0 (d : Dev nD) : (Rd (F := F) m).payload (cp c 0) 0 d = wqPay m c := by
  unfold Rd; dsimp only; rw [kd_cp]; unfold xPay; dsimp only; rw [if_pos rfl]
theorem payload_cp1 (d : Dev nD) : (Rd (F := F) m).payload (cp c 1) 0 d = woPay m c := by
  unfold Rd; dsimp only; rw [kd_cp]; unfold xPay; dsimp only; rw [if_neg (by decide)]
theorem payload_x (a : Fin 4) (p d : Dev nD) : (Rd (F := F) m).payload (xc c a p) 0 d = xPay m c (.xfer a p) := by
  unfold Rd; dsimp only; rw [kd_x]
theorem payload_x0 (p d : Dev nD) : (Rd (F := F) m).payload (xc c 0 p) 0 d = iprop(emp) := by
  rw [payload_x]; unfold xPay; dsimp only; rw [if_neg (by decide), if_neg (by decide), if_neg (by decide)]
theorem payload_x1 (p d : Dev nD) : (Rd (F := F) m).payload (xc c 1 p) 0 d = iprop(slotPts c p (R0 m c) ∗ blkPts p c fullShare (A0 m p)) := by
  rw [payload_x]; unfold xPay; dsimp only; rw [if_pos rfl]
theorem payload_x2 (p d : Dev nD) : (Rd (F := F) m).payload (xc c 2 p) 0 d = blkPts c c (shareTokN fullShare (p.val - 1)) (A1 m) := by
  rw [payload_x]; unfold xPay; dsimp only; rw [if_neg (by decide), if_pos rfl]
theorem payload_x3 (p d : Dev nD) : (Rd (F := F) m).payload (xc c 3 p) 0 d = blkPts c p fullShare (A1 m) := by
  rw [payload_x]; unfold xPay; dsimp only; rw [if_neg (by decide), if_neg (by decide), if_pos rfl]

/-- What a completed round hands its owner: the barrier's, one slot from every peer; -/
theorem rest_bar : bigSep ((Rd (F := F) m).duties (bar c) 0 \ ∅) (fun d => (Rd (F := F) m).payload (bar c) 0 d)
    = bigSep (Finset.range 31) fun i => iprop(∃ f, slotPts (F := F) (pr c i) c f) := by
  rw [Finset.sdiff_empty, duties_bar, bigSep_peers]; rfl
theorem rest_cp (j : Fin 2) : bigSep ((Rd (F := F) m).duties (cp c j) 0 \ ∅) (fun d => (Rd (F := F) m).payload (cp c j) 0 d)
    = (Rd (F := F) m).payload (cp c j) 0 0 := by
  rw [Finset.sdiff_empty, duties_cp, bigSep_singleton]
theorem rest_x (a : Fin 4) (j : Dev nD) (h : xDuties c (.xfer a j) = {0}) :
    bigSep ((Rd (F := F) m).duties (xc c a j) 0 \ ∅) (fun d => (Rd (F := F) m).payload (xc c a j) 0 d) = (Rd (F := F) m).payload (xc c a j) 0 0 := by
  rw [Finset.sdiff_empty, duties_x, h, bigSep_singleton]

end Sched

/-! ## What a device owes; the levels -/

/-- What device `c` still owes after `s` signals, `t` row-block transfers and `u` result transfers. -/
def Ob (c : Dev nD) (s t u : ℕ) : CellTallies nD τ sig Unit :=
  (∑ i ∈ Finset.Ico s 31, tallyAt (bar (pr c i)) () 1)
    + (∑ i ∈ Finset.Ico t 31, tallyAt (xc (pr c i) 1 c) () N) + (∑ i ∈ Finset.Ico u 31, tallyAt (xc (pr c i) 3 c) () N)

theorem sum_Ico_bot (f : ℕ → CellTallies nD τ sig Unit) {s : ℕ} (h : s < 31) :
    ∑ i ∈ Finset.Ico s 31, f i = f s + ∑ i ∈ Finset.Ico (s + 1) 31, f i := by
  have e : Finset.Ico s 31 = insert s (Finset.Ico (s + 1) 31) := by
    ext i; simp only [Finset.mem_Ico, Finset.mem_insert]; omega
  rw [e, Finset.sum_insert (by simp)]
theorem Ob_s (c : Dev nD) {s : ℕ} (t u : ℕ) (h : s < 31) : Ob c s t u = Ob c (s + 1) t u + tallyAt (bar (pr c s)) () 1 := by
  unfold Ob; rw [sum_Ico_bot _ h]; ac_rfl
theorem Ob_t (c : Dev nD) (s : ℕ) {t : ℕ} (u : ℕ) (h : t < 31) : Ob c s t u = Ob c s (t + 1) u + tallyAt (xc (pr c t) 1 c) () N := by
  unfold Ob; rw [sum_Ico_bot (fun i => tallyAt (xc (pr c i) 1 c) () N) h]; ac_rfl
theorem Ob_u (c : Dev nD) (s t : ℕ) {u : ℕ} (h : u < 31) : Ob c s t u = Ob c s t (u + 1) + tallyAt (xc (pr c u) 3 c) () N := by
  unfold Ob; rw [sum_Ico_bot (fun i => tallyAt (xc (pr c i) 3 c) () N) h]; ac_rfl
theorem Ob_end (c : Dev nD) : Ob c 31 31 31 = 0 := by
  unfold Ob; simp only [Finset.Ico_self, Finset.sum_empty, add_zero]

def L (g : GSem nD τ sig) : Finset Unit := if g.1.2 = .tc then {()} else ∅
/-- Barrier cells at 1, row-block receive cells at 2, result receive cells at 3, everything else at 0. -/
def lvS : SemLoc sig → ℕ
  | .reg _ => 1
  | .dma q => match kd q with | .xfer a _ => (if a = 1 then 2 else if a = 3 then 3 else 0) | _ => 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl
theorem lvS_x1 (j : Dev nD) : lvS (.dma (xS 1 j)) = 2 := by unfold lvS; dsimp only; rw [kd_x]; dsimp only; rw [if_pos rfl]
theorem lvS_x3 (j : Dev nD) : lvS (.dma (xS 3 j)) = 3 := by
  unfold lvS; dsimp only; rw [kd_x]; dsimp only; rw [if_neg (by decide), if_pos rfl]
theorem lvS_cp (j : Fin 2) : lvS (.dma (cpS j)) = 0 := by unfold lvS; dsimp only; rw [kd_cp]
theorem lvS_low (q : DmaSem sig) (h : q.val < 4) : lvS (.dma q) = 0 := by
  unfold lvS; dsimp only
  rw [show kd q = .none from by unfold kd; rw [dif_neg (by omega), dif_neg (by omega)]]

theorem sum_tally_pos {S : Finset ℕ} {f : ℕ → GSem nD τ sig} {n : ℕ} {g : GSem nD τ sig} {u : Unit}
    (h : 0 < (∑ i ∈ S, tallyAt (f i) () n : CellTallies nD τ sig Unit) g u) : ∃ i ∈ S, g = f i := by
  rw [Finset.sum_apply, Finsupp.finset_sum_apply] at h
  obtain ⟨i, hi, hp⟩ := Finset.exists_ne_zero_of_sum_ne_zero (Nat.pos_iff_ne_zero.mp h)
  refine ⟨i, hi, ?_⟩
  rw [tallyAt_apply] at hp
  by_contra hn
  exact hp (if_neg fun h' => hn h'.1)

/-- The cells a device owes to. -/
theorem Ob_pos {c : Dev nD} {s t u : ℕ} {g : GSem nD τ sig} {x : Unit} (h : 0 < Ob c s t u g x) :
    (s < 31 ∧ ∃ i, g = bar (pr c i)) ∨ (t < 31 ∧ ∃ i, g = xc (pr c i) 1 c) ∨ (u < 31 ∧ ∃ i, g = xc (pr c i) 3 c) := by
  unfold Ob at h
  rw [Pi.add_apply, Finsupp.add_apply, Pi.add_apply, Finsupp.add_apply] at h
  rcases Nat.eq_zero_or_pos ((∑ i ∈ Finset.Ico s 31, tallyAt (bar (pr c i)) () 1 : CellTallies nD τ sig Unit) g x) with h1 | h1
  · rcases Nat.eq_zero_or_pos ((∑ i ∈ Finset.Ico t 31, tallyAt (xc (pr c i) 1 c) () N : CellTallies nD τ sig Unit) g x) with h2 | h2
    · have h3 : 0 < (∑ i ∈ Finset.Ico u 31, tallyAt (xc (pr c i) 3 c) () N : CellTallies nD τ sig Unit) g x := by omega
      obtain ⟨i, hi, e⟩ := sum_tally_pos h3
      exact Or.inr (Or.inr ⟨lt_of_le_of_lt (Finset.mem_Ico.mp hi).1 (Finset.mem_Ico.mp hi).2, i, e⟩)
    · obtain ⟨i, hi, e⟩ := sum_tally_pos h2
      exact Or.inr (Or.inl ⟨lt_of_le_of_lt (Finset.mem_Ico.mp hi).1 (Finset.mem_Ico.mp hi).2, i, e⟩)
  · obtain ⟨i, hi, e⟩ := sum_tally_pos h1
    exact Or.inl ⟨lt_of_le_of_lt (Finset.mem_Ico.mp hi).1 (Finset.mem_Ico.mp hi).2, i, e⟩

/-- A device may wait on a semaphore below everything it owes: at level 0 whatever it owes, at level 1 once it owes no
    barrier, at level 2 once it owes no row block. -/
theorem mayWait (c : Dev nD) (sm : SemLoc sig) (s t u : ℕ)
    (h : lvS sm = 0 ∨ (lvS sm = 1 ∧ s = 31) ∨ (lvS sm = 2 ∧ s = 31 ∧ t = 31)) :
    (levAts L lv : sProp 𝕄) ⊢ MayWait (c : Thread nD τ) sm () (Ob c s t u) :=
  MayOwe.of_cut (L := L) (lev := lv) (lvS sm)
    (fun p hp => by rw [Finset.mem_singleton.mp hp, L_tc]; exact Finset.mem_singleton_self _)
    (fun g x hg => by
      rcases Ob_pos hg with ⟨_, i, rfl⟩ | ⟨_, i, rfl⟩ | ⟨_, i, rfl⟩ <;> rw [L_tc] <;> exact Finset.mem_singleton_self _)
    (fun p hp => by rw [Finset.mem_singleton.mp hp]; exact le_refl _)
    (fun g x hg => by
      rcases Ob_pos hg with ⟨hs, i, rfl⟩ | ⟨ht, i, rfl⟩ | ⟨hu, i, rfl⟩
      · show lvS sm < 1; omega
      · show lvS sm < lvS (.dma (xS 1 c)); rw [lvS_x1]; omega
      · show lvS sm < lvS (.dma (xS 3 c)); rw [lvS_x3]; omega)

end Cert.AttnProof
-- ==== Proof.Tri.lean ====
/-
Triples `Tri`: what one stretch of a device's program does to what the device owns, beside the facts every device shares
(the invariants of all cells, that all are at round 0, the levels), with the rules for composing them.
-/
module

public import proofs.«01_k».proof.Proof.Proto
public import Idealize.SL.BI.BigOpNat

@[expose] public section

noncomputable section

namespace Cert.AttnProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

abbrev 𝒱₀ : Variants := Variants.none

variable (m : (ℓ : Loc nD τ sig) → Buf (Elt F) ℓ) (K : Dev nD × CK → ℕ) (c : Dev nD)

/-- What every device knows. -/
def Recs : sProp 𝕄 :=
  iprop((bigSep Finset.univ fun x : Dev nD × CK => cellInv ER (Rd m) (K x) (kcell x))
    ∗ (bigSep Finset.univ fun x : Dev nD × CK => reached ER (kcell x) 0) ∗ levAts L lv)

instance Recs_persistent : BI.Persistent (Recs (F := F) m K) := by unfold Recs; infer_instance

theorem Recs_inv (x : Dev nD × CK) : Recs m K ⊢ cellInv ER (Rd m) (K x) (kcell x) := by
  unfold Recs; iintro ⟨#H, -, -⟩
  iapply (show (bigSep Finset.univ fun x : Dev nD × CK => (cellInv ER (Rd m) (K x) (kcell x) : sProp 𝕄)) ⊢ _ from bigSep_elim (Finset.mem_univ x))
  iexact H
theorem Recs_reached (x : Dev nD × CK) : Recs m K ⊢ reached ER (kcell x) 0 := by
  unfold Recs; iintro ⟨-, #H, -⟩
  iapply (show (bigSep Finset.univ fun x : Dev nD × CK => (reached ER (kcell x) 0 : sProp 𝕄)) ⊢ _ from bigSep_elim (Finset.mem_univ x))
  iexact H
theorem Recs_levels : Recs m K ⊢ (levAts L lv : sProp 𝕄) := by
  unfold Recs; iintro ⟨-, -, #H⟩; iexact H

/-- From `P`, the program `p` on device `c` runs safely and ends in `Q` of its value. -/
def Tri {α : Type} (P : sProp 𝕄) (p : Prog (TpuEff nD τ sig (Elt F) Λ₀ .tc) α) (Q : α → sProp 𝕄) : Prop :=
  iprop(Recs m K ∗ P) ⊢ wp frame (wpE (defs₀ (F := F)) 𝒱₀ (c : Thread nD τ) none) Set.univ p Q

variable {m K c}

theorem Tri.bind {α β : Type} {P : sProp 𝕄} {p : Prog (TpuEff nD τ sig (Elt F) Λ₀ .tc) α} {Q : α → sProp 𝕄}
    {k : α → Prog (TpuEff nD τ sig (Elt F) Λ₀ .tc) β} {R : β → sProp 𝕄} (h : Tri m K c P p Q) (hk : ∀ a, Tri m K c (Q a) (k a) R) :
    Tri m K c P (p >>= k) R := by
  unfold Tri at *
  rw [wp_bind]
  iintro ⟨#HR, HP⟩
  iapply (wp_mono frame _ _ (Q := fun a => iprop(Recs m K ∗ Q a)) hk)
  iapply (wp_frame_l frame _ _)
  isplitr; · iexact HR
  iapply h
  isplitr; · iexact HR
  iexact HP

/-- After a stretch whose value is known. -/
theorem Tri.bindP {α β : Type} {P : sProp 𝕄} {p : Prog (TpuEff nD τ sig (Elt F) Λ₀ .tc) α} {Q : sProp 𝕄} {a : α}
    {k : α → Prog (TpuEff nD τ sig (Elt F) Λ₀ .tc) β} {R : β → sProp 𝕄} (h : Tri m K c P p (fun v => iprop(⌜v = a⌝ ∗ Q)))
    (hk : Tri m K c Q (k a) R) : Tri m K c P (p >>= k) R :=
  h.bind fun v => by
    unfold Tri at *
    iintro ⟨#HR, ⟨%e, HQ⟩⟩
    subst e
    iapply hk
    isplitr; · iexact HR
    iexact HQ

theorem Tri.pure {α : Type} {P : sProp 𝕄} {a : α} {Q : α → sProp 𝕄} (h : P ⊢ Q a) :
    Tri m K c P (Pure.pure a : Prog (TpuEff nD τ sig (Elt F) Λ₀ .tc) α) Q := by
  unfold Tri
  rw [Prog.pure_eq_ret, wp_ret]
  iintro ⟨-, HP⟩; imodintro
  iapply h; iexact HP

theorem Tri.pre {α : Type} {P P' : sProp 𝕄} {p : Prog (TpuEff nD τ sig (Elt F) Λ₀ .tc) α} {Q : α → sProp 𝕄} (hP : P ⊢ P')
    (h : Tri m K c P' p Q) : Tri m K c P p Q := by
  unfold Tri at *; exact (sep_mono_right hP).trans h
theorem Tri.post {α : Type} {P : sProp 𝕄} {p : Prog (TpuEff nD τ sig (Elt F) Λ₀ .tc) α} {Q Q' : α → sProp 𝕄}
    (h : Tri m K c P p Q) (hQ : ∀ a, Q a ⊢ Q' a) : Tri m K c P p Q' := by
  unfold Tri at *; exact h.trans (wp_mono frame _ _ hQ)

/-- Beside anything. -/
theorem Tri.frame {α : Type} {P : sProp 𝕄} {p : Prog (TpuEff nD τ sig (Elt F) Λ₀ .tc) α} {Q : α → sProp 𝕄} (R : sProp 𝕄)
    (h : Tri m K c P p Q) : Tri m K c iprop(P ∗ R) p (fun a => iprop(Q a ∗ R)) := by
  unfold Tri at *
  iintro ⟨#HR, HP, HF⟩
  iapply (wp_frame_r Idealize.ShloMosaic.frame _ _)
  isplitr [HF]
  · iapply h; isplitr; · iexact HR
    iexact HP
  iexact HF

/-- A stretch using a part of what is owned. -/
theorem Tri.part {α β : Type} {P P' R : sProp 𝕄} {p : Prog (TpuEff nD τ sig (Elt F) Λ₀ .tc) α} {Q : α → sProp 𝕄}
    {k : α → Prog (TpuEff nD τ sig (Elt F) Λ₀ .tc) β} {S : β → sProp 𝕄} (hP : P ⊢ iprop(P' ∗ R)) (h : Tri m K c P' p Q)
    (hk : ∀ a, Tri m K c iprop(Q a ∗ R) (k a) S) : Tri m K c P (p >>= k) S :=
  ((h.frame R).pre hP).bind hk

/-- A conjunct moved to the front, then a stretch on it. -/
theorem Tri.bindR {α β : Type} {P R : sProp 𝕄} {p : Prog (TpuEff nD τ sig (Elt F) Λ₀ .tc) α} {Q : α → sProp 𝕄}
    {k : α → Prog (TpuEff nD τ sig (Elt F) Λ₀ .tc) β} {S : β → sProp 𝕄} (h : Tri m K c P p Q)
    (hk : ∀ a, Tri m K c iprop(Q a ∗ R) (k a) S) : Tri m K c iprop(P ∗ R) (p >>= k) S :=
  (h.frame R).bind hk

/-- What a device owes, whatever it has waited on. -/
def Ow (c : Dev nD) (O : CellTallies nD τ sig Unit) : sProp 𝕄 := iprop(∃ W : Waits sig Unit, owes (c : Thread nD τ) O W)

/-- Taking the first of the conjuncts from `r` on. -/
theorem bigSep_Ico_bot {r : ℕ} (h : r < 31) (Φ : ℕ → sProp 𝕄) :
    bigSep (Finset.Ico r 31) Φ = iprop(Φ r ∗ bigSep (Finset.Ico (r + 1) 31) Φ) := bigSep_Ico_succ_bot h Φ

/-- A wait for the one round of a cell: its credit, what the device owes being above the cell, gives the round's payload. -/
theorem Tri.wait {α : Type} {w : TpuEff nD τ sig (Elt F) Λ₀ .tc PUnit} {sm : SemLoc sig} {k' : ℕ} (x : CK) (hx : sm = csem x)
    (hw : ∀ Kt : PUnit → sProp 𝕄, wpE (defs₀ (F := F)) 𝒱₀ (c : Thread nD τ) none Set.univ w Kt = waitSpec (c : Thread nD τ) Set.univ sm k' Kt)
    (hk : (Rd (F := F) m).expect ((c : Thread nD τ), sm) 0 = k') (s t u : ℕ)
    (hl : lvS sm = 0 ∨ (lvS sm = 1 ∧ s = 31) ∨ (lvS sm = 2 ∧ s = 31 ∧ t = 31) ∨ (s = 31 ∧ t = 31 ∧ u = 31)) {Y : sProp 𝕄}
    (hY : bigSep ((Rd (F := F) m).duties ((c : Thread nD τ), sm) 0 \ ∅) (fun d => (Rd (F := F) m).payload ((c : Thread nD τ), sm) 0 d) = Y) :
    Tri m K c iprop(Ow c (Ob c s t u) ∗ cred (tallyAt ((c : Thread nD τ), sm) () k') ∗ atPos ER ((c : Thread nD τ), sm) 0 ∅ 0)
      (Prog.lift w)
      (fun _ => iprop(Ow c (Ob c s t u) ∗ atPos ER ((c : Thread nD τ), sm) 1 ∅ 0 ∗ Y)) := by
  unfold Tri Ow
  subst hx hY
  have hmw : (levAts L lv : sProp 𝕄) ⊢ MayWait (c : Thread nD τ) (csem x) () (Ob c s t u) := by
    rcases hl with h | h | h | ⟨h1, h2, h3⟩
    · exact mayWait (F := F) c (csem x) s t u (Or.inl h)
    · exact mayWait (F := F) c (csem x) s t u (Or.inr (Or.inl h))
    · exact mayWait (F := F) c (csem x) s t u (Or.inr (Or.inr h))
    · rw [h1, h2, h3, Ob_end, MayWait_zero]; iintro -; iempintro
  have hmr : Recs m K ⊢ MayWait (c : Thread nD τ) (csem x) () (Ob c s t u) := (@Recs_levels F _ m K).trans hmw
  iintro ⟨#HR, ⟨%W, HO⟩, Hc, Ha⟩
  unfold Prog.lift
  iapply (Rounds.wp_wait_rest_token 𝒱₀ ER (Rd m) (c : Thread nD τ) none (κ := K (c, x)) hw (Set.mem_univ _) ()
      (O := Ob c s t u) (W := W) (R := 0) (m := 0) (T := ∅) (by rw [Nat.zero_add, hk])) $$ [Hc HO Ha]
  · isplitr; · iapply (Recs_inv m K (c, x)); iexact HR
    isplitl [Hc]; · iexact Hc
    isplitl [HO]; · iexact HO
    isplitr
    · iapply hmr; iexact HR
    iexact Ha
  iintro ⟨HO, Ha, -, HY⟩
  rw [wp_ret]; imodintro
  isplitl [HO]; · iexists _; iexact HO
  isplitl [Ha]; · iexact Ha
  iexact HY

end Cert.AttnProof
-- ==== Proof.Geom.lean ====
/-
Where the row blocks, slots and loads of the kernel lie in their buffers, and what its transfers and stores leave there.
-/
module

public import proofs.«01_k».proof.Proof.Proto
public import Idealize.ShloMosaic.Lib.ValueLayout

@[expose] public section

noncomputable section

namespace Cert.AttnProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.ValueIdx

variable {F : FTy → Type} [FloatOps F]

local notation "𝕄" => MT nD τ sig Unit (Elt F) ℕ UU ℕ

variable (m : (ℓ : Loc nD τ sig) → Buf (Elt F) ℓ)

/-! ## Indices -/

theorem blk_lt (p : Dev nD) (a : Fin 8) : 8 * p.val + a.val < 256 := by have := dev_lt p; have := a.isLt; omega

/-- Row `a` of block `p`. -/
abbrev blkIx (p : Dev nD) (a : Fin 8) (b : Fin 512) : S256x512.Idx := ix2 (⟨8 * p.val + a.val, blk_lt p a⟩ : Fin 256) b

theorem blkV_emb (p : Dev nD) (a : Fin 8) (b : Fin 512) : (blkV p).view.emb (ix2 a b : S8x512.Idx) = blkIx p a b := by
  funext ax; apply Fin.ext
  match ax with
  | ⟨0, _⟩ => show 8 * p.val + 1 * a.val = 8 * p.val + a.val; omega
  | ⟨1, _⟩ => show 0 + 1 * b.val = b.val; omega
theorem slotV_emb (p : Dev nD) (a : Fin 8) (b : Fin 512) : (slotV p).view.emb (ix2 a b : S8x512.Idx) = (ix3 p a b : S32x8x512.Idx) := by
  have h : (slotV p).view.emb (ix2 a b : S8x512.Idx) = (slotR p).emb (Shape.reshapeEquiv squeezes_S1x8x512_S8x512.numel_eq (ix2 a b : S8x512.Idx)) := rfl
  rw [h, reshapeEquiv_ix2_1ab]
  funext ax; apply Fin.ext
  match ax with
  | ⟨0, _⟩ => show p.val + 1 * 0 = p.val; omega
  | ⟨1, _⟩ => show 0 + 1 * a.val = a.val; omega
  | ⟨2, _⟩ => show 0 + 1 * b.val = b.val; omega

theorem blk_set (p : Dev nD) : (blkV p).view.set = (blkR p).set := View.set_slice_whole _ _
theorem slot_set (p : Dev nD) : (slotV p).view.set = (slotR p).set :=
  (View.set_reshape _ _).trans (View.set_slice_whole _ _)

theorem blk_disjoint {p q : Dev nD} (h : p ≠ q) : Disjoint (blkV p).view.set (blkV q).view.set := by
  rw [blk_set, blk_set]
  have hne : p.val ≠ q.val := fun e => h (Fin.ext e)
  exact Rect.unit_disjoint (s := S256x512) (0 : Fin 2) (by show 8 * p.val + 8 ≤ 8 * q.val ∨ 8 * q.val + 8 ≤ 8 * p.val; omega)
theorem slot_disjoint {p q : Dev nD} (h : p ≠ q) : Disjoint (slotV p).view.set (slotV q).view.set := by
  rw [slot_set, slot_set]
  have hne : p.val ≠ q.val := fun e => h (Fin.ext e)
  exact Rect.unit_disjoint (s := S32x8x512) (0 : Fin 3) (by show p.val + 1 ≤ q.val ∨ q.val + 1 ≤ p.val; omega)

theorem blk_cover : (Finset.univ : Finset (Dev nD)).biUnion (fun p => (blkV p).view.set) = (Finset.univ : Finset S256x512.Idx) := by
  ext i
  simp only [Finset.mem_biUnion, Finset.mem_univ, true_and, iff_true]
  have h0 : (i 0).val < 256 := (i 0).isLt
  refine ⟨⟨(i 0).val / 8, by show _ < 32; omega⟩, ?_⟩
  rw [blk_set, Rect.mem_set_unit]
  intro a
  match a with
  | ⟨0, _⟩ => show 8 * ((i 0).val / 8) ≤ (i 0).val ∧ (i 0).val < 8 * ((i 0).val / 8) + 8; omega
  | ⟨1, _⟩ => exact ⟨Nat.zero_le _, by show (i 1).val < 0 + 512; have : (i 1).val < 512 := (i 1).isLt; omega⟩
theorem slot_cover : (Finset.univ : Finset (Dev nD)).biUnion (fun p => (slotV p).view.set) = (Finset.univ : Finset S32x8x512.Idx) := by
  ext i
  simp only [Finset.mem_biUnion, Finset.mem_univ, true_and, iff_true]
  refine ⟨(⟨(i 0).val, (i 0).isLt⟩ : Dev nD), ?_⟩
  rw [slot_set, Rect.mem_set_unit]
  intro a
  match a with
  | ⟨0, _⟩ => show (i 0).val ≤ (i 0).val ∧ (i 0).val < (i 0).val + 1; omega
  | ⟨1, _⟩ => exact ⟨Nat.zero_le _, by show (i 1).val < 0 + 8; have : (i 1).val < 8 := (i 1).isLt; omega⟩
  | ⟨2, _⟩ => exact ⟨Nat.zero_le _, by show (i 2).val < 0 + 512; have : (i 2).val < 512 := (i 2).isLt; omega⟩

/-! ## A whole buffer as its blocks, and as its slots -/

abbrev accPts (d : Dev nD) (f : (cc0_scratch0 : Ref sig .tc).ty.Contents (Elt F)) : sProp 𝕄 :=
  ((d : Thread nD τ).loc cc0_scratch0) ↦{fullShare} f
abbrev rsPts (d : Dev nD) (f : (cc0_scratch3 : Ref sig .tc).ty.Contents (Elt F)) : sProp 𝕄 :=
  ((d : Thread nD τ).loc cc0_scratch3) ↦{fullShare} f

theorem acc_split (d : Dev nD) (f) : (accPts (F := F) d f) = bigSep Finset.univ fun p => blkPts d p fullShare f := by
  have h := pointsTo_biUnion (Ix := Unit) (Name := ℕ) (U := UU) (Lvl := ℕ) (q := fullShare) (ℓ := (d : Thread nD τ).loc cc0_scratch0) (f := f)
    (Finset.univ : Finset (Dev nD)) (fun p => (blkV p).view.set) (fun p _ q _ hpq => blk_disjoint hpq)
  rw [blk_cover] at h
  exact h
theorem rs_split (d : Dev nD) (f) : (rsPts (F := F) d f) = bigSep Finset.univ fun p => slotPts d p f := by
  have h := pointsTo_biUnion (Ix := Unit) (Name := ℕ) (U := UU) (Lvl := ℕ) (q := fullShare) (ℓ := (d : Thread nD τ).loc cc0_scratch3) (f := f)
    (Finset.univ : Finset (Dev nD)) (fun p => (slotV p).view.set) (fun p _ q _ hpq => slot_disjoint hpq)
  rw [slot_cover] at h
  exact h

/-- Contents off the block, or the slot, do not matter. -/
theorem blkPts_congr (d p : Dev nD) (q) {f g : (cc0_scratch0 : Ref sig .tc).ty.Contents (Elt F)} (h : ∀ a b, f (blkIx p a b) = g (blkIx p a b)) :
    blkPts (F := F) d p q f = blkPts d p q g := by
  unfold blkPts
  refine pointsTo_congr fun i hi => ?_
  obtain ⟨x, -, rfl⟩ := Finset.mem_map.mp hi
  obtain ⟨a, b, rfl⟩ : ∃ (a : Fin 8) (b : Fin 512), x = (ix2 a b : S8x512.Idx) := ⟨x 0, x 1, eq_ix2 x⟩
  rw [blkV_emb]; exact h _ _
theorem slotPts_congr (d p : Dev nD) {f g : (cc0_scratch3 : Ref sig .tc).ty.Contents (Elt F)} (h : ∀ a b, f (ix3 p a b) = g (ix3 p a b)) :
    slotPts (F := F) d p f = slotPts d p g := by
  unfold slotPts
  refine pointsTo_congr fun i hi => ?_
  obtain ⟨x, -, rfl⟩ := Finset.mem_map.mp hi
  obtain ⟨a, b, rfl⟩ : ∃ (a : Fin 8) (b : Fin 512), x = (ix2 a b : S8x512.Idx) := ⟨x 0, x 1, eq_ix2 x⟩
  rw [slotV_emb]; exact h _ _

/-! ## What a transfer leaves -/

/-- Row block `p` of the partial result of `c`, written into slot `c`: the slot of `p`'s full exchange buffer. -/
theorem rs_landed (d c p : Dev nD) (fd : (cc0_scratch3 : Ref sig .tc).ty.Contents (Elt F)) :
    slotPts (F := F) d c ((slotV c).view.write (Elt F) fd ((blkV p).view.read (Elt F) (A0 m c)) Finset.univ) = slotPts d c (R0 m p) :=
  slotPts_congr d c fun a b => by
    rw [← slotV_emb c a b, View.write_emb_of_mem _ _ (Finset.mem_univ _), View.read_apply, blkV_emb, slotV_emb]
    rfl
/-- A row block copied to the same row block. -/
theorem ag_landed (d c : Dev nD) (q) (fd f : (cc0_scratch0 : Ref sig .tc).ty.Contents (Elt F)) :
    blkPts (F := F) d c q ((blkV c).view.write (Elt F) fd ((blkV c).view.read (Elt F) f) Finset.univ) = blkPts d c q f :=
  blkPts_congr d c q fun a b => by
    rw [← blkV_emb c a b, View.write_emb_of_mem _ _ (Finset.mem_univ _), View.read_apply]
    rfl

/-! ## Loads and stores of one block, of one slot -/

theorem read_blk (p : Dev nD) (f : (cc0_scratch0 : Ref sig .tc).ty.Contents (Elt F)) (a : Fin 8) (b : Fin 512) :
    (accM.view.readAt (Elt F) (blkR p).toLoadRect f : Vec F S8x512 .f32) (ix2 a b) = f (blkIx p a b) := by
  rw [View.readAt_rect, View.read_apply]
  exact congrArg f (blkV_emb p a b)

theorem slot_access_emb (p : Dev nD) (a : Fin 8) (b : Fin 512) :
    (rsM.access (slotR p)).emb (ix3 (0 : Fin 1) a b : S1x8x512.Idx) = (ix3 p a b : S32x8x512.Idx) := by
  funext ax; apply Fin.ext
  match ax with
  | ⟨0, _⟩ => show p.val + 1 * 0 = p.val; omega
  | ⟨1, _⟩ => show 0 + 1 * a.val = a.val; omega
  | ⟨2, _⟩ => show 0 + 1 * b.val = b.val; omega
theorem slot_access_set (p : Dev nD) : (rsM.access (slotR p)).setOn Finset.univ = (slotV p).view.set :=
  (View.set_reshape _ _).symm
theorem blk_access_set (p : Dev nD) : (accM.access (blkR p)).setOn Finset.univ = (blkV p).view.set := rfl

theorem pay23_apply (v : Vec F S8x512 .f32) (a : Fin 8) (b : Fin 512) : k0_pay23 v (ix3 (0 : Fin 1) a b) = v (ix2 a b) := by
  unfold k0_pay23
  show shapeCast S1x8x512 (shapeCast S1x8x512 v _) _ _ = _
  rw [shapeCast_self]
  exact shapeCast_ab_1ab_apply v _ _ _ _

/-- The own row block stored into the own slot. -/
theorem own_slot (d c : Dev nD) (f : (cc0_scratch3 : Ref sig .tc).ty.Contents (Elt F)) :
    slotPts (F := F) d c ((rsM.access (slotR c)).write (Elt F) f (k0_pay23 (accM.view.readAt (Elt F) (blkR c).toLoadRect (A0 m c))) Finset.univ)
      = slotPts d c (R0 m c) :=
  slotPts_congr d c fun a b => by
    rw [← slot_access_emb c a b, View.write_emb_of_mem _ _ (Finset.mem_univ _), pay23_apply, read_blk, slot_access_emb]
    rfl
/-- The sum of the slots stored into the own row block. -/
theorem own_blk (d c : Dev nD) (q) (f : (cc0_scratch0 : Ref sig .tc).ty.Contents (Elt F)) :
    blkPts (F := F) d c q ((accM.access (blkR c)).write (Elt F) f (k0_pay24 (R0 m c)) Finset.univ) = blkPts d c q (A1 m) :=
  blkPts_congr d c q fun a b => by
    have e : (accM.access (blkR c)).emb (ix2 a b : S8x512.Idx) = blkIx c a b := blkV_emb c a b
    rw [← e, View.write_emb_of_mem _ _ (Finset.mem_univ _), e]
    show k0_pay24 (R0 m c) (ix2 a b) = A1 m (blkIx c a b)
    unfold A1
    have ha := a.isLt
    have h1 : (⟨(8 * c.val + a.val) / 8, by have := dev_lt c; show _ < 32; omega⟩ : Dev nD) = c := Fin.ext (by show (8 * c.val + a.val) / 8 = c.val; omega)
    have h2 : (⟨(8 * c.val + a.val) % 8, Nat.mod_lt _ (by decide)⟩ : Fin 8) = a := Fin.ext (by show (8 * c.val + a.val) % 8 = a.val; omega)
    show _ = k0_pay24 (R0 m (⟨(8 * c.val + a.val) / 8, _⟩ : Dev nD)) (ix2 (⟨(8 * c.val + a.val) % 8, _⟩ : Fin 8) b)
    rw [h1, h2]

end Cert.AttnProof
-- ==== Proof.Steps.lean ====
/-
The steps of the exchanging phases: one signal, one transfer, one wait of each kind, from phase state to phase state. A phase
state lists what the device owns when `r` of the phase's steps are done.
-/
module

public import proofs.«01_k».proof.Proof.Tri
public import proofs.«01_k».proof.Proof.Geom

@[expose] public section

noncomputable section

namespace Cert.AttnProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (K : Dev nD × CK → ℕ) (c : Dev nD)

/-! ## Phase states -/

/-- `r` barrier signals sent: for each remaining one, its token and the slot it hands over. -/
def SigSt (r : ℕ) : sProp 𝕄 :=
  iprop(Ow c (Ob c r 0 0) ∗ bigSep (Finset.Ico r 31) fun i => iprop(dutyTok ER (bar (pr c i)) 0 c ∗ ∃ f, slotPts c (pr c i) f))

/-- `r` row blocks sent. -/
def RSst (r : ℕ) : sProp 𝕄 :=
  iprop(Ow c (Ob c 31 r 0)
    ∗ (bigSep (Finset.Ico r 31) fun i => iprop(blkPts c (pr c i) fullShare (A0 m c) ∗ (∃ f, slotPts (pr c i) c f)
        ∗ dutyTok ER (xc c 0 (pr 0 i)) 0 0 ∗ dutyTok ER (xc (pr c i) 1 c) 0 0))
    ∗ bigSep (Finset.range r) fun i => cred (tallyAt (xc c 0 (pr 0 i)) () N))

/-- `r` row blocks received. -/
def RRst (r : ℕ) : sProp 𝕄 :=
  iprop(Ow c (Ob c 31 31 0)
    ∗ (bigSep (Finset.Ico r 31) fun i => iprop(cred (tallyAt (xc c 1 (pr c i)) () N) ∗ atPos ER (xc c 1 (pr c i)) 0 ∅ 0))
    ∗ bigSep (Finset.range r) fun i => iprop(atPos ER (xc c 1 (pr c i)) 1 ∅ 0 ∗ slotPts c (pr c i) (R0 m c) ∗ blkPts (pr c i) c fullShare (A0 m (pr c i))))

/-- `r` results sent. -/
def AGst (r : ℕ) : sProp 𝕄 :=
  iprop(Ow c (Ob c 31 31 r)
    ∗ (bigSep (Finset.Ico r 31) fun i => iprop(blkPts c c (shareTokN fullShare i) (A1 m) ∗ (∃ f, blkPts (pr c i) c fullShare f)
        ∗ dutyTok ER (xc c 2 (pr 0 i)) 0 0 ∗ dutyTok ER (xc (pr c i) 3 c) 0 0))
    ∗ bigSep (Finset.range r) fun i => cred (tallyAt (xc c 2 (pr 0 i)) () N))

/-- `r` results received. -/
def ARst (r : ℕ) : sProp 𝕄 :=
  iprop(Ow c (Ob c 31 31 31)
    ∗ (bigSep (Finset.Ico r 31) fun i => iprop(cred (tallyAt (xc c 3 (pr c i)) () N) ∗ atPos ER (xc c 3 (pr c i)) 0 ∅ 0))
    ∗ bigSep (Finset.range r) fun i => iprop(atPos ER (xc c 3 (pr c i)) 1 ∅ 0 ∗ blkPts c (pr c i) fullShare (A1 m)))

/-- `r` row-block sends and `s` result sends waited for. -/
def SWst (r s : ℕ) : sProp 𝕄 :=
  iprop(Ow c (Ob c 31 31 31)
    ∗ ((bigSep (Finset.Ico r 31) fun i => iprop(cred (tallyAt (xc c 0 (pr 0 i)) () N) ∗ atPos ER (xc c 0 (pr 0 i)) 0 ∅ 0))
      ∗ bigSep (Finset.range r) fun i => atPos ER (xc c 0 (pr 0 i)) 1 ∅ 0)
    ∗ ((bigSep (Finset.Ico s 31) fun i => iprop(cred (tallyAt (xc c 2 (pr 0 i)) () N) ∗ atPos ER (xc c 2 (pr 0 i)) 0 ∅ 0))
      ∗ bigSep (Finset.range s) fun i => iprop(atPos ER (xc c 2 (pr 0 i)) 1 ∅ 0 ∗ blkPts c c (shareTokN fullShare i) (A1 m))))

variable {m K c}

theorem range_succ (r : ℕ) (Φ : ℕ → sProp 𝕄) : bigSep (Finset.range (r + 1)) Φ = iprop(Φ r ∗ bigSep (Finset.range r) Φ) := bigSep_range_succ r Φ

/-! ## The barrier -/

/-- One barrier signal. -/
theorem step_sig {r : ℕ} (hr : r < 31) {n : Dev nD} (hn : n = pr c r) :
    Tri m K c (SigSt c r) (semSignalWord n barS 1#32) (fun _ => SigSt c (r + 1)) := by
  subst hn
  unfold Tri SigSt Ow semSignalWord
  rw [bigSep_Ico_bot hr, Ob_s c 0 0 hr]
  iintro ⟨#HR, ⟨%W, HO⟩, ⟨Ht, Hs⟩, Hrest⟩
  iapply (Rounds.wp_signal 𝒱₀ ER (Rd m) (c : Thread nD τ) none (dst := (pr c r : Thread nD τ)) (κ := K (pr c r, Sum.inl ()))
      (d := c) (by rw [duties_bar]; exact Finset.mem_erase.mpr ⟨(pr_ne c hr).symm, Finset.mem_univ _⟩) ((amount_bar m (pr c r) c).trans (by decide)) () (Ob c (r + 1) 0 0) rfl)
    $$ [HO Ht Hs]
  · isplitr; · iapply (Recs_inv m K (pr c r, Sum.inl ())); iexact HR
    isplitl [HO]; · iexact HO
    isplitl [Ht]; · iexact Ht
    isplitl [Hs]; · rw [payload_bar]; iexact Hs
    iapply (Recs_reached m K (pr c r, Sum.inl ())); iexact HR
  iintro HO
  rw [wp_ret]; imodintro
  isplitl [HO]; · iexists W; iexact HO
  iexact Hrest

/-- The barrier wait: a slot of every peer's exchange buffer. -/
theorem step_bar :
    Tri m K c iprop(Ow c (Ob c 31 0 0) ∗ cred (tallyAt (bar c) () 31) ∗ atPos ER (bar c) 0 ∅ 0) (semWaitWord barS 31#32)
      (fun _ => iprop(Ow c (Ob c 31 0 0) ∗ atPos ER (bar c) 1 ∅ 0 ∗ bigSep (Finset.range 31) fun i => iprop(∃ f, slotPts (F := F) (pr c i) c f))) :=
  Tri.wait (α := PUnit) (Sum.inl ()) rfl (wpE_semWait_eq 𝒱₀ (c : Thread nD τ) none Set.univ) (by rw [expect_bar]) 31 0 0
    (Or.inr (Or.inl ⟨rfl, rfl⟩)) (rest_bar m c)

/-! ## The exchange of row blocks -/

/-- One row block sent: it lands in the peer's slot, and the block itself goes along. -/
theorem step_rs {r : ℕ} (hr : r < 31) {n : Dev nD} (hn : n = pr c r) {o1 : Fin 2 → ℕ} (ho1 : o1 = ![8 * (pr c r).val, 0])
    {o2 : Fin 3 → ℕ} (ho2 : o2 = ![c.val, 0, 0]) {sS sR : DmaSem sig} (hS : sS = xS 0 (pr 0 r)) (hR : sR = xS 1 c)
    {h1 : ∀ a, o1 a + S8x512.size a ≤ S256x512.size a} {h2 : ∀ a, o2 a + S1x8x512.size a ≤ S32x8x512.size a}
    {hsc : ((rsM.slice (Rect.unit (s := S32x8x512) o2 S1x8x512.size h2) (fun _ => rfl)).squeeze S8x512 squeezes_S1x8x512_S8x512 : Memref sig (Dev.tc n : Thread nD τ).2.kind .vmem S8x512 .f32).view.ref.isScScratch = false}
    {hsrc : (accM.slice (Rect.unit (s := S256x512) o1 S8x512.size h1) (fun _ => rfl)).view.WordExact}
    {hdst : ((rsM.slice (Rect.unit (s := S32x8x512) o2 S1x8x512.size h2) (fun _ => rfl)).squeeze S8x512 squeezes_S1x8x512_S8x512).view.WordExact}
    {hsem : DmaTarget.Typed .vmem (.dma sR) (.remote (Dev.tc n : Thread nD τ) ((rsM.slice (Rect.unit (s := S32x8x512) o2 S1x8x512.size h2) (fun _ => rfl)).squeeze S8x512 squeezes_S1x8x512_S8x512) (.dma sS) hsc)} :
    Tri m K c (RSst m c r)
      (Prog.lift (.enqueueDma (accM.slice (Rect.unit (s := S256x512) o1 S8x512.size h1) (fun _ => rfl))
        (.remote (Dev.tc n : Thread nD τ) ((rsM.slice (Rect.unit (s := S32x8x512) o2 S1x8x512.size h2) (fun _ => rfl)).squeeze S8x512 squeezes_S1x8x512_S8x512) (.dma sS) hsc)
        (.dma sR) hsrc hdst hsem))
      (fun _ => RSst m c (r + 1)) := by
  subst hn ho1 ho2 hS hR
  unfold Tri RSst Ow Prog.lift
  rw [bigSep_Ico_bot hr, range_succ, Ob_t c 31 0 hr]
  iintro ⟨#HR, ⟨%W, HO⟩, ⟨⟨Hb, ⟨%fd, Hs⟩, Ht1, Ht2⟩, Hrest⟩, Hdone⟩
  unfold blkPts slotPts
  iapply (Rounds.wp_send_landing_pointsTo 𝒱₀ ER (Rd m) (c : Thread nD τ) none (c' := (Dev.tc (pr c r) : Thread nD τ)) (src := blkV (pr c r)) (dst := slotV c) (κ₁ := K (c, Sum.inr (Sum.inr (0, pr 0 r)))) (κ₂ := K (pr c r, Sum.inr (Sum.inr (1, c))))
      (r₁ := 0) (r₂ := 0) (d₁ := 0) (d₂ := 0) (fd := fd) (fs := A0 m c) (q := fullShare)
      (by rw [duties_x, xDuties_send c (Or.inl rfl) hr]; exact Finset.mem_singleton_self _)
      (by rw [duties_x, xDuties_recv (pr c r) (Or.inl rfl) (pr_ne c hr).symm]; exact Finset.mem_singleton_self _)
      () () N rfl (amount_x m c 0 (pr 0 r) 0) (amount_x m (pr c r) 1 c 0) (Ob c 31 (r + 1) 0) rfl (W := W)
      (by rw [payload_x0]) (by
        rw [payload_x1]; refine sep_mono_left (Entails.of_eq ?_)
        exact rs_landed m (pr c r) c (pr c r) fd)) $$ [Hb Hs HO Ht1 Ht2]
  · isplitr; · iapply (Recs_inv m K (c, Sum.inr (Sum.inr (0, pr 0 r)))); iexact HR
    isplitr; · iapply (Recs_inv m K (pr c r, Sum.inr (Sum.inr (1, c)))); iexact HR
    isplitl [Hb]; · iexact Hb
    isplitl [Hs]; · iexact Hs
    isplitl [HO]; · iexact HO
    isplitl [Ht1]; · iexact Ht1
    isplitr; · iapply (Recs_reached m K (c, Sum.inr (Sum.inr (0, pr 0 r)))); iexact HR
    isplitl [Ht2]; · iexact Ht2
    iapply (Recs_reached m K (pr c r, Sum.inr (Sum.inr (1, c)))); iexact HR
  iintro ⟨Hc, HO⟩
  rw [wp_ret]; imodintro
  isplitl [HO]; · iexists W; iexact HO
  isplitl [Hrest]; · iexact Hrest
  isplitl [Hc]; · iexact Hc
  iexact Hdone

/-- One row block received. -/
theorem step_rr {r : ℕ} (hr : r < 31) {sR : DmaSem sig} (hR : sR = xS 1 (pr c r)) {sp sp' : Space} {s s' : Shape} {e e' : EltTy}
    {src : Memref sig .tc sp s e} {dst : Memref sig .tc sp' s' e'} {hsrc : src.view.WordExact} {hdst : dst.view.WordExact} (hN : dst.view.dmaCredit = N) :
    Tri m K c (RRst m c r) (Prog.lift (.waitDma2 sR src dst hsrc hdst)) (fun _ => RRst m c (r + 1)) := by
  subst hR
  unfold RRst
  rw [bigSep_Ico_bot hr, range_succ]
  have hd := xDuties_recv c (a := 1) (Or.inl rfl) (pr_ne c hr)
  have h := Tri.wait (α := PUnit) (F := F) (m := m) (K := K) (c := c) (w := .waitDma2 (xS 1 (pr c r)) src dst hsrc hdst) (k' := N) (Sum.inr (Sum.inr (1, pr c r))) rfl
    (by rw [← hN]; exact wpE_waitDma2_eq 𝒱₀ (c : Thread nD τ) none Set.univ) (expect_x m c 1 (pr c r) hd) 31 31 0
    (Or.inr (Or.inr (Or.inl ⟨lvS_x1 _, rfl, rfl⟩))) ((rest_x m c 1 (pr c r) hd).trans (payload_x1 m c (pr c r) 0))
  refine ((h.frame iprop((bigSep (Finset.Ico (r + 1) 31) fun i => iprop(cred (tallyAt (xc c 1 (pr c i)) () N) ∗ atPos ER (xc c 1 (pr c i)) 0 ∅ 0))
    ∗ bigSep (Finset.range r) fun i => iprop(atPos ER (xc c 1 (pr c i)) 1 ∅ 0 ∗ slotPts c (pr c i) (R0 m c) ∗ blkPts (pr c i) c fullShare (A0 m (pr c i))))).pre ?_).post fun _ => ?_
  · iintro ⟨HO, ⟨⟨Hc, Ha⟩, Hrest⟩, Hdone⟩
    isplitl [HO Hc Ha]
    · isplitl [HO]; · iexact HO
      isplitl [Hc] <;> iassumption
    isplitl [Hrest] <;> iassumption
  · iintro ⟨⟨HO, Ha, HY⟩, Hrest, Hdone⟩
    isplitl [HO]; · iexact HO
    isplitl [Hrest]; · iexact Hrest
    isplitr [Hdone]
    · isplitl [Ha]; · iexact Ha
      iexact HY
    iexact Hdone

/-! ## The exchange of results -/

/-- One result sent, from a share of the row block. -/
theorem step_ag {r : ℕ} (hr : r < 31) {n : Dev nD} (hn : n = pr c r) {o1 : Fin 2 → ℕ} (ho1 : o1 = ![8 * c.val, 0])
    {sS sR : DmaSem sig} (hS : sS = xS 2 (pr 0 r)) (hR : sR = xS 3 c)
    {h1 : ∀ a, o1 a + S8x512.size a ≤ S256x512.size a} {h2 : ∀ a, o1 a + S8x512.size a ≤ S256x512.size a}
    {hsc : (accM.slice (Rect.unit (s := S256x512) o1 S8x512.size h2) (fun _ => rfl) : Memref sig (Dev.tc n : Thread nD τ).2.kind .vmem S8x512 .f32).view.ref.isScScratch = false}
    {hsrc : (accM.slice (Rect.unit (s := S256x512) o1 S8x512.size h1) (fun _ => rfl)).view.WordExact}
    {hdst : (accM.slice (Rect.unit (s := S256x512) o1 S8x512.size h2) (fun _ => rfl)).view.WordExact}
    {hsem : DmaTarget.Typed .vmem (.dma sR) (.remote (Dev.tc n : Thread nD τ) (accM.slice (Rect.unit (s := S256x512) o1 S8x512.size h2) (fun _ => rfl)) (.dma sS) hsc)} :
    Tri m K c (AGst m c r)
      (Prog.lift (.enqueueDma (accM.slice (Rect.unit (s := S256x512) o1 S8x512.size h1) (fun _ => rfl))
        (.remote (Dev.tc n : Thread nD τ) (accM.slice (Rect.unit (s := S256x512) o1 S8x512.size h2) (fun _ => rfl)) (.dma sS) hsc)
        (.dma sR) hsrc hdst hsem))
      (fun _ => AGst m c (r + 1)) := by
  subst hn ho1 hS hR
  unfold Tri AGst Ow Prog.lift
  rw [bigSep_Ico_bot hr, range_succ, Ob_u c 31 31 hr]
  iintro ⟨#HR, ⟨%W, HO⟩, ⟨⟨Hb, ⟨%fd, Hs⟩, Ht1, Ht2⟩, Hrest⟩, Hdone⟩
  have hv : (pr 0 r).val - 1 = r := by rw [pr_val]; show (0 + 1 + r) % 32 - 1 = r; omega
  unfold blkPts
  iapply (Rounds.wp_send_pointsTo 𝒱₀ ER (Rd m) (c : Thread nD τ) none (c' := (Dev.tc (pr c r) : Thread nD τ)) (src := blkV c) (dst := blkV c) (κ₁ := K (c, Sum.inr (Sum.inr (2, pr 0 r)))) (κ₂ := K (pr c r, Sum.inr (Sum.inr (3, c))))
      (r₁ := 0) (r₂ := 0) (d₁ := 0) (d₂ := 0) (fd := fd) (fs := A1 m) (q := shareTokN fullShare r)
      (by rw [duties_x, xDuties_send c (Or.inr rfl) hr]; exact Finset.mem_singleton_self _)
      (by rw [duties_x, xDuties_recv (pr c r) (Or.inr rfl) (pr_ne c hr).symm]; exact Finset.mem_singleton_self _)
      () () N rfl (amount_x m c 2 (pr 0 r) 0) (amount_x m (pr c r) 3 c 0) (Ob c 31 31 (r + 1)) rfl (W := W)
      (by rw [payload_x2, hv]; exact BI.Entails.refl _) (by
        rw [payload_x3]
        exact Entails.of_eq (ag_landed (pr c r) c fullShare fd (A1 m)))) $$ [Hb Hs HO Ht1 Ht2]
  · isplitr; · iapply (Recs_inv m K (c, Sum.inr (Sum.inr (2, pr 0 r)))); iexact HR
    isplitr; · iapply (Recs_inv m K (pr c r, Sum.inr (Sum.inr (3, c)))); iexact HR
    isplitl [Hb]; · iexact Hb
    isplitl [Hs]; · iexact Hs
    isplitl [HO]; · iexact HO
    isplitl [Ht1]; · iexact Ht1
    isplitr; · iapply (Recs_reached m K (c, Sum.inr (Sum.inr (2, pr 0 r)))); iexact HR
    isplitl [Ht2]; · iexact Ht2
    iapply (Recs_reached m K (pr c r, Sum.inr (Sum.inr (3, c)))); iexact HR
  iintro ⟨Hc, HO⟩
  rw [wp_ret]; imodintro
  isplitl [HO]; · iexists W; iexact HO
  isplitl [Hrest]; · iexact Hrest
  isplitl [Hc]; · iexact Hc
  iexact Hdone

/-- One result received. -/
theorem step_ar {r : ℕ} (hr : r < 31) {sR : DmaSem sig} (hR : sR = xS 3 (pr c r)) {sp sp' : Space} {s s' : Shape} {e e' : EltTy}
    {src : Memref sig .tc sp s e} {dst : Memref sig .tc sp' s' e'} {hsrc : src.view.WordExact} {hdst : dst.view.WordExact} (hN : dst.view.dmaCredit = N) :
    Tri m K c (ARst m c r) (Prog.lift (.waitDma2 sR src dst hsrc hdst)) (fun _ => ARst m c (r + 1)) := by
  subst hR
  unfold ARst
  rw [bigSep_Ico_bot hr, range_succ]
  have hd := xDuties_recv c (a := 3) (Or.inr rfl) (pr_ne c hr)
  have h := Tri.wait (α := PUnit) (F := F) (m := m) (K := K) (c := c) (w := .waitDma2 (xS 3 (pr c r)) src dst hsrc hdst) (k' := N) (Sum.inr (Sum.inr (3, pr c r))) rfl
    (by rw [← hN]; exact wpE_waitDma2_eq 𝒱₀ (c : Thread nD τ) none Set.univ) (expect_x m c 3 (pr c r) hd) 31 31 31
    (Or.inr (Or.inr (Or.inr ⟨rfl, rfl, rfl⟩))) ((rest_x m c 3 (pr c r) hd).trans (payload_x3 m c (pr c r) 0))
  refine ((h.frame iprop((bigSep (Finset.Ico (r + 1) 31) fun i => iprop(cred (tallyAt (xc c 3 (pr c i)) () N) ∗ atPos ER (xc c 3 (pr c i)) 0 ∅ 0))
    ∗ bigSep (Finset.range r) fun i => iprop(atPos ER (xc c 3 (pr c i)) 1 ∅ 0 ∗ blkPts c (pr c i) fullShare (A1 m)))).pre ?_).post fun _ => ?_
  · iintro ⟨HO, ⟨⟨Hc, Ha⟩, Hrest⟩, Hdone⟩
    isplitl [HO Hc Ha]
    · isplitl [HO]; · iexact HO
      isplitl [Hc] <;> iassumption
    isplitl [Hrest] <;> iassumption
  · iintro ⟨⟨HO, Ha, HY⟩, Hrest, Hdone⟩
    isplitl [HO]; · iexact HO
    isplitl [Hrest]; · iexact Hrest
    isplitr [Hdone]
    · isplitl [Ha]; · iexact Ha
      iexact HY
    iexact Hdone

/-! ## The sends waited for -/

theorem step_sw0 {r s : ℕ} (hr : r < 31) {sS : DmaSem sig} (hS : sS = xS 0 (pr 0 r)) {sp sp' : Space} {s1 s1' : Shape} {e e' : EltTy}
    {src : Memref sig .tc sp s1 e} {dst : Memref sig .tc sp' s1' e'} {hsrc : src.view.WordExact} {hdst : dst.view.WordExact} (hN : dst.view.dmaCredit = N) :
    Tri m K c (SWst m c r s) (Prog.lift (.waitDma2 sS src dst hsrc hdst)) (fun _ => SWst m c (r + 1) s) := by
  subst hS
  unfold SWst
  rw [bigSep_Ico_bot hr, range_succ]
  have hd := xDuties_send c (a := 0) (Or.inl rfl) hr
  have h := Tri.wait (α := PUnit) (F := F) (m := m) (K := K) (c := c) (w := .waitDma2 (xS 0 (pr 0 r)) src dst hsrc hdst) (k' := N) (Sum.inr (Sum.inr (0, pr 0 r))) rfl
    (by rw [← hN]; exact wpE_waitDma2_eq 𝒱₀ (c : Thread nD τ) none Set.univ) (expect_x m c 0 (pr 0 r) hd) 31 31 31
    (Or.inr (Or.inr (Or.inr ⟨rfl, rfl, rfl⟩))) ((rest_x m c 0 (pr 0 r) hd).trans (payload_x0 m c (pr 0 r) 0))
  refine ((h.frame iprop((bigSep (Finset.Ico (r + 1) 31) fun i => iprop(cred (tallyAt (xc c 0 (pr 0 i)) () N) ∗ atPos ER (xc c 0 (pr 0 i)) 0 ∅ 0))
    ∗ (bigSep (Finset.range r) fun i => atPos ER (xc c 0 (pr 0 i)) 1 ∅ 0)
    ∗ ((bigSep (Finset.Ico s 31) fun i => iprop(cred (tallyAt (xc c 2 (pr 0 i)) () N) ∗ atPos ER (xc c 2 (pr 0 i)) 0 ∅ 0))
      ∗ bigSep (Finset.range s) fun i => iprop(atPos ER (xc c 2 (pr 0 i)) 1 ∅ 0 ∗ blkPts c c (shareTokN fullShare i) (A1 m))))).pre ?_).post fun _ => ?_
  · iintro ⟨HO, ⟨⟨⟨Hc, Ha⟩, Hrest⟩, Hdone⟩, Hs⟩
    isplitl [HO Hc Ha]
    · isplitl [HO]; · iexact HO
      isplitl [Hc] <;> iassumption
    isplitl [Hrest]; · iexact Hrest
    isplitl [Hdone] <;> iassumption
  · iintro ⟨⟨HO, Ha, -⟩, Hrest, Hdone, Hs⟩
    isplitl [HO]; · iexact HO
    isplitr [Hs]
    · isplitl [Hrest]; · iexact Hrest
      isplitl [Ha] <;> iassumption
    iexact Hs

theorem step_sw2 {r s : ℕ} (hr : s < 31) {sS : DmaSem sig} (hS : sS = xS 2 (pr 0 s)) {sp sp' : Space} {s1 s1' : Shape} {e e' : EltTy}
    {src : Memref sig .tc sp s1 e} {dst : Memref sig .tc sp' s1' e'} {hsrc : src.view.WordExact} {hdst : dst.view.WordExact} (hN : dst.view.dmaCredit = N) :
    Tri m K c (SWst m c r s) (Prog.lift (.waitDma2 sS src dst hsrc hdst)) (fun _ => SWst m c r (s + 1)) := by
  subst hS
  unfold SWst
  rw [bigSep_Ico_bot hr, range_succ s]
  have hd := xDuties_send c (a := 2) (Or.inr rfl) hr
  have hv : (pr 0 s).val - 1 = s := by rw [pr_val]; show (0 + 1 + s) % 32 - 1 = s; omega
  have h := Tri.wait (α := PUnit) (F := F) (m := m) (K := K) (c := c) (w := .waitDma2 (xS 2 (pr 0 s)) src dst hsrc hdst) (k' := N) (Sum.inr (Sum.inr (2, pr 0 s))) rfl
    (by rw [← hN]; exact wpE_waitDma2_eq 𝒱₀ (c : Thread nD τ) none Set.univ) (expect_x m c 2 (pr 0 s) hd) 31 31 31
    (Or.inr (Or.inr (Or.inr ⟨rfl, rfl, rfl⟩))) ((rest_x m c 2 (pr 0 s) hd).trans ((payload_x2 m c (pr 0 s) 0).trans (by rw [hv])))
  refine ((h.frame iprop(((bigSep (Finset.Ico r 31) fun i => iprop(cred (tallyAt (xc c 0 (pr 0 i)) () N) ∗ atPos ER (xc c 0 (pr 0 i)) 0 ∅ 0))
      ∗ bigSep (Finset.range r) fun i => atPos ER (xc c 0 (pr 0 i)) 1 ∅ 0)
    ∗ (bigSep (Finset.Ico (s + 1) 31) fun i => iprop(cred (tallyAt (xc c 2 (pr 0 i)) () N) ∗ atPos ER (xc c 2 (pr 0 i)) 0 ∅ 0))
    ∗ bigSep (Finset.range s) fun i => iprop(atPos ER (xc c 2 (pr 0 i)) 1 ∅ 0 ∗ blkPts c c (shareTokN fullShare i) (A1 m)))).pre ?_).post fun _ => ?_
  · iintro ⟨HO, Hs, ⟨⟨Hc, Ha⟩, Hrest⟩, Hdone⟩
    isplitl [HO Hc Ha]
    · isplitl [HO]; · iexact HO
      isplitl [Hc] <;> iassumption
    isplitl [Hs]; · iexact Hs
    isplitl [Hrest] <;> iassumption
  · iintro ⟨⟨HO, Ha, HY⟩, Hs, Hrest, Hdone⟩
    isplitl [HO]; · iexact HO
    isplitl [Hs]; · iexact Hs
    isplitl [Hrest]; · iexact Hrest
    isplitr [Hdone]
    · isplitl [Ha] <;> iassumption
    iexact Hdone

end Cert.AttnProof
-- ==== Proof.Facts.lean ====
/-
The devices, semaphores and offsets the kernel computes, as the steps name them.
-/
module

public import proofs.«01_k».proof.Proof.Proto

@[expose] public section

noncomputable section

namespace Cert.AttnProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-! ## Offsets -/

theorem off1 (c : Dev nD) : k0_off1 c = ![0, 256 * c.val] := k0_off1_eq c
theorem off2 (c : Dev nD) : k0_off2 c = ![256 * c.val, 0] := k0_off2_eq c
theorem off3 (c : Dev nD) : k0_off3 c = ![c.val] := k0_off3_eq c
theorem off4 (c : Dev nD) : k0_off4 c = ![c.val, 0, 0] := k0_off4_eq c
theorem off6 (c : Dev nD) : k0_off6 c = ![8 * c.val, 0] := k0_off6_eq c
theorem off7 (c : Dev nD) : k0_off7 c = ![c.val, 0, 0] := k0_off7_eq c
theorem off10 (c : Dev nD) : k0_off10 c = ![8 * c.val, 0] := k0_off10_eq c
theorem off5 (c : Dev nD) (i : Fin 31) : k0_off5 c (BitVec.ofNat 32 (1 + i.val)) = ![8 * (pr c i.val).val, 0] := by
  revert c i; decide +kernel
theorem off8 (c : Dev nD) (i : Fin 31) : k0_off8 c (BitVec.ofNat 32 (1 + i.val)) = ![(pr c i.val).val] := by
  revert c i; decide +kernel

/-! ## Semaphores: entry `j` of each array -/

theorem sem0 {o : Fin 1 → ℕ} {j : Dev nD} (ho : o = ![j.val]) {h : ∀ a, o a + S1.size a ≤ S32.size a} :
    ((cc0_scratch5.slice (Rect.unit (s := S32) o S1.size h)).squeeze S_ squeezes_S1_S_ : DmaSems sig S_).sem = xS 0 j := by
  subst ho; revert h; revert j; decide +kernel
theorem sem1 {o : Fin 1 → ℕ} {j : Dev nD} (ho : o = ![j.val]) {h : ∀ a, o a + S1.size a ≤ S32.size a} :
    ((cc0_scratch6.slice (Rect.unit (s := S32) o S1.size h)).squeeze S_ squeezes_S1_S_ : DmaSems sig S_).sem = xS 1 j := by
  subst ho; revert h; revert j; decide +kernel
theorem sem2 {o : Fin 1 → ℕ} {j : Dev nD} (ho : o = ![j.val]) {h : ∀ a, o a + S1.size a ≤ S32.size a} :
    ((cc0_scratch7.slice (Rect.unit (s := S32) o S1.size h)).squeeze S_ squeezes_S1_S_ : DmaSems sig S_).sem = xS 2 j := by
  subst ho; revert h; revert j; decide +kernel
theorem sem3 {o : Fin 1 → ℕ} {j : Dev nD} (ho : o = ![j.val]) {h : ∀ a, o a + S1.size a ≤ S32.size a} :
    ((cc0_scratch8.slice (Rect.unit (s := S32) o S1.size h)).squeeze S_ squeezes_S1_S_ : DmaSems sig S_).sem = xS 3 j := by
  subst ho; revert h; revert j; decide +kernel
theorem cpSem0 : ((cc0_scratch4.slice (Rect.unit (s := S2) ![0] S1.size inb_S2_S1_0)).squeeze S_ squeezes_S1_S_ : DmaSems sig S_).sem = cpS 0 := by
  decide +kernel
theorem cpSem1 : ((cc0_scratch4.slice (Rect.unit (s := S2) ![1] S1.size inb_S2_S1_1)).squeeze S_ squeezes_S1_S_ : DmaSems sig S_).sem = cpS 1 := by
  decide +kernel

/-! ## Devices addressed: the peer at distance `r` -/

theorem dev1 (c : Dev nD) : (⟨k0_dev1 c, k0_dev1_lt c⟩ : Dev nD) = pr c 0 := by revert c; decide +kernel
theorem dev2 (c : Dev nD) : (⟨k0_dev2 c, k0_dev2_lt c⟩ : Dev nD) = pr c 1 := by revert c; decide +kernel
theorem dev3 (c : Dev nD) : (⟨k0_dev3 c, k0_dev3_lt c⟩ : Dev nD) = pr c 2 := by revert c; decide +kernel
theorem dev4 (c : Dev nD) : (⟨k0_dev4 c, k0_dev4_lt c⟩ : Dev nD) = pr c 3 := by revert c; decide +kernel
theorem dev5 (c : Dev nD) : (⟨k0_dev5 c, k0_dev5_lt c⟩ : Dev nD) = pr c 4 := by revert c; decide +kernel
theorem dev6 (c : Dev nD) : (⟨k0_dev6 c, k0_dev6_lt c⟩ : Dev nD) = pr c 5 := by revert c; decide +kernel
theorem dev7 (c : Dev nD) : (⟨k0_dev7 c, k0_dev7_lt c⟩ : Dev nD) = pr c 6 := by revert c; decide +kernel
theorem dev8 (c : Dev nD) : (⟨k0_dev8 c, k0_dev8_lt c⟩ : Dev nD) = pr c 7 := by revert c; decide +kernel
theorem dev9 (c : Dev nD) : (⟨k0_dev9 c, k0_dev9_lt c⟩ : Dev nD) = pr c 8 := by revert c; decide +kernel
theorem dev10 (c : Dev nD) : (⟨k0_dev10 c, k0_dev10_lt c⟩ : Dev nD) = pr c 9 := by revert c; decide +kernel
theorem dev11 (c : Dev nD) : (⟨k0_dev11 c, k0_dev11_lt c⟩ : Dev nD) = pr c 10 := by revert c; decide +kernel
theorem dev12 (c : Dev nD) : (⟨k0_dev12 c, k0_dev12_lt c⟩ : Dev nD) = pr c 11 := by revert c; decide +kernel
theorem dev13 (c : Dev nD) : (⟨k0_dev13 c, k0_dev13_lt c⟩ : Dev nD) = pr c 12 := by revert c; decide +kernel
theorem dev14 (c : Dev nD) : (⟨k0_dev14 c, k0_dev14_lt c⟩ : Dev nD) = pr c 13 := by revert c; decide +kernel
theorem dev15 (c : Dev nD) : (⟨k0_dev15 c, k0_dev15_lt c⟩ : Dev nD) = pr c 14 := by revert c; decide +kernel
theorem dev16 (c : Dev nD) : (⟨k0_dev16 c, k0_dev16_lt c⟩ : Dev nD) = pr c 15 := by revert c; decide +kernel
theorem dev17 (c : Dev nD) : (⟨k0_dev17 c, k0_dev17_lt c⟩ : Dev nD) = pr c 16 := by revert c; decide +kernel
theorem dev18 (c : Dev nD) : (⟨k0_dev18 c, k0_dev18_lt c⟩ : Dev nD) = pr c 17 := by revert c; decide +kernel
theorem dev19 (c : Dev nD) : (⟨k0_dev19 c, k0_dev19_lt c⟩ : Dev nD) = pr c 18 := by revert c; decide +kernel
theorem dev20 (c : Dev nD) : (⟨k0_dev20 c, k0_dev20_lt c⟩ : Dev nD) = pr c 19 := by revert c; decide +kernel
theorem dev21 (c : Dev nD) : (⟨k0_dev21 c, k0_dev21_lt c⟩ : Dev nD) = pr c 20 := by revert c; decide +kernel
theorem dev22 (c : Dev nD) : (⟨k0_dev22 c, k0_dev22_lt c⟩ : Dev nD) = pr c 21 := by revert c; decide +kernel
theorem dev23 (c : Dev nD) : (⟨k0_dev23 c, k0_dev23_lt c⟩ : Dev nD) = pr c 22 := by revert c; decide +kernel
theorem dev24 (c : Dev nD) : (⟨k0_dev24 c, k0_dev24_lt c⟩ : Dev nD) = pr c 23 := by revert c; decide +kernel
theorem dev25 (c : Dev nD) : (⟨k0_dev25 c, k0_dev25_lt c⟩ : Dev nD) = pr c 24 := by revert c; decide +kernel
theorem dev26 (c : Dev nD) : (⟨k0_dev26 c, k0_dev26_lt c⟩ : Dev nD) = pr c 25 := by revert c; decide +kernel
theorem dev27 (c : Dev nD) : (⟨k0_dev27 c, k0_dev27_lt c⟩ : Dev nD) = pr c 26 := by revert c; decide +kernel
theorem dev28 (c : Dev nD) : (⟨k0_dev28 c, k0_dev28_lt c⟩ : Dev nD) = pr c 27 := by revert c; decide +kernel
theorem dev29 (c : Dev nD) : (⟨k0_dev29 c, k0_dev29_lt c⟩ : Dev nD) = pr c 28 := by revert c; decide +kernel
theorem dev30 (c : Dev nD) : (⟨k0_dev30 c, k0_dev30_lt c⟩ : Dev nD) = pr c 29 := by revert c; decide +kernel
theorem dev31 (c : Dev nD) : (⟨k0_dev31 c, k0_dev31_lt c⟩ : Dev nD) = pr c 30 := by revert c; decide +kernel
theorem dev32 (c : Dev nD) : (⟨k0_dev32 c, k0_dev32_lt c⟩ : Dev nD) = pr c 0 := by revert c; decide +kernel
theorem dev33 (c : Dev nD) : (⟨k0_dev33 c, k0_dev33_lt c⟩ : Dev nD) = pr c 1 := by revert c; decide +kernel
theorem dev34 (c : Dev nD) : (⟨k0_dev34 c, k0_dev34_lt c⟩ : Dev nD) = pr c 2 := by revert c; decide +kernel
theorem dev35 (c : Dev nD) : (⟨k0_dev35 c, k0_dev35_lt c⟩ : Dev nD) = pr c 3 := by revert c; decide +kernel
theorem dev36 (c : Dev nD) : (⟨k0_dev36 c, k0_dev36_lt c⟩ : Dev nD) = pr c 4 := by revert c; decide +kernel
theorem dev37 (c : Dev nD) : (⟨k0_dev37 c, k0_dev37_lt c⟩ : Dev nD) = pr c 5 := by revert c; decide +kernel
theorem dev38 (c : Dev nD) : (⟨k0_dev38 c, k0_dev38_lt c⟩ : Dev nD) = pr c 6 := by revert c; decide +kernel
theorem dev39 (c : Dev nD) : (⟨k0_dev39 c, k0_dev39_lt c⟩ : Dev nD) = pr c 7 := by revert c; decide +kernel
theorem dev40 (c : Dev nD) : (⟨k0_dev40 c, k0_dev40_lt c⟩ : Dev nD) = pr c 8 := by revert c; decide +kernel
theorem dev41 (c : Dev nD) : (⟨k0_dev41 c, k0_dev41_lt c⟩ : Dev nD) = pr c 9 := by revert c; decide +kernel
theorem dev42 (c : Dev nD) : (⟨k0_dev42 c, k0_dev42_lt c⟩ : Dev nD) = pr c 10 := by revert c; decide +kernel
theorem dev43 (c : Dev nD) : (⟨k0_dev43 c, k0_dev43_lt c⟩ : Dev nD) = pr c 11 := by revert c; decide +kernel
theorem dev44 (c : Dev nD) : (⟨k0_dev44 c, k0_dev44_lt c⟩ : Dev nD) = pr c 12 := by revert c; decide +kernel
theorem dev45 (c : Dev nD) : (⟨k0_dev45 c, k0_dev45_lt c⟩ : Dev nD) = pr c 13 := by revert c; decide +kernel
theorem dev46 (c : Dev nD) : (⟨k0_dev46 c, k0_dev46_lt c⟩ : Dev nD) = pr c 14 := by revert c; decide +kernel
theorem dev47 (c : Dev nD) : (⟨k0_dev47 c, k0_dev47_lt c⟩ : Dev nD) = pr c 15 := by revert c; decide +kernel
theorem dev48 (c : Dev nD) : (⟨k0_dev48 c, k0_dev48_lt c⟩ : Dev nD) = pr c 16 := by revert c; decide +kernel
theorem dev49 (c : Dev nD) : (⟨k0_dev49 c, k0_dev49_lt c⟩ : Dev nD) = pr c 17 := by revert c; decide +kernel
theorem dev50 (c : Dev nD) : (⟨k0_dev50 c, k0_dev50_lt c⟩ : Dev nD) = pr c 18 := by revert c; decide +kernel
theorem dev51 (c : Dev nD) : (⟨k0_dev51 c, k0_dev51_lt c⟩ : Dev nD) = pr c 19 := by revert c; decide +kernel
theorem dev52 (c : Dev nD) : (⟨k0_dev52 c, k0_dev52_lt c⟩ : Dev nD) = pr c 20 := by revert c; decide +kernel
theorem dev53 (c : Dev nD) : (⟨k0_dev53 c, k0_dev53_lt c⟩ : Dev nD) = pr c 21 := by revert c; decide +kernel
theorem dev54 (c : Dev nD) : (⟨k0_dev54 c, k0_dev54_lt c⟩ : Dev nD) = pr c 22 := by revert c; decide +kernel
theorem dev55 (c : Dev nD) : (⟨k0_dev55 c, k0_dev55_lt c⟩ : Dev nD) = pr c 23 := by revert c; decide +kernel
theorem dev56 (c : Dev nD) : (⟨k0_dev56 c, k0_dev56_lt c⟩ : Dev nD) = pr c 24 := by revert c; decide +kernel
theorem dev57 (c : Dev nD) : (⟨k0_dev57 c, k0_dev57_lt c⟩ : Dev nD) = pr c 25 := by revert c; decide +kernel
theorem dev58 (c : Dev nD) : (⟨k0_dev58 c, k0_dev58_lt c⟩ : Dev nD) = pr c 26 := by revert c; decide +kernel
theorem dev59 (c : Dev nD) : (⟨k0_dev59 c, k0_dev59_lt c⟩ : Dev nD) = pr c 27 := by revert c; decide +kernel
theorem dev60 (c : Dev nD) : (⟨k0_dev60 c, k0_dev60_lt c⟩ : Dev nD) = pr c 28 := by revert c; decide +kernel
theorem dev61 (c : Dev nD) : (⟨k0_dev61 c, k0_dev61_lt c⟩ : Dev nD) = pr c 29 := by revert c; decide +kernel
theorem dev62 (c : Dev nD) : (⟨k0_dev62 c, k0_dev62_lt c⟩ : Dev nD) = pr c 30 := by revert c; decide +kernel
theorem dev63 (c : Dev nD) : (⟨k0_dev63 c, k0_dev63_lt c⟩ : Dev nD) = pr c 0 := by revert c; decide +kernel
theorem dev64 (c : Dev nD) : (⟨k0_dev64 c, k0_dev64_lt c⟩ : Dev nD) = pr c 1 := by revert c; decide +kernel
theorem dev65 (c : Dev nD) : (⟨k0_dev65 c, k0_dev65_lt c⟩ : Dev nD) = pr c 2 := by revert c; decide +kernel
theorem dev66 (c : Dev nD) : (⟨k0_dev66 c, k0_dev66_lt c⟩ : Dev nD) = pr c 3 := by revert c; decide +kernel
theorem dev67 (c : Dev nD) : (⟨k0_dev67 c, k0_dev67_lt c⟩ : Dev nD) = pr c 4 := by revert c; decide +kernel
theorem dev68 (c : Dev nD) : (⟨k0_dev68 c, k0_dev68_lt c⟩ : Dev nD) = pr c 5 := by revert c; decide +kernel
theorem dev69 (c : Dev nD) : (⟨k0_dev69 c, k0_dev69_lt c⟩ : Dev nD) = pr c 6 := by revert c; decide +kernel
theorem dev70 (c : Dev nD) : (⟨k0_dev70 c, k0_dev70_lt c⟩ : Dev nD) = pr c 7 := by revert c; decide +kernel
theorem dev71 (c : Dev nD) : (⟨k0_dev71 c, k0_dev71_lt c⟩ : Dev nD) = pr c 8 := by revert c; decide +kernel
theorem dev72 (c : Dev nD) : (⟨k0_dev72 c, k0_dev72_lt c⟩ : Dev nD) = pr c 9 := by revert c; decide +kernel
theorem dev73 (c : Dev nD) : (⟨k0_dev73 c, k0_dev73_lt c⟩ : Dev nD) = pr c 10 := by revert c; decide +kernel
theorem dev74 (c : Dev nD) : (⟨k0_dev74 c, k0_dev74_lt c⟩ : Dev nD) = pr c 11 := by revert c; decide +kernel
theorem dev75 (c : Dev nD) : (⟨k0_dev75 c, k0_dev75_lt c⟩ : Dev nD) = pr c 12 := by revert c; decide +kernel
theorem dev76 (c : Dev nD) : (⟨k0_dev76 c, k0_dev76_lt c⟩ : Dev nD) = pr c 13 := by revert c; decide +kernel
theorem dev77 (c : Dev nD) : (⟨k0_dev77 c, k0_dev77_lt c⟩ : Dev nD) = pr c 14 := by revert c; decide +kernel
theorem dev78 (c : Dev nD) : (⟨k0_dev78 c, k0_dev78_lt c⟩ : Dev nD) = pr c 15 := by revert c; decide +kernel
theorem dev79 (c : Dev nD) : (⟨k0_dev79 c, k0_dev79_lt c⟩ : Dev nD) = pr c 16 := by revert c; decide +kernel
theorem dev80 (c : Dev nD) : (⟨k0_dev80 c, k0_dev80_lt c⟩ : Dev nD) = pr c 17 := by revert c; decide +kernel
theorem dev81 (c : Dev nD) : (⟨k0_dev81 c, k0_dev81_lt c⟩ : Dev nD) = pr c 18 := by revert c; decide +kernel
theorem dev82 (c : Dev nD) : (⟨k0_dev82 c, k0_dev82_lt c⟩ : Dev nD) = pr c 19 := by revert c; decide +kernel
theorem dev83 (c : Dev nD) : (⟨k0_dev83 c, k0_dev83_lt c⟩ : Dev nD) = pr c 20 := by revert c; decide +kernel
theorem dev84 (c : Dev nD) : (⟨k0_dev84 c, k0_dev84_lt c⟩ : Dev nD) = pr c 21 := by revert c; decide +kernel
theorem dev85 (c : Dev nD) : (⟨k0_dev85 c, k0_dev85_lt c⟩ : Dev nD) = pr c 22 := by revert c; decide +kernel
theorem dev86 (c : Dev nD) : (⟨k0_dev86 c, k0_dev86_lt c⟩ : Dev nD) = pr c 23 := by revert c; decide +kernel
theorem dev87 (c : Dev nD) : (⟨k0_dev87 c, k0_dev87_lt c⟩ : Dev nD) = pr c 24 := by revert c; decide +kernel
theorem dev88 (c : Dev nD) : (⟨k0_dev88 c, k0_dev88_lt c⟩ : Dev nD) = pr c 25 := by revert c; decide +kernel
theorem dev89 (c : Dev nD) : (⟨k0_dev89 c, k0_dev89_lt c⟩ : Dev nD) = pr c 26 := by revert c; decide +kernel
theorem dev90 (c : Dev nD) : (⟨k0_dev90 c, k0_dev90_lt c⟩ : Dev nD) = pr c 27 := by revert c; decide +kernel
theorem dev91 (c : Dev nD) : (⟨k0_dev91 c, k0_dev91_lt c⟩ : Dev nD) = pr c 28 := by revert c; decide +kernel
theorem dev92 (c : Dev nD) : (⟨k0_dev92 c, k0_dev92_lt c⟩ : Dev nD) = pr c 29 := by revert c; decide +kernel
theorem dev93 (c : Dev nD) : (⟨k0_dev93 c, k0_dev93_lt c⟩ : Dev nD) = pr c 30 := by revert c; decide +kernel

end Cert.AttnProof
-- ==== Proof.Comp.lean ====
/-
The steps of a device's own work: the copies of the weights, the loads and the stores, each from what the device owns
to what it owns afterwards, with the value a load returns.
-/
module

public import proofs.«01_k».proof.Proof.Tri
public import proofs.«01_k».proof.Proof.Geom
public import proofs.«01_k».proof.Proof.Facts

@[expose] public section

noncomputable section

namespace Cert.AttnProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.ValueIdx

variable {F : FTy → Type} [FloatOps F]

local notation "𝕄" => MT nD τ sig Unit (Elt F) ℕ UU ℕ

variable (m : (ℓ : Loc nD τ sig) → Buf (Elt F) ℓ) (K : Dev nD × CK → ℕ) (c : Dev nD)

/-! ## What is owned -/

def xPts : sProp 𝕄 := ((c : Thread nD τ).loc cc0_stg0_0) ↦[Finset.univ]{fullShare} xC m c
def kPts : sProp 𝕄 := ((c : Thread nD τ).loc cc0_stg1_0) ↦[Finset.univ]{fullShare} kC m c
def vPts : sProp 𝕄 := ((c : Thread nD τ).loc cc0_stg2_0) ↦[Finset.univ]{fullShare} vC m c
def wqPts : sProp 𝕄 := ((c : Thread nD τ).loc cc0_scratch1) ↦[Finset.univ]{fullShare} wqC m c
def woPts : sProp 𝕄 := ((c : Thread nD τ).loc cc0_scratch2) ↦[Finset.univ]{fullShare} woC m c
def oPts (f : (cc0_stg3_0 : Ref sig .tc).ty.Contents (Elt F)) : sProp 𝕄 := ((c : Thread nD τ).loc cc0_stg3_0) ↦[Finset.univ]{fullShare} f

/-- The staged inputs and the copied weights. -/
def Ins : sProp 𝕄 := iprop(xPts m c ∗ kPts m c ∗ vPts m c ∗ wqPts m c ∗ woPts m c)

variable {m K c}

/-! ## One load, one store -/

theorem Tri.load {cs : CoreSpace} {s : Shape} {e : EltTy} {M : Memref sig .tc cs s e} {r : LoadRect s} {hl : M.view.LoadsAt r}
    {S : Finset (Idx (M.view.loc (c : Thread nD τ)))} {q : PosShare TreeShare} {f : Buf (Elt F) (M.view.loc (c : Thread nD τ))}
    (hS : M.view.setOn r.set ⊆ S) :
    Tri m K c (M.view.loc (c : Thread nD τ) ↦[S]{q} f) (Prog.lift (.load M r hl))
      (fun v => iprop(⌜v = M.view.readAt (Elt F) r f⌝ ∗ M.view.loc (c : Thread nD τ) ↦[S]{q} f)) := by
  unfold Tri Prog.lift
  iintro ⟨-, H⟩
  iapply (wp_load 𝒱₀ (c : Thread nD τ) none Set.univ (m := M) hS) $$ H
  iintro H
  rw [wp_ret]; imodintro
  isplitr; · ipureintro; rfl
  iexact H

theorem Tri.store {cs : CoreSpace} {s : Shape} {e : EltTy} {M : Memref sig .tc cs s e} {r : Rect s} {w : r.shape.Idx → Elt F e}
    {Mk : Finset r.shape.Idx} {hx : (M.access r).Stores Mk} {hm : Mk = Finset.univ ∨ ∀ a, r.stride a = 1}
    {S : Finset (Idx ((M.access r).loc (c : Thread nD τ)))} {f : Buf (Elt F) ((M.access r).loc (c : Thread nD τ))}
    (hS : (M.access r).setOn Mk ⊆ S) :
    Tri m K c ((M.access r).loc (c : Thread nD τ) ↦[S]{fullShare} f) (Prog.lift (.store M r w Mk hx hm))
      (fun _ => (M.access r).loc (c : Thread nD τ) ↦[S]{fullShare} ((M.access r).write (Elt F) f w Mk)) := by
  unfold Tri Prog.lift
  iintro ⟨-, H⟩
  iapply (wp_store 𝒱₀ (c : Thread nD τ) none Set.univ (m := M) (r := r) (Mk := Mk) hS) $$ H
  iintro H
  rw [wp_ret]; imodintro
  iexact H

/-- The device asks for its number. -/
theorem step_dev {P : sProp 𝕄} : Tri m K c P (Prog.lift .deviceId) (fun v => iprop(⌜v = c⌝ ∗ P)) := by
  unfold Tri Prog.lift
  iintro ⟨-, H⟩
  rw [wp_deviceId, wp_ret]
  imodintro
  isplitr; · ipureintro; rfl
  iexact H

/-! ## The computing phase -/

theorem ld_x {b : Fin 2} {o : Fin 3 → ℕ} (ho : o = ![b.val, 0, 0]) {h : ∀ a, o a + S1x128x512.size a ≤ S2x128x512.size a} {hl} :
    Tri m K c (Ins m c) (Prog.lift (.load xM (Rect.unit (s := S2x128x512) o S1x128x512.size h).toLoadRect hl))
      (fun v => iprop(⌜v = ldX m c b⌝ ∗ Ins m c)) := by
  subst ho
  unfold Ins
  refine ((Tri.load (M := xM) (q := fullShare) (f := xC m c) (S := Finset.univ) (Finset.subset_univ _)).frame _).post fun v => ?_
  refine sep_assoc.1.trans (sep_mono_left (BI.pure_mono ?_))
  rintro rfl
  funext i
  obtain ⟨a0, a1, a2, rfl⟩ : ∃ (a0 : Fin 1) (a1 : Fin 128) (a2 : Fin 512), i = (ix3 a0 a1 a2 : S1x128x512.Idx) := ⟨i 0, i 1, i 2, eq_ix3 i⟩
  rw [View.readAt_rect, View.read_apply]
  refine congrArg (xC m c) ?_
  funext ax; apply Fin.ext
  match ax with
  | ⟨0, _⟩ => show b.val + 1 * a0.val = b.val; omega
  | ⟨1, _⟩ => show 0 + 1 * a1.val = a1.val; omega
  | ⟨2, _⟩ => show 0 + 1 * a2.val = a2.val; omega

theorem ld_k {b : Fin 2} {g : Fin 4} {o : Fin 4 → ℕ} (ho : o = ![b.val, 0, g.val, 0]) {h : ∀ a, o a + S1x128x1x64.size a ≤ S2x128x4x64.size a} {hl} :
    Tri m K c (Ins m c) (Prog.lift (.load kM (Rect.unit (s := S2x128x4x64) o S1x128x1x64.size h).toLoadRect hl))
      (fun v => iprop(⌜v = ldK m c b g⌝ ∗ Ins m c)) := by
  subst ho
  unfold Ins
  refine (((Tri.load (M := kM) (q := fullShare) (f := kC m c) (S := Finset.univ) (Finset.subset_univ _)).frame iprop(xPts m c ∗ vPts m c ∗ wqPts m c ∗ woPts m c)).pre ?_).post fun v => ?_
  · show _ ⊢ iprop(kPts m c ∗ xPts m c ∗ vPts m c ∗ wqPts m c ∗ woPts m c)
    iintro ⟨Hx, Hk, Hr⟩
    isplitl [Hk]; · iexact Hk
    isplitl [Hx] <;> iassumption
  · show iprop((⌜_⌝ ∗ kPts m c) ∗ xPts m c ∗ vPts m c ∗ wqPts m c ∗ woPts m c) ⊢ _
    iintro ⟨⟨%e, Hk⟩, Hx, Hr⟩
    isplitr
    · ipureintro
      subst e
      funext i
      obtain ⟨a0, a1, a2, a3, rfl⟩ : ∃ (a0 : Fin 1) (a1 : Fin 128) (a2 : Fin 1) (a3 : Fin 64), i = (ix4 a0 a1 a2 a3 : S1x128x1x64.Idx) := ⟨i 0, i 1, i 2, i 3, eq_ix4 i⟩
      rw [View.readAt_rect, View.read_apply]
      refine congrArg (kC m c) ?_
      funext ax; apply Fin.ext
      match ax with
      | ⟨0, _⟩ => show b.val + 1 * a0.val = b.val; omega
      | ⟨1, _⟩ => show 0 + 1 * a1.val = a1.val; omega
      | ⟨2, _⟩ => show g.val + 1 * a2.val = g.val; omega
      | ⟨3, _⟩ => show 0 + 1 * a3.val = a3.val; omega
    isplitl [Hx]; · iexact Hx
    isplitl [Hk]; · iexact Hk
    iexact Hr

theorem ld_v {b : Fin 2} {g : Fin 4} {o : Fin 4 → ℕ} (ho : o = ![b.val, 0, g.val, 0]) {h : ∀ a, o a + S1x128x1x64.size a ≤ S2x128x4x64.size a} {hl} :
    Tri m K c (Ins m c) (Prog.lift (.load vM (Rect.unit (s := S2x128x4x64) o S1x128x1x64.size h).toLoadRect hl))
      (fun v => iprop(⌜v = ldV m c b g⌝ ∗ Ins m c)) := by
  subst ho
  unfold Ins
  refine (((Tri.load (M := vM) (q := fullShare) (f := vC m c) (S := Finset.univ) (Finset.subset_univ _)).frame iprop(xPts m c ∗ kPts m c ∗ wqPts m c ∗ woPts m c)).pre ?_).post fun v => ?_
  · show _ ⊢ iprop(vPts m c ∗ xPts m c ∗ kPts m c ∗ wqPts m c ∗ woPts m c)
    iintro ⟨Hx, Hk, Hv, Hr⟩
    isplitl [Hv]; · iexact Hv
    isplitl [Hx]; · iexact Hx
    isplitl [Hk] <;> iassumption
  · show iprop((⌜_⌝ ∗ vPts m c) ∗ xPts m c ∗ kPts m c ∗ wqPts m c ∗ woPts m c) ⊢ _
    iintro ⟨⟨%e, Hv⟩, Hx, Hk, Hr⟩
    isplitr
    · ipureintro
      subst e
      funext i
      obtain ⟨a0, a1, a2, a3, rfl⟩ : ∃ (a0 : Fin 1) (a1 : Fin 128) (a2 : Fin 1) (a3 : Fin 64), i = (ix4 a0 a1 a2 a3 : S1x128x1x64.Idx) := ⟨i 0, i 1, i 2, i 3, eq_ix4 i⟩
      rw [View.readAt_rect, View.read_apply]
      refine congrArg (vC m c) ?_
      funext ax; apply Fin.ext
      match ax with
      | ⟨0, _⟩ => show b.val + 1 * a0.val = b.val; omega
      | ⟨1, _⟩ => show 0 + 1 * a1.val = a1.val; omega
      | ⟨2, _⟩ => show g.val + 1 * a2.val = g.val; omega
      | ⟨3, _⟩ => show 0 + 1 * a3.val = a3.val; omega
    isplitl [Hx]; · iexact Hx
    isplitl [Hk]; · iexact Hk
    isplitl [Hv]; · iexact Hv
    iexact Hr

theorem zero2 : (![0, 0] : Fin 2 → ℕ) = fun _ => 0 := by decide
theorem zero3 : (![0, 0, 0] : Fin 3 → ℕ) = fun _ => 0 := by decide

theorem ld_wq {h : ∀ a, (![0, 0] : Fin 2 → ℕ) a + S512x256.size a ≤ S512x256.size a} {hl} :
    Tri m K c (Ins m c) (Prog.lift (.load wqM (Rect.unit (s := S512x256) ![0, 0] S512x256.size h).toLoadRect hl))
      (fun v => iprop(⌜v = ldWq m c⌝ ∗ Ins m c)) := by
  unfold Ins
  refine (((Tri.load (M := wqM) (q := fullShare) (f := wqC m c) (S := Finset.univ) (Finset.subset_univ _)).frame iprop(xPts m c ∗ kPts m c ∗ vPts m c ∗ woPts m c)).pre ?_).post fun v => ?_
  · show _ ⊢ iprop(wqPts m c ∗ xPts m c ∗ kPts m c ∗ vPts m c ∗ woPts m c)
    iintro ⟨Hx, Hk, Hv, Hq, Ho⟩
    isplitl [Hq]; · iexact Hq
    isplitl [Hx]; · iexact Hx
    isplitl [Hk]; · iexact Hk
    isplitl [Hv] <;> iassumption
  · show iprop((⌜_⌝ ∗ wqPts m c) ∗ xPts m c ∗ kPts m c ∗ vPts m c ∗ woPts m c) ⊢ _
    iintro ⟨⟨%e, Hq⟩, Hx, Hk, Hv, Ho⟩
    isplitr
    · ipureintro; rw [e]; exact Memref.readAt_unit_zero (Elt F) cc0_scratch1 zero2 _ (wqC m c)
    isplitl [Hx]; · iexact Hx
    isplitl [Hk]; · iexact Hk
    isplitl [Hv]; · iexact Hv
    isplitl [Hq] <;> iassumption

theorem ld_wo {h : ∀ a, (![0, 0] : Fin 2 → ℕ) a + S256x512.size a ≤ S256x512.size a} {hl} :
    Tri m K c (Ins m c) (Prog.lift (.load woM (Rect.unit (s := S256x512) ![0, 0] S256x512.size h).toLoadRect hl))
      (fun v => iprop(⌜v = ldWo m c⌝ ∗ Ins m c)) := by
  unfold Ins
  refine (((Tri.load (M := woM) (q := fullShare) (f := woC m c) (S := Finset.univ) (Finset.subset_univ _)).frame iprop(xPts m c ∗ kPts m c ∗ vPts m c ∗ wqPts m c)).pre ?_).post fun v => ?_
  · show _ ⊢ iprop(woPts m c ∗ xPts m c ∗ kPts m c ∗ vPts m c ∗ wqPts m c)
    iintro ⟨Hx, Hk, Hv, Hq, Ho⟩
    isplitl [Ho]; · iexact Ho
    isplitl [Hx]; · iexact Hx
    isplitl [Hk]; · iexact Hk
    isplitl [Hv] <;> iassumption
  · show iprop((⌜_⌝ ∗ woPts m c) ∗ xPts m c ∗ kPts m c ∗ vPts m c ∗ wqPts m c) ⊢ _
    iintro ⟨⟨%e, Ho⟩, Hx, Hk, Hv, Hq⟩
    isplitr
    · ipureintro; rw [e]; exact Memref.readAt_unit_zero (Elt F) cc0_scratch2 zero2 _ (woC m c)
    isplitl [Hx]; · iexact Hx
    isplitl [Hk]; · iexact Hk
    isplitl [Hv]; · iexact Hv
    isplitl [Hq] <;> iassumption

/-! ## The partial result stored -/

/-- The whole partial-result buffer read at any rectangle, whatever comes out. -/
theorem ld_acc {f} {r : LoadRect S256x512} {hl} :
    Tri m K c (accPts c f) (Prog.lift (.load accM r hl)) (fun v => iprop(⌜v = accM.view.readAt (Elt F) r f⌝ ∗ accPts c f)) :=
  Tri.load (M := accM) (q := fullShare) (f := f) (S := Finset.univ) (Finset.subset_univ _)

theorem st_acc {f} {r : Rect S256x512} {w : r.shape.Idx → Elt F .f32} {hx} {hm} :
    Tri m K c (accPts c f) (Prog.lift (.store accM r w Finset.univ hx hm)) (fun _ => accPts c ((accM.access r).write (Elt F) f w Finset.univ)) := by
  have h := Tri.store (m := m) (K := K) (c := c) (M := accM) (r := r) (w := w) (Mk := Finset.univ) (hx := hx) (hm := hm) (f := f) (S := Finset.univ) (Finset.subset_univ _)
  exact h

theorem ld_out {f} {r : LoadRect S2x128x512} {hl} :
    Tri m K c (oPts c f) (Prog.lift (.load oM r hl)) (fun v => iprop(⌜v = oM.view.readAt (Elt F) r f⌝ ∗ oPts c f)) :=
  Tri.load (M := oM) (q := fullShare) (f := f) (S := Finset.univ) (Finset.subset_univ _)

theorem st_out {f} {r : Rect S2x128x512} {w : r.shape.Idx → Elt F .f32} {hx} {hm} :
    Tri m K c (oPts c f) (Prog.lift (.store oM r w Finset.univ hx hm)) (fun _ => oPts c ((oM.access r).write (Elt F) f w Finset.univ)) := by
  have h := Tri.store (m := m) (K := K) (c := c) (M := oM) (r := r) (w := w) (Mk := Finset.univ) (hx := hx) (hm := hm) (f := f) (S := Finset.univ) (Finset.subset_univ _)
  exact h

theorem top_inb : ∀ a, (![0, 0] : Fin 2 → ℕ) a + S128x512.size a ≤ S256x512.size a := by decide
theorem low_inb : ∀ a, (![128, 0] : Fin 2 → ℕ) a + S128x512.size a ≤ S256x512.size a := by decide
/-- The upper 128 rows and the lower 128 rows. -/
abbrev topR : Rect S256x512 := Rect.unit (s := S256x512) ![0, 0] S128x512.size top_inb
abbrev lowR : Rect S256x512 := Rect.unit (s := S256x512) ![128, 0] S128x512.size low_inb

theorem top_emb (a : Fin 128) (b : Fin 512) : (accM.access topR).emb (ix2 a b : S128x512.Idx) = (ix2 (⟨a.val, by omega⟩ : Fin 256) b : S256x512.Idx) := by
  funext ax; apply Fin.ext
  match ax with
  | ⟨0, _⟩ => show 0 + 1 * a.val = a.val; omega
  | ⟨1, _⟩ => show 0 + 1 * b.val = b.val; omega
theorem low_emb (a : Fin 128) (b : Fin 512) : (accM.access lowR).emb (ix2 a b : S128x512.Idx) = (ix2 (⟨128 + a.val, by omega⟩ : Fin 256) b : S256x512.Idx) := by
  funext ax; apply Fin.ext
  match ax with
  | ⟨0, _⟩ => show 128 + 1 * a.val = 128 + a.val; omega
  | ⟨1, _⟩ => show 0 + 1 * b.val = b.val; omega

theorem A0_lt (x : Fin 256) (b : Fin 512) (hx : x.val < 128) : A0 m c (ix2 x b : S256x512.Idx) = P0 m c (ix2 (⟨x.val, hx⟩ : Fin 128) b : S128x512.Idx) := by
  unfold A0; exact dif_pos hx
theorem A0_ge (x : Fin 256) (b : Fin 512) (hx : ¬ x.val < 128) : A0 m c (ix2 x b : S256x512.Idx) = P1 m c (ix2 (⟨x.val - 128, by omega⟩ : Fin 128) b : S128x512.Idx) := by
  unfold A0; exact dif_neg hx

/-- Both halves stored: the partial result. -/
theorem acc_stored (f : (cc0_scratch0 : Ref sig .tc).ty.Contents (Elt F)) :
    (accM.access lowR).write (Elt F) ((accM.access topR).write (Elt F) f (P0 m c) Finset.univ) (P1 m c) Finset.univ = A0 m c := by
  funext i
  obtain ⟨x, b, rfl⟩ : ∃ (x : Fin 256) (b : Fin 512), i = (ix2 x b : S256x512.Idx) := ⟨i 0, i 1, eq_ix2 i⟩
  by_cases hx : x.val < 128
  · have e : (ix2 x b : S256x512.Idx) = (accM.access topR).emb (ix2 (⟨x.val, hx⟩ : Fin 128) b : S128x512.Idx) := (top_emb ⟨x.val, hx⟩ b).symm
    refine (View.write_of_not_mem _ _ _ ?_).trans ?_
    · intro hm
      obtain ⟨y, -, hy⟩ := Finset.mem_map.mp hm
      obtain ⟨y0, y1, rfl⟩ : ∃ (y0 : Fin 128) (y1 : Fin 512), y = (ix2 y0 y1 : S128x512.Idx) := ⟨y 0, y 1, eq_ix2 y⟩
      have h0 : 128 + y0.val = x.val := congrArg (fun z : S256x512.Idx => (z 0).val) ((low_emb y0 y1).symm.trans hy)
      omega
    · refine (congrArg _ e).trans ((View.write_emb_of_mem _ _ (Finset.mem_univ _)).trans ?_)
      exact (A0_lt x b hx).symm
  · have e : (ix2 x b : S256x512.Idx) = (accM.access lowR).emb (ix2 (⟨x.val - 128, by omega⟩ : Fin 128) b : S128x512.Idx) := by
      rw [low_emb]; congr 1; apply Fin.ext; show x.val = 128 + (x.val - 128); omega
    refine (congrArg _ e).trans ((View.write_emb_of_mem _ _ (Finset.mem_univ _)).trans ?_)
    exact (A0_ge x b hx).symm

/-! ## The result stored -/

theorem out0_inb : ∀ a, (![0, 0, 0] : Fin 3 → ℕ) a + S1x128x512.size a ≤ S2x128x512.size a := by decide
theorem out1_inb : ∀ a, (![1, 0, 0] : Fin 3 → ℕ) a + S1x128x512.size a ≤ S2x128x512.size a := by decide
/-- The two batches of the result. -/
abbrev out0R : Rect S2x128x512 := Rect.unit (s := S2x128x512) ![0, 0, 0] S1x128x512.size out0_inb
abbrev out1R : Rect S2x128x512 := Rect.unit (s := S2x128x512) ![1, 0, 0] S1x128x512.size out1_inb

theorem out0_emb (a : Fin 128) (b : Fin 512) : (oM.access out0R).emb (ix3 (0 : Fin 1) a b : S1x128x512.Idx) = (ix3 (0 : Fin 2) a b : S2x128x512.Idx) := by
  funext ax; apply Fin.ext
  match ax with
  | ⟨0, _⟩ => rfl
  | ⟨1, _⟩ => show 0 + 1 * a.val = a.val; omega
  | ⟨2, _⟩ => show 0 + 1 * b.val = b.val; omega
theorem out1_emb (a : Fin 128) (b : Fin 512) : (oM.access out1R).emb (ix3 (0 : Fin 1) a b : S1x128x512.Idx) = (ix3 (1 : Fin 2) a b : S2x128x512.Idx) := by
  funext ax; apply Fin.ext
  match ax with
  | ⟨0, _⟩ => rfl
  | ⟨1, _⟩ => show 0 + 1 * a.val = a.val; omega
  | ⟨2, _⟩ => show 0 + 1 * b.val = b.val; omega

theorem pay1_apply (v : Vec F S128x512 .f32) (a : Fin 128) (b : Fin 512) : k0_pay1 v (ix3 (0 : Fin 1) a b) = v (ix2 a b) := by
  unfold k0_pay1; exact shapeCast_ab_1ab_apply v _ _ _ _
theorem pay2_apply (v : Vec F S128x512 .f32) (a : Fin 128) (b : Fin 512) : k0_pay2 v (ix3 (0 : Fin 1) a b) = v (ix2 a b) := by
  unfold k0_pay2; exact shapeCast_ab_1ab_apply v _ _ _ _

theorem read_top (f : (cc0_scratch0 : Ref sig .tc).ty.Contents (Elt F)) (a : Fin 128) (b : Fin 512) :
    (accM.view.readAt (Elt F) topR.toLoadRect f : Vec F S128x512 .f32) (ix2 a b) = f (ix2 (⟨a.val, by omega⟩ : Fin 256) b : S256x512.Idx) := by
  rw [View.readAt_rect, View.read_apply]
  exact congrArg f (top_emb a b)
theorem read_low (f : (cc0_scratch0 : Ref sig .tc).ty.Contents (Elt F)) (a : Fin 128) (b : Fin 512) :
    (accM.view.readAt (Elt F) lowR.toLoadRect f : Vec F S128x512 .f32) (ix2 a b) = f (ix2 (⟨128 + a.val, by omega⟩ : Fin 256) b : S256x512.Idx) := by
  rw [View.readAt_rect, View.read_apply]
  exact congrArg f (low_emb a b)

theorem out_row_lt (x : Fin 2) (a : Fin 128) : 128 * x.val + a.val < 256 := by omega
theorem outC_apply (x : Fin 2) (a : Fin 128) (b : Fin 512) :
    outC m (ix3 x a b : S2x128x512.Idx) = A1 m (ix2 (⟨128 * x.val + a.val, out_row_lt x a⟩ : Fin 256) b : S256x512.Idx) := by
  unfold outC; rfl
theorem row0 (a : Fin 128) (h : a.val < 256) : (⟨a.val, h⟩ : Fin 256) = ⟨128 * (0 : Fin 2).val + a.val, out_row_lt 0 a⟩ := Fin.ext (by show a.val = 128 * 0 + a.val; omega)
theorem row1 (a : Fin 128) (h : 128 + a.val < 256) : (⟨128 + a.val, h⟩ : Fin 256) = ⟨128 * (1 : Fin 2).val + a.val, out_row_lt 1 a⟩ := Fin.ext (by show 128 + a.val = 128 * 1 + a.val; omega)

/-- Both batches stored: the result. -/
theorem out_stored (f : (cc0_stg3_0 : Ref sig .tc).ty.Contents (Elt F)) :
    (oM.access out1R).write (Elt F) ((oM.access out0R).write (Elt F) f (k0_pay1 (accM.view.readAt (Elt F) topR.toLoadRect (A1 m))) Finset.univ)
      (k0_pay2 (accM.view.readAt (Elt F) lowR.toLoadRect (A1 m))) Finset.univ = outC m := by
  funext i
  obtain ⟨x, a, b, rfl⟩ : ∃ (x : Fin 2) (a : Fin 128) (b : Fin 512), i = (ix3 x a b : S2x128x512.Idx) := ⟨i 0, i 1, i 2, eq_ix3 i⟩
  have hx : x = 0 ∨ x = 1 := by revert x; decide
  rcases hx with rfl | rfl
  · refine (View.write_of_not_mem _ _ _ ?_).trans ?_
    · intro hm
      obtain ⟨y, -, hy⟩ := Finset.mem_map.mp hm
      obtain ⟨y0, y1, y2, rfl⟩ : ∃ (y0 : Fin 1) (y1 : Fin 128) (y2 : Fin 512), y = (ix3 y0 y1 y2 : S1x128x512.Idx) := ⟨y 0, y 1, y 2, eq_ix3 y⟩
      obtain rfl : y0 = 0 := Subsingleton.elim _ _
      have h0 : 1 = 0 := congrArg (fun z : S2x128x512.Idx => (z 0).val) ((out1_emb y1 y2).symm.trans hy)
      omega
    · refine (congrArg _ (out0_emb a b).symm).trans ((View.write_emb_of_mem _ _ (Finset.mem_univ _)).trans ?_)
      show k0_pay1 (accM.view.readAt (Elt F) topR.toLoadRect (A1 m)) (ix3 (0 : Fin 1) a b) = _
      rw [pay1_apply, read_top, outC_apply, row0]
  · refine (congrArg _ (out1_emb a b).symm).trans ((View.write_emb_of_mem _ _ (Finset.mem_univ _)).trans ?_)
    show k0_pay2 (accM.view.readAt (Elt F) lowR.toLoadRect (A1 m)) (ix3 (0 : Fin 1) a b) = _
    rw [pay2_apply, read_low, outC_apply, row1]

/-! ## The copies of the weights -/

/-- The weights array, whole: the copied part and the rest. -/
def wqRest : sProp 𝕄 := ((c : Thread nD τ).loc main_arg1) ↦[Finset.univ \ (wqSl c).view.set]{fullShare} m ((c : Thread nD τ).loc main_arg1)
def woRest : sProp 𝕄 := ((c : Thread nD τ).loc main_arg4) ↦[Finset.univ \ (woSl c).view.set]{fullShare} m ((c : Thread nD τ).loc main_arg4)
def wqSrc : sProp 𝕄 := (wqSl c).view.loc (c : Thread nD τ) ↦[(wqSl c).view.set]{fullShare} m ((c : Thread nD τ).loc main_arg1)
def woSrc : sProp 𝕄 := (woSl c).view.loc (c : Thread nD τ) ↦[(woSl c).view.set]{fullShare} m ((c : Thread nD τ).loc main_arg4)

end Cert.AttnProof
-- ==== Proof.Args.lean ====
/-
The kernel's parts on the buffers and semaphores they are called with.
-/
module

public import proofs.«01_k».proof.Proof.Tri

@[expose] public section

noncomputable section

namespace Cert.AttnProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-- A part of the kernel on the buffers and semaphores of the call. -/
abbrev onArgs {β : Type 1} (p : (arg0 : Memref sig .tc .vmem S2x128x512 .f32) → (harg0 : arg0.IsWhole) → (arg1 : Memref sig .tc .hbm S512x8192 .f32) → (harg1 : arg1.IsWhole) → (arg2 : Memref sig .tc .vmem S2x128x4x64 .f32) → (harg2 : arg2.IsWhole) →
    (arg3 : Memref sig .tc .vmem S2x128x4x64 .f32) → (harg3 : arg3.IsWhole) → (arg4 : Memref sig .tc .hbm S8192x512 .f32) → (harg4 : arg4.IsWhole) → (arg5 : Memref sig .tc .vmem S2x128x512 .f32) → (harg5 : arg5.IsWhole) →
    (arg6 : Memref sig .tc .vmem S256x512 .f32) → (harg6 : arg6.IsWhole) → (arg7 : Memref sig .tc .vmem S512x256 .f32) → (harg7 : arg7.IsWhole) → (arg8 : Memref sig .tc .vmem S256x512 .f32) → (harg8 : arg8.IsWhole) →
    (arg9 : Memref sig .tc .vmem S32x8x512 .f32) → (harg9 : arg9.IsWhole) → (arg10 : DmaSems sig S2) → (arg11 : DmaSems sig S32) →
    (arg12 : DmaSems sig S32) → (arg13 : DmaSems sig S32) → (arg14 : DmaSems sig S32) →
    β) : β :=
  p xM (Memref.isWhole_whole _) wqA (Memref.isWhole_whole _) kM (Memref.isWhole_whole _) vM (Memref.isWhole_whole _) woA (Memref.isWhole_whole _) oM (Memref.isWhole_whole _) accM (Memref.isWhole_whole _) wqM (Memref.isWhole_whole _) woM (Memref.isWhole_whole _) rsM (Memref.isWhole_whole _) cc0_scratch4 cc0_scratch5 cc0_scratch6 cc0_scratch7 cc0_scratch8

/-- The barrier semaphore, as the parts pass it on. -/
abbrev barA : Sems sig S_ := SemArray.scalar (sig.barrier 0 rfl)

variable {m : (ℓ : Loc nD τ sig) → Buf (Elt F) ℓ} {K : Dev nD × CK → ℕ} {c : Dev nD}

/-- A known fact, taken out. -/
theorem Tri.fact {α : Type} {φ : Prop} {P : sProp 𝕄} {p : Prog (TpuEff nD τ sig (Elt F) Λ₀ .tc) α} {Q : α → sProp 𝕄}
    (h : φ → Tri m K c P p Q) : Tri m K c iprop(⌜φ⌝ ∗ P) p Q := by
  unfold Tri at *
  iintro ⟨#HR, ⟨%hφ, HP⟩⟩
  iapply (h hφ)
  isplitr; · iexact HR
  iexact HP

/-- Some content of a buffer, named. -/
theorem Tri.exists {α ι : Type} {P : ι → sProp 𝕄} {p : Prog (TpuEff nD τ sig (Elt F) Λ₀ .tc) α} {Q : α → sProp 𝕄}
    (h : ∀ x, Tri m K c (P x) p Q) : Tri m K c iprop(∃ x, P x) p Q := by
  unfold Tri at *
  iintro ⟨#HR, ⟨%x, HP⟩⟩
  iapply (h x)
  isplitr; · iexact HR
  iexact HP

/-- A stretch on the first conjunct, whose value is known. -/
theorem Tri.bindF {α β : Type} {P P' R : sProp 𝕄} {p : Prog (TpuEff nD τ sig (Elt F) Λ₀ .tc) α} {a : α}
    {k : α → Prog (TpuEff nD τ sig (Elt F) Λ₀ .tc) β} {S : β → sProp 𝕄} (h : Tri m K c P p (fun v => iprop(⌜v = a⌝ ∗ P')))
    (hk : Tri m K c iprop(P' ∗ R) (k a) S) : Tri m K c iprop(P ∗ R) (p >>= k) S :=
  Tri.bindP ((h.frame R).post fun _ => sep_assoc.1) hk

end Cert.AttnProof
-- ==== Proof.PSig.lean ====
/-
The parts of the kernel that signal the barrier.
-/
module

public import proofs.«01_k».proof.Proof.Steps
public import proofs.«01_k».proof.Proof.Comp
public import proofs.«01_k».proof.Proof.Args
public import proofs.«01_k».proof.Proof.Gen.KernelIdeal.Skeleton

@[expose] public section

noncomputable section

namespace Cert.AttnProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable {m : (ℓ : Loc nD τ sig) → Buf (Elt F) ℓ} {K : Dev nD × CK → ℕ} {c : Dev nD}

theorem part1 : Tri m K c (SigSt (F := F) c 0) (onArgs (k0_part1 (F := F)))
    (fun v => iprop(⌜v.1 = c ∧ v.2.2.1 = barA⌝ ∗ SigSt c 2)) := by
  unfold onArgs; rw [k0_part1_eq_skeleton]; unfold k0_part1_skel; dsimp only
  refine Tri.bindP step_dev ?_
  refine Tri.bind (step_sig (by decide) (dev1 c)) fun _ => ?_
  refine Tri.bind (step_sig (by decide) (dev2 c)) fun _ => ?_
  refine Tri.pure ?_
  iintro H
  isplitr; · ipureintro; exact ⟨rfl, rfl⟩
  iexact H

theorem part2 (v2 : BitVec 32) (v30 : BitVec 32) (c32_i32_18 : BitVec 32) (v31 : BitVec 1) : Tri m K c (SigSt (F := F) c 2) ((onArgs (k0_part2 (F := F))) c v2 barA v30 c32_i32_18 v31)
    (fun _ => SigSt c 4) := by
  unfold onArgs; rw [k0_part2_eq_skeleton]; unfold k0_part2_skel; dsimp only
  refine Tri.bind (step_sig (by decide) (dev3 c)) fun _ => ?_
  refine Tri.bind (step_sig (by decide) (dev4 c)) fun _ => ?_
  exact Tri.pure (BI.Entails.refl _)

theorem part3 (v2 : BitVec 32) (v59 : BitVec 32) (v64 : BitVec 1) (v65 : BitVec 32) : Tri m K c (SigSt (F := F) c 4) ((onArgs (k0_part3 (F := F))) c v2 barA v59 v64 v65)
    (fun _ => SigSt c 7) := by
  unfold onArgs; rw [k0_part3_eq_skeleton]; unfold k0_part3_skel; dsimp only
  refine Tri.bind (step_sig (by decide) (dev5 c)) fun _ => ?_
  refine Tri.bind (step_sig (by decide) (dev6 c)) fun _ => ?_
  refine Tri.bind (step_sig (by decide) (dev7 c)) fun _ => ?_
  exact Tri.pure (BI.Entails.refl _)

theorem part4 (v2 : BitVec 32) (v95 : BitVec 32) (c32_i32_63 : BitVec 32) (v96 : BitVec 1) : Tri m K c (SigSt (F := F) c 7) ((onArgs (k0_part4 (F := F))) c v2 barA v95 c32_i32_63 v96)
    (fun _ => SigSt c 9) := by
  unfold onArgs; rw [k0_part4_eq_skeleton]; unfold k0_part4_skel; dsimp only
  refine Tri.bind (step_sig (by decide) (dev8 c)) fun _ => ?_
  refine Tri.bind (step_sig (by decide) (dev9 c)) fun _ => ?_
  exact Tri.pure (BI.Entails.refl _)

theorem part5 (v2 : BitVec 32) (v124 : BitVec 32) (v129 : BitVec 1) (v130 : BitVec 32) : Tri m K c (SigSt (F := F) c 9) ((onArgs (k0_part5 (F := F))) c v2 barA v124 v129 v130)
    (fun _ => SigSt c 12) := by
  unfold onArgs; rw [k0_part5_eq_skeleton]; unfold k0_part5_skel; dsimp only
  refine Tri.bind (step_sig (by decide) (dev10 c)) fun _ => ?_
  refine Tri.bind (step_sig (by decide) (dev11 c)) fun _ => ?_
  refine Tri.bind (step_sig (by decide) (dev12 c)) fun _ => ?_
  exact Tri.pure (BI.Entails.refl _)

theorem part6 (v2 : BitVec 32) (v160 : BitVec 32) (c32_i32_108 : BitVec 32) (v161 : BitVec 1) : Tri m K c (SigSt (F := F) c 12) ((onArgs (k0_part6 (F := F))) c v2 barA v160 c32_i32_108 v161)
    (fun _ => SigSt c 14) := by
  unfold onArgs; rw [k0_part6_eq_skeleton]; unfold k0_part6_skel; dsimp only
  refine Tri.bind (step_sig (by decide) (dev13 c)) fun _ => ?_
  refine Tri.bind (step_sig (by decide) (dev14 c)) fun _ => ?_
  exact Tri.pure (BI.Entails.refl _)

theorem part7 (v2 : BitVec 32) (v189 : BitVec 32) (v194 : BitVec 1) (v195 : BitVec 32) : Tri m K c (SigSt (F := F) c 14) ((onArgs (k0_part7 (F := F))) c v2 barA v189 v194 v195)
    (fun _ => SigSt c 17) := by
  unfold onArgs; rw [k0_part7_eq_skeleton]; unfold k0_part7_skel; dsimp only
  refine Tri.bind (step_sig (by decide) (dev15 c)) fun _ => ?_
  refine Tri.bind (step_sig (by decide) (dev16 c)) fun _ => ?_
  refine Tri.bind (step_sig (by decide) (dev17 c)) fun _ => ?_
  exact Tri.pure (BI.Entails.refl _)

theorem part8 (v2 : BitVec 32) (v225 : BitVec 32) (c32_i32_153 : BitVec 32) (v226 : BitVec 1) : Tri m K c (SigSt (F := F) c 17) ((onArgs (k0_part8 (F := F))) c v2 barA v225 c32_i32_153 v226)
    (fun _ => SigSt c 19) := by
  unfold onArgs; rw [k0_part8_eq_skeleton]; unfold k0_part8_skel; dsimp only
  refine Tri.bind (step_sig (by decide) (dev18 c)) fun _ => ?_
  refine Tri.bind (step_sig (by decide) (dev19 c)) fun _ => ?_
  exact Tri.pure (BI.Entails.refl _)

theorem part9 (v2 : BitVec 32) (v254 : BitVec 32) (v259 : BitVec 1) (v260 : BitVec 32) : Tri m K c (SigSt (F := F) c 19) ((onArgs (k0_part9 (F := F))) c v2 barA v254 v259 v260)
    (fun _ => SigSt c 22) := by
  unfold onArgs; rw [k0_part9_eq_skeleton]; unfold k0_part9_skel; dsimp only
  refine Tri.bind (step_sig (by decide) (dev20 c)) fun _ => ?_
  refine Tri.bind (step_sig (by decide) (dev21 c)) fun _ => ?_
  refine Tri.bind (step_sig (by decide) (dev22 c)) fun _ => ?_
  exact Tri.pure (BI.Entails.refl _)

theorem part10 (v2 : BitVec 32) (v290 : BitVec 32) (c32_i32_198 : BitVec 32) (v291 : BitVec 1) : Tri m K c (SigSt (F := F) c 22) ((onArgs (k0_part10 (F := F))) c v2 barA v290 c32_i32_198 v291)
    (fun _ => SigSt c 24) := by
  unfold onArgs; rw [k0_part10_eq_skeleton]; unfold k0_part10_skel; dsimp only
  refine Tri.bind (step_sig (by decide) (dev23 c)) fun _ => ?_
  refine Tri.bind (step_sig (by decide) (dev24 c)) fun _ => ?_
  exact Tri.pure (BI.Entails.refl _)

theorem part11 (v2 : BitVec 32) (v319 : BitVec 32) (v324 : BitVec 1) (v325 : BitVec 32) : Tri m K c (SigSt (F := F) c 24) ((onArgs (k0_part11 (F := F))) c v2 barA v319 v324 v325)
    (fun _ => SigSt c 27) := by
  unfold onArgs; rw [k0_part11_eq_skeleton]; unfold k0_part11_skel; dsimp only
  refine Tri.bind (step_sig (by decide) (dev25 c)) fun _ => ?_
  refine Tri.bind (step_sig (by decide) (dev26 c)) fun _ => ?_
  refine Tri.bind (step_sig (by decide) (dev27 c)) fun _ => ?_
  exact Tri.pure (BI.Entails.refl _)

theorem part12 (v2 : BitVec 32) (v355 : BitVec 32) (c32_i32_243 : BitVec 32) (v356 : BitVec 1) : Tri m K c (SigSt (F := F) c 27) ((onArgs (k0_part12 (F := F))) c v2 barA v355 c32_i32_243 v356)
    (fun _ => SigSt c 29) := by
  unfold onArgs; rw [k0_part12_eq_skeleton]; unfold k0_part12_skel; dsimp only
  refine Tri.bind (step_sig (by decide) (dev28 c)) fun _ => ?_
  refine Tri.bind (step_sig (by decide) (dev29 c)) fun _ => ?_
  exact Tri.pure (BI.Entails.refl _)

end Cert.AttnProof
-- ==== Proof.PRs.lean ====
/-
The parts of the kernel that send the row blocks.
-/
module

public import proofs.«01_k».proof.Proof.Steps
public import proofs.«01_k».proof.Proof.Comp
public import proofs.«01_k».proof.Proof.Args
public import proofs.«01_k».proof.Proof.Gen.KernelIdeal.Skeleton

@[expose] public section

noncomputable section

namespace Cert.AttnProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable {m : (ℓ : Loc nD τ sig) → Buf (Elt F) ℓ} {K : Dev nD × CK → ℕ} {c : Dev nD}

theorem part19 (v2 : BitVec 32) (v585 : BitVec 32) (c32_i32_410 : BitVec 32) (v586 : BitVec 1) (c1_i32_412 : BitVec 32) : Tri m K c (RSst m c 0) ((onArgs (k0_part19 (F := F))) c v2 v585 c32_i32_410 v586 c1_i32_412)
    (fun _ => RSst m c 1) := by
  unfold onArgs; rw [k0_part19_eq_skeleton]; unfold k0_part19_skel; dsimp only
  refine Tri.bind (step_rs (by decide) (dev32 c) (off5 c 0) (off4 c) (sem0 (j := pr 0 0) rfl) (sem1 (off3 c))) fun _ => ?_
  exact Tri.pure (BI.Entails.refl _)

theorem part20 (v2 : BitVec 32) : Tri m K c (RSst m c 1) ((onArgs (k0_part20 (F := F))) c v2)
    (fun _ => RSst m c 3) := by
  unfold onArgs; rw [k0_part20_eq_skeleton]; unfold k0_part20_skel; dsimp only
  refine Tri.bind (step_rs (by decide) (dev33 c) (off5 c 1) (off4 c) (sem0 (j := pr 0 1) rfl) (sem1 (off3 c))) fun _ => ?_
  refine Tri.bind (step_rs (by decide) (dev34 c) (off5 c 2) (off4 c) (sem0 (j := pr 0 2) rfl) (sem1 (off3 c))) fun _ => ?_
  exact Tri.pure (BI.Entails.refl _)

theorem part21 (v2 : BitVec 32) (v658 : BitVec 32) : Tri m K c (RSst m c 3) ((onArgs (k0_part21 (F := F))) c v2 v658)
    (fun _ => RSst m c 5) := by
  unfold onArgs; rw [k0_part21_eq_skeleton]; unfold k0_part21_skel; dsimp only
  refine Tri.bind (step_rs (by decide) (dev35 c) (off5 c 3) (off4 c) (sem0 (j := pr 0 3) rfl) (sem1 (off3 c))) fun _ => ?_
  refine Tri.bind (step_rs (by decide) (dev36 c) (off5 c 4) (off4 c) (sem0 (j := pr 0 4) rfl) (sem1 (off3 c))) fun _ => ?_
  exact Tri.pure (BI.Entails.refl _)

theorem part22 (v2 : BitVec 32) (v690 : BitVec 32) (c32_i32_480 : BitVec 32) (v691 : BitVec 1) (c1_i32_482 : BitVec 32) : Tri m K c (RSst m c 5) ((onArgs (k0_part22 (F := F))) c v2 v690 c32_i32_480 v691 c1_i32_482)
    (fun _ => RSst m c 6) := by
  unfold onArgs; rw [k0_part22_eq_skeleton]; unfold k0_part22_skel; dsimp only
  refine Tri.bind (step_rs (by decide) (dev37 c) (off5 c 5) (off4 c) (sem0 (j := pr 0 5) rfl) (sem1 (off3 c))) fun _ => ?_
  exact Tri.pure (BI.Entails.refl _)

theorem part23 (v2 : BitVec 32) : Tri m K c (RSst m c 6) ((onArgs (k0_part23 (F := F))) c v2)
    (fun _ => RSst m c 8) := by
  unfold onArgs; rw [k0_part23_eq_skeleton]; unfold k0_part23_skel; dsimp only
  refine Tri.bind (step_rs (by decide) (dev38 c) (off5 c 6) (off4 c) (sem0 (j := pr 0 6) rfl) (sem1 (off3 c))) fun _ => ?_
  refine Tri.bind (step_rs (by decide) (dev39 c) (off5 c 7) (off4 c) (sem0 (j := pr 0 7) rfl) (sem1 (off3 c))) fun _ => ?_
  exact Tri.pure (BI.Entails.refl _)

theorem part24 (v2 : BitVec 32) (v763 : BitVec 32) : Tri m K c (RSst m c 8) ((onArgs (k0_part24 (F := F))) c v2 v763)
    (fun _ => RSst m c 10) := by
  unfold onArgs; rw [k0_part24_eq_skeleton]; unfold k0_part24_skel; dsimp only
  refine Tri.bind (step_rs (by decide) (dev40 c) (off5 c 8) (off4 c) (sem0 (j := pr 0 8) rfl) (sem1 (off3 c))) fun _ => ?_
  refine Tri.bind (step_rs (by decide) (dev41 c) (off5 c 9) (off4 c) (sem0 (j := pr 0 9) rfl) (sem1 (off3 c))) fun _ => ?_
  exact Tri.pure (BI.Entails.refl _)

theorem part25 (v2 : BitVec 32) (v795 : BitVec 32) (c32_i32_550 : BitVec 32) (v796 : BitVec 1) (c1_i32_552 : BitVec 32) : Tri m K c (RSst m c 10) ((onArgs (k0_part25 (F := F))) c v2 v795 c32_i32_550 v796 c1_i32_552)
    (fun _ => RSst m c 11) := by
  unfold onArgs; rw [k0_part25_eq_skeleton]; unfold k0_part25_skel; dsimp only
  refine Tri.bind (step_rs (by decide) (dev42 c) (off5 c 10) (off4 c) (sem0 (j := pr 0 10) rfl) (sem1 (off3 c))) fun _ => ?_
  exact Tri.pure (BI.Entails.refl _)

theorem part26 (v2 : BitVec 32) : Tri m K c (RSst m c 11) ((onArgs (k0_part26 (F := F))) c v2)
    (fun _ => RSst m c 13) := by
  unfold onArgs; rw [k0_part26_eq_skeleton]; unfold k0_part26_skel; dsimp only
  refine Tri.bind (step_rs (by decide) (dev43 c) (off5 c 11) (off4 c) (sem0 (j := pr 0 11) rfl) (sem1 (off3 c))) fun _ => ?_
  refine Tri.bind (step_rs (by decide) (dev44 c) (off5 c 12) (off4 c) (sem0 (j := pr 0 12) rfl) (sem1 (off3 c))) fun _ => ?_
  exact Tri.pure (BI.Entails.refl _)

theorem part27 (v2 : BitVec 32) (v868 : BitVec 32) : Tri m K c (RSst m c 13) ((onArgs (k0_part27 (F := F))) c v2 v868)
    (fun _ => RSst m c 15) := by
  unfold onArgs; rw [k0_part27_eq_skeleton]; unfold k0_part27_skel; dsimp only
  refine Tri.bind (step_rs (by decide) (dev45 c) (off5 c 13) (off4 c) (sem0 (j := pr 0 13) rfl) (sem1 (off3 c))) fun _ => ?_
  refine Tri.bind (step_rs (by decide) (dev46 c) (off5 c 14) (off4 c) (sem0 (j := pr 0 14) rfl) (sem1 (off3 c))) fun _ => ?_
  exact Tri.pure (BI.Entails.refl _)

theorem part28 (v2 : BitVec 32) (v900 : BitVec 32) (c32_i32_620 : BitVec 32) (v901 : BitVec 1) (c1_i32_622 : BitVec 32) : Tri m K c (RSst m c 15) ((onArgs (k0_part28 (F := F))) c v2 v900 c32_i32_620 v901 c1_i32_622)
    (fun _ => RSst m c 16) := by
  unfold onArgs; rw [k0_part28_eq_skeleton]; unfold k0_part28_skel; dsimp only
  refine Tri.bind (step_rs (by decide) (dev47 c) (off5 c 15) (off4 c) (sem0 (j := pr 0 15) rfl) (sem1 (off3 c))) fun _ => ?_
  exact Tri.pure (BI.Entails.refl _)

theorem part29 (v2 : BitVec 32) : Tri m K c (RSst m c 16) ((onArgs (k0_part29 (F := F))) c v2)
    (fun _ => RSst m c 18) := by
  unfold onArgs; rw [k0_part29_eq_skeleton]; unfold k0_part29_skel; dsimp only
  refine Tri.bind (step_rs (by decide) (dev48 c) (off5 c 16) (off4 c) (sem0 (j := pr 0 16) rfl) (sem1 (off3 c))) fun _ => ?_
  refine Tri.bind (step_rs (by decide) (dev49 c) (off5 c 17) (off4 c) (sem0 (j := pr 0 17) rfl) (sem1 (off3 c))) fun _ => ?_
  exact Tri.pure (BI.Entails.refl _)

theorem part30 (v2 : BitVec 32) (v973 : BitVec 32) : Tri m K c (RSst m c 18) ((onArgs (k0_part30 (F := F))) c v2 v973)
    (fun _ => RSst m c 20) := by
  unfold onArgs; rw [k0_part30_eq_skeleton]; unfold k0_part30_skel; dsimp only
  refine Tri.bind (step_rs (by decide) (dev50 c) (off5 c 18) (off4 c) (sem0 (j := pr 0 18) rfl) (sem1 (off3 c))) fun _ => ?_
  refine Tri.bind (step_rs (by decide) (dev51 c) (off5 c 19) (off4 c) (sem0 (j := pr 0 19) rfl) (sem1 (off3 c))) fun _ => ?_
  exact Tri.pure (BI.Entails.refl _)

theorem part31 (v2 : BitVec 32) (v1005 : BitVec 32) (c32_i32_690 : BitVec 32) (v1006 : BitVec 1) (c1_i32_692 : BitVec 32) : Tri m K c (RSst m c 20) ((onArgs (k0_part31 (F := F))) c v2 v1005 c32_i32_690 v1006 c1_i32_692)
    (fun _ => RSst m c 21) := by
  unfold onArgs; rw [k0_part31_eq_skeleton]; unfold k0_part31_skel; dsimp only
  refine Tri.bind (step_rs (by decide) (dev52 c) (off5 c 20) (off4 c) (sem0 (j := pr 0 20) rfl) (sem1 (off3 c))) fun _ => ?_
  exact Tri.pure (BI.Entails.refl _)

theorem part32 (v2 : BitVec 32) : Tri m K c (RSst m c 21) ((onArgs (k0_part32 (F := F))) c v2)
    (fun _ => RSst m c 23) := by
  unfold onArgs; rw [k0_part32_eq_skeleton]; unfold k0_part32_skel; dsimp only
  refine Tri.bind (step_rs (by decide) (dev53 c) (off5 c 21) (off4 c) (sem0 (j := pr 0 21) rfl) (sem1 (off3 c))) fun _ => ?_
  refine Tri.bind (step_rs (by decide) (dev54 c) (off5 c 22) (off4 c) (sem0 (j := pr 0 22) rfl) (sem1 (off3 c))) fun _ => ?_
  exact Tri.pure (BI.Entails.refl _)

theorem part33 (v2 : BitVec 32) (v1078 : BitVec 32) : Tri m K c (RSst m c 23) ((onArgs (k0_part33 (F := F))) c v2 v1078)
    (fun _ => RSst m c 25) := by
  unfold onArgs; rw [k0_part33_eq_skeleton]; unfold k0_part33_skel; dsimp only
  refine Tri.bind (step_rs (by decide) (dev55 c) (off5 c 23) (off4 c) (sem0 (j := pr 0 23) rfl) (sem1 (off3 c))) fun _ => ?_
  refine Tri.bind (step_rs (by decide) (dev56 c) (off5 c 24) (off4 c) (sem0 (j := pr 0 24) rfl) (sem1 (off3 c))) fun _ => ?_
  exact Tri.pure (BI.Entails.refl _)

theorem part34 (v2 : BitVec 32) (v1110 : BitVec 32) (c32_i32_760 : BitVec 32) (v1111 : BitVec 1) (c1_i32_762 : BitVec 32) : Tri m K c (RSst m c 25) ((onArgs (k0_part34 (F := F))) c v2 v1110 c32_i32_760 v1111 c1_i32_762)
    (fun _ => RSst m c 26) := by
  unfold onArgs; rw [k0_part34_eq_skeleton]; unfold k0_part34_skel; dsimp only
  refine Tri.bind (step_rs (by decide) (dev57 c) (off5 c 25) (off4 c) (sem0 (j := pr 0 25) rfl) (sem1 (off3 c))) fun _ => ?_
  exact Tri.pure (BI.Entails.refl _)

theorem part35 (v2 : BitVec 32) : Tri m K c (RSst m c 26) ((onArgs (k0_part35 (F := F))) c v2)
    (fun _ => RSst m c 28) := by
  unfold onArgs; rw [k0_part35_eq_skeleton]; unfold k0_part35_skel; dsimp only
  refine Tri.bind (step_rs (by decide) (dev58 c) (off5 c 26) (off4 c) (sem0 (j := pr 0 26) rfl) (sem1 (off3 c))) fun _ => ?_
  refine Tri.bind (step_rs (by decide) (dev59 c) (off5 c 27) (off4 c) (sem0 (j := pr 0 27) rfl) (sem1 (off3 c))) fun _ => ?_
  exact Tri.pure (BI.Entails.refl _)

theorem part36 (v2 : BitVec 32) (v1183 : BitVec 32) : Tri m K c (RSst m c 28) ((onArgs (k0_part36 (F := F))) c v2 v1183)
    (fun _ => RSst m c 30) := by
  unfold onArgs; rw [k0_part36_eq_skeleton]; unfold k0_part36_skel; dsimp only
  refine Tri.bind (step_rs (by decide) (dev60 c) (off5 c 28) (off4 c) (sem0 (j := pr 0 28) rfl) (sem1 (off3 c))) fun _ => ?_
  refine Tri.bind (step_rs (by decide) (dev61 c) (off5 c 29) (off4 c) (sem0 (j := pr 0 29) rfl) (sem1 (off3 c))) fun _ => ?_
  exact Tri.pure (BI.Entails.refl _)

end Cert.AttnProof
-- ==== Proof.PRr.lean ====
/-
The parts of the kernel that receive the row blocks.
-/
module

public import proofs.«01_k».proof.Proof.Steps
public import proofs.«01_k».proof.Proof.Comp
public import proofs.«01_k».proof.Proof.Args
public import proofs.«01_k».proof.Proof.Gen.KernelIdeal.Skeleton

@[expose] public section

noncomputable section

namespace Cert.AttnProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable {m : (ℓ : Loc nD τ sig) → Buf (Elt F) ℓ} {K : Dev nD × CK → ℕ} {c : Dev nD}

theorem part38 (v2 : BitVec 32) (v1247 : BitVec 32) (v1252 : BitVec 1) (v1253 : BitVec 32) : Tri m K c (RRst m c 0) ((onArgs (k0_part38 (F := F))) c v2 v1247 v1252 v1253)
    (fun _ => RRst m c 2) := by
  unfold onArgs; rw [k0_part38_eq_skeleton]; unfold k0_part38_skel; dsimp only
  refine Tri.bind (step_rr (r := 0) (by decide) (sem1 (off8 c 0)) rfl) fun _ => ?_
  refine Tri.bind (step_rr (r := 1) (by decide) (sem1 (off8 c 1)) rfl) fun _ => ?_
  exact Tri.pure (BI.Entails.refl _)

theorem part39 (v2 : BitVec 32) (v1284 : BitVec 32) (v1285 : BitVec 32) (c0_i32_879 : BitVec 32) : Tri m K c (RRst m c 2) ((onArgs (k0_part39 (F := F))) c v2 v1284 v1285 c0_i32_879)
    (fun _ => RRst m c 4) := by
  unfold onArgs; rw [k0_part39_eq_skeleton]; unfold k0_part39_skel; dsimp only
  refine Tri.bind (step_rr (r := 2) (by decide) (sem1 (off8 c 2)) rfl) fun _ => ?_
  refine Tri.bind (step_rr (r := 3) (by decide) (sem1 (off8 c 3)) rfl) fun _ => ?_
  exact Tri.pure (BI.Entails.refl _)

theorem part40 (v2 : BitVec 32) (c5_i32_903 : BitVec 32) : Tri m K c (RRst m c 4) ((onArgs (k0_part40 (F := F))) c v2 c5_i32_903)
    (fun _ => RRst m c 5) := by
  unfold onArgs; rw [k0_part40_eq_skeleton]; unfold k0_part40_skel; dsimp only
  refine Tri.bind (step_rr (r := 4) (by decide) (sem1 (off8 c 4)) rfl) fun _ => ?_
  exact Tri.pure (BI.Entails.refl _)

theorem part41 (v2 : BitVec 32) : Tri m K c (RRst m c 5) ((onArgs (k0_part41 (F := F))) c v2)
    (fun _ => RRst m c 7) := by
  unfold onArgs; rw [k0_part41_eq_skeleton]; unfold k0_part41_skel; dsimp only
  refine Tri.bind (step_rr (r := 5) (by decide) (sem1 (off8 c 5)) rfl) fun _ => ?_
  refine Tri.bind (step_rr (r := 6) (by decide) (sem1 (off8 c 6)) rfl) fun _ => ?_
  exact Tri.pure (BI.Entails.refl _)

theorem part42 (v2 : BitVec 32) (v1387 : BitVec 32) : Tri m K c (RRst m c 7) ((onArgs (k0_part42 (F := F))) c v2 v1387)
    (fun _ => RRst m c 9) := by
  unfold onArgs; rw [k0_part42_eq_skeleton]; unfold k0_part42_skel; dsimp only
  refine Tri.bind (step_rr (r := 7) (by decide) (sem1 (off8 c 7)) rfl) fun _ => ?_
  refine Tri.bind (step_rr (r := 8) (by decide) (sem1 (off8 c 8)) rfl) fun _ => ?_
  exact Tri.pure (BI.Entails.refl _)

theorem part43 (v2 : BitVec 32) (v1417 : BitVec 32) (v1418 : BitVec 32) (v1419 : BitVec 1) (c0_i32_978 : BitVec 32) : Tri m K c (RRst m c 9) ((onArgs (k0_part43 (F := F))) c v2 v1417 v1418 v1419 c0_i32_978)
    (fun _ => RRst m c 11) := by
  unfold onArgs; rw [k0_part43_eq_skeleton]; unfold k0_part43_skel; dsimp only
  refine Tri.bind (step_rr (r := 9) (by decide) (sem1 (off8 c 9)) rfl) fun _ => ?_
  refine Tri.bind (step_rr (r := 10) (by decide) (sem1 (off8 c 10)) rfl) fun _ => ?_
  exact Tri.pure (BI.Entails.refl _)

theorem part44 (v2 : BitVec 32) (v1453 : BitVec 32) (c32_i32_1002 : BitVec 32) : Tri m K c (RRst m c 11) ((onArgs (k0_part44 (F := F))) c v2 v1453 c32_i32_1002)
    (fun _ => RRst m c 12) := by
  unfold onArgs; rw [k0_part44_eq_skeleton]; unfold k0_part44_skel; dsimp only
  refine Tri.bind (step_rr (r := 11) (by decide) (sem1 (off8 c 11)) rfl) fun _ => ?_
  exact Tri.pure (BI.Entails.refl _)

theorem part45 (v2 : BitVec 32) : Tri m K c (RRst m c 12) ((onArgs (k0_part45 (F := F))) c v2)
    (fun _ => RRst m c 14) := by
  unfold onArgs; rw [k0_part45_eq_skeleton]; unfold k0_part45_skel; dsimp only
  refine Tri.bind (step_rr (r := 12) (by decide) (sem1 (off8 c 12)) rfl) fun _ => ?_
  refine Tri.bind (step_rr (r := 13) (by decide) (sem1 (off8 c 13)) rfl) fun _ => ?_
  exact Tri.pure (BI.Entails.refl _)

theorem part46 (v2 : BitVec 32) (v1521 : BitVec 32) : Tri m K c (RRst m c 14) ((onArgs (k0_part46 (F := F))) c v2 v1521)
    (fun _ => RRst m c 16) := by
  unfold onArgs; rw [k0_part46_eq_skeleton]; unfold k0_part46_skel; dsimp only
  refine Tri.bind (step_rr (r := 14) (by decide) (sem1 (off8 c 14)) rfl) fun _ => ?_
  refine Tri.bind (step_rr (r := 15) (by decide) (sem1 (off8 c 15)) rfl) fun _ => ?_
  exact Tri.pure (BI.Entails.refl _)

theorem part47 (v2 : BitVec 32) (v1550 : BitVec 32) (v1551 : BitVec 32) (v1552 : BitVec 1) (v1553 : BitVec 1) (c0_i32_1077 : BitVec 32) : Tri m K c (RRst m c 16) ((onArgs (k0_part47 (F := F))) c v2 v1550 v1551 v1552 v1553 c0_i32_1077)
    (fun _ => RRst m c 18) := by
  unfold onArgs; rw [k0_part47_eq_skeleton]; unfold k0_part47_skel; dsimp only
  refine Tri.bind (step_rr (r := 16) (by decide) (sem1 (off8 c 16)) rfl) fun _ => ?_
  refine Tri.bind (step_rr (r := 17) (by decide) (sem1 (off8 c 17)) rfl) fun _ => ?_
  exact Tri.pure (BI.Entails.refl _)

theorem part48 (v2 : BitVec 32) (v1586 : BitVec 32) (c32_i32_1100 : BitVec 32) (v1587 : BitVec 1) : Tri m K c (RRst m c 18) ((onArgs (k0_part48 (F := F))) c v2 v1586 c32_i32_1100 v1587)
    (fun _ => RRst m c 19) := by
  unfold onArgs; rw [k0_part48_eq_skeleton]; unfold k0_part48_skel; dsimp only
  refine Tri.bind (step_rr (r := 18) (by decide) (sem1 (off8 c 18)) rfl) fun _ => ?_
  exact Tri.pure (BI.Entails.refl _)

theorem part49 (v2 : BitVec 32) : Tri m K c (RRst m c 19) ((onArgs (k0_part49 (F := F))) c v2)
    (fun _ => RRst m c 21) := by
  unfold onArgs; rw [k0_part49_eq_skeleton]; unfold k0_part49_skel; dsimp only
  refine Tri.bind (step_rr (r := 19) (by decide) (sem1 (off8 c 19)) rfl) fun _ => ?_
  refine Tri.bind (step_rr (r := 20) (by decide) (sem1 (off8 c 20)) rfl) fun _ => ?_
  exact Tri.pure (BI.Entails.refl _)

theorem part50 (v2 : BitVec 32) : Tri m K c (RRst m c 21) ((onArgs (k0_part50 (F := F))) c v2)
    (fun _ => RRst m c 23) := by
  unfold onArgs; rw [k0_part50_eq_skeleton]; unfold k0_part50_skel; dsimp only
  refine Tri.bind (step_rr (r := 21) (by decide) (sem1 (off8 c 21)) rfl) fun _ => ?_
  refine Tri.bind (step_rr (r := 22) (by decide) (sem1 (off8 c 22)) rfl) fun _ => ?_
  exact Tri.pure (BI.Entails.refl _)

theorem part51 (v2 : BitVec 32) (v1683 : BitVec 32) (v1684 : BitVec 32) (v1685 : BitVec 1) (v1688 : BitVec 1) : Tri m K c (RRst m c 23) ((onArgs (k0_part51 (F := F))) c v2 v1683 v1684 v1685 v1688)
    (fun _ => RRst m c 25) := by
  unfold onArgs; rw [k0_part51_eq_skeleton]; unfold k0_part51_skel; dsimp only
  refine Tri.bind (step_rr (r := 23) (by decide) (sem1 (off8 c 23)) rfl) fun _ => ?_
  refine Tri.bind (step_rr (r := 24) (by decide) (sem1 (off8 c 24)) rfl) fun _ => ?_
  exact Tri.pure (BI.Entails.refl _)

theorem part52 (v2 : BitVec 32) (v1719 : BitVec 32) (v1721 : BitVec 32) : Tri m K c (RRst m c 25) ((onArgs (k0_part52 (F := F))) c v2 v1719 v1721)
    (fun _ => RRst m c 26) := by
  unfold onArgs; rw [k0_part52_eq_skeleton]; unfold k0_part52_skel; dsimp only
  refine Tri.bind (step_rr (r := 25) (by decide) (sem1 (off8 c 25)) rfl) fun _ => ?_
  exact Tri.pure (BI.Entails.refl _)

theorem part53 (v2 : BitVec 32) : Tri m K c (RRst m c 26) ((onArgs (k0_part53 (F := F))) c v2)
    (fun _ => RRst m c 28) := by
  unfold onArgs; rw [k0_part53_eq_skeleton]; unfold k0_part53_skel; dsimp only
  refine Tri.bind (step_rr (r := 26) (by decide) (sem1 (off8 c 26)) rfl) fun _ => ?_
  refine Tri.bind (step_rr (r := 27) (by decide) (sem1 (off8 c 27)) rfl) fun _ => ?_
  exact Tri.pure (BI.Entails.refl _)

theorem part54 (v2 : BitVec 32) : Tri m K c (RRst m c 28) ((onArgs (k0_part54 (F := F))) c v2)
    (fun _ => RRst m c 30) := by
  unfold onArgs; rw [k0_part54_eq_skeleton]; unfold k0_part54_skel; dsimp only
  refine Tri.bind (step_rr (r := 28) (by decide) (sem1 (off8 c 28)) rfl) fun _ => ?_
  refine Tri.bind (step_rr (r := 29) (by decide) (sem1 (off8 c 29)) rfl) fun _ => ?_
  exact Tri.pure (BI.Entails.refl _)

end Cert.AttnProof
-- ==== Proof.PAg.lean ====
/-
The parts of the kernel that send the results.
-/
module

public import proofs.«01_k».proof.Proof.Steps
public import proofs.«01_k».proof.Proof.Comp
public import proofs.«01_k».proof.Proof.Args
public import proofs.«01_k».proof.Proof.Gen.KernelIdeal.Skeleton

@[expose] public section

noncomputable section

namespace Cert.AttnProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable {m : (ℓ : Loc nD τ sig) → Buf (Elt F) ℓ} {K : Dev nD × CK → ℕ} {c : Dev nD}

theorem part56 (v2 : BitVec 32) : Tri m K c (AGst m c 0) ((onArgs (k0_part56 (F := F))) c v2)
    (fun _ => AGst m c 2) := by
  unfold onArgs; rw [k0_part56_eq_skeleton]; unfold k0_part56_skel; dsimp only
  refine Tri.bind (step_ag (by decide) (dev63 c) (off10 c) (sem2 (j := pr 0 0) rfl) (sem3 (off3 c))) fun _ => ?_
  refine Tri.bind (step_ag (by decide) (dev64 c) (off10 c) (sem2 (j := pr 0 1) rfl) (sem3 (off3 c))) fun _ => ?_
  exact Tri.pure (BI.Entails.refl _)

theorem part57 (v2 : BitVec 32) (v1885 : BitVec 32) (v1890 : BitVec 1) (v1891 : BitVec 32) : Tri m K c (AGst m c 2) ((onArgs (k0_part57 (F := F))) c v2 v1885 v1890 v1891)
    (fun _ => AGst m c 4) := by
  unfold onArgs; rw [k0_part57_eq_skeleton]; unfold k0_part57_skel; dsimp only
  refine Tri.bind (step_ag (by decide) (dev65 c) (off10 c) (sem2 (j := pr 0 2) rfl) (sem3 (off3 c))) fun _ => ?_
  refine Tri.bind (step_ag (by decide) (dev66 c) (off10 c) (sem2 (j := pr 0 3) rfl) (sem3 (off3 c))) fun _ => ?_
  exact Tri.pure (BI.Entails.refl _)

theorem part58 (v2 : BitVec 32) (v1924 : BitVec 32) (c32_i32_1344 : BitVec 32) (v1925 : BitVec 1) : Tri m K c (AGst m c 4) ((onArgs (k0_part58 (F := F))) c v2 v1924 c32_i32_1344 v1925)
    (fun _ => AGst m c 5) := by
  unfold onArgs; rw [k0_part58_eq_skeleton]; unfold k0_part58_skel; dsimp only
  refine Tri.bind (step_ag (by decide) (dev67 c) (off10 c) (sem2 (j := pr 0 4) rfl) (sem3 (off3 c))) fun _ => ?_
  exact Tri.pure (BI.Entails.refl _)

theorem part59 (v2 : BitVec 32) : Tri m K c (AGst m c 5) ((onArgs (k0_part59 (F := F))) c v2)
    (fun _ => AGst m c 7) := by
  unfold onArgs; rw [k0_part59_eq_skeleton]; unfold k0_part59_skel; dsimp only
  refine Tri.bind (step_ag (by decide) (dev68 c) (off10 c) (sem2 (j := pr 0 5) rfl) (sem3 (off3 c))) fun _ => ?_
  refine Tri.bind (step_ag (by decide) (dev69 c) (off10 c) (sem2 (j := pr 0 6) rfl) (sem3 (off3 c))) fun _ => ?_
  exact Tri.pure (BI.Entails.refl _)

theorem part60 (v2 : BitVec 32) (v1990 : BitVec 32) (v1995 : BitVec 1) (v1996 : BitVec 32) : Tri m K c (AGst m c 7) ((onArgs (k0_part60 (F := F))) c v2 v1990 v1995 v1996)
    (fun _ => AGst m c 9) := by
  unfold onArgs; rw [k0_part60_eq_skeleton]; unfold k0_part60_skel; dsimp only
  refine Tri.bind (step_ag (by decide) (dev70 c) (off10 c) (sem2 (j := pr 0 7) rfl) (sem3 (off3 c))) fun _ => ?_
  refine Tri.bind (step_ag (by decide) (dev71 c) (off10 c) (sem2 (j := pr 0 8) rfl) (sem3 (off3 c))) fun _ => ?_
  exact Tri.pure (BI.Entails.refl _)

theorem part61 (v2 : BitVec 32) (v2029 : BitVec 32) (c32_i32_1414 : BitVec 32) (v2030 : BitVec 1) : Tri m K c (AGst m c 9) ((onArgs (k0_part61 (F := F))) c v2 v2029 c32_i32_1414 v2030)
    (fun _ => AGst m c 10) := by
  unfold onArgs; rw [k0_part61_eq_skeleton]; unfold k0_part61_skel; dsimp only
  refine Tri.bind (step_ag (by decide) (dev72 c) (off10 c) (sem2 (j := pr 0 9) rfl) (sem3 (off3 c))) fun _ => ?_
  exact Tri.pure (BI.Entails.refl _)

theorem part62 (v2 : BitVec 32) : Tri m K c (AGst m c 10) ((onArgs (k0_part62 (F := F))) c v2)
    (fun _ => AGst m c 12) := by
  unfold onArgs; rw [k0_part62_eq_skeleton]; unfold k0_part62_skel; dsimp only
  refine Tri.bind (step_ag (by decide) (dev73 c) (off10 c) (sem2 (j := pr 0 10) rfl) (sem3 (off3 c))) fun _ => ?_
  refine Tri.bind (step_ag (by decide) (dev74 c) (off10 c) (sem2 (j := pr 0 11) rfl) (sem3 (off3 c))) fun _ => ?_
  exact Tri.pure (BI.Entails.refl _)

theorem part63 (v2 : BitVec 32) (v2095 : BitVec 32) (v2100 : BitVec 1) (v2101 : BitVec 32) : Tri m K c (AGst m c 12) ((onArgs (k0_part63 (F := F))) c v2 v2095 v2100 v2101)
    (fun _ => AGst m c 14) := by
  unfold onArgs; rw [k0_part63_eq_skeleton]; unfold k0_part63_skel; dsimp only
  refine Tri.bind (step_ag (by decide) (dev75 c) (off10 c) (sem2 (j := pr 0 12) rfl) (sem3 (off3 c))) fun _ => ?_
  refine Tri.bind (step_ag (by decide) (dev76 c) (off10 c) (sem2 (j := pr 0 13) rfl) (sem3 (off3 c))) fun _ => ?_
  exact Tri.pure (BI.Entails.refl _)

theorem part64 (v2 : BitVec 32) (v2134 : BitVec 32) (c32_i32_1484 : BitVec 32) (v2135 : BitVec 1) : Tri m K c (AGst m c 14) ((onArgs (k0_part64 (F := F))) c v2 v2134 c32_i32_1484 v2135)
    (fun _ => AGst m c 15) := by
  unfold onArgs; rw [k0_part64_eq_skeleton]; unfold k0_part64_skel; dsimp only
  refine Tri.bind (step_ag (by decide) (dev77 c) (off10 c) (sem2 (j := pr 0 14) rfl) (sem3 (off3 c))) fun _ => ?_
  exact Tri.pure (BI.Entails.refl _)

theorem part65 (v2 : BitVec 32) : Tri m K c (AGst m c 15) ((onArgs (k0_part65 (F := F))) c v2)
    (fun _ => AGst m c 17) := by
  unfold onArgs; rw [k0_part65_eq_skeleton]; unfold k0_part65_skel; dsimp only
  refine Tri.bind (step_ag (by decide) (dev78 c) (off10 c) (sem2 (j := pr 0 15) rfl) (sem3 (off3 c))) fun _ => ?_
  refine Tri.bind (step_ag (by decide) (dev79 c) (off10 c) (sem2 (j := pr 0 16) rfl) (sem3 (off3 c))) fun _ => ?_
  exact Tri.pure (BI.Entails.refl _)

theorem part66 (v2 : BitVec 32) (v2200 : BitVec 32) (v2205 : BitVec 1) (v2206 : BitVec 32) : Tri m K c (AGst m c 17) ((onArgs (k0_part66 (F := F))) c v2 v2200 v2205 v2206)
    (fun _ => AGst m c 19) := by
  unfold onArgs; rw [k0_part66_eq_skeleton]; unfold k0_part66_skel; dsimp only
  refine Tri.bind (step_ag (by decide) (dev80 c) (off10 c) (sem2 (j := pr 0 17) rfl) (sem3 (off3 c))) fun _ => ?_
  refine Tri.bind (step_ag (by decide) (dev81 c) (off10 c) (sem2 (j := pr 0 18) rfl) (sem3 (off3 c))) fun _ => ?_
  exact Tri.pure (BI.Entails.refl _)

theorem part67 (v2 : BitVec 32) (v2239 : BitVec 32) (c32_i32_1554 : BitVec 32) (v2240 : BitVec 1) : Tri m K c (AGst m c 19) ((onArgs (k0_part67 (F := F))) c v2 v2239 c32_i32_1554 v2240)
    (fun _ => AGst m c 20) := by
  unfold onArgs; rw [k0_part67_eq_skeleton]; unfold k0_part67_skel; dsimp only
  refine Tri.bind (step_ag (by decide) (dev82 c) (off10 c) (sem2 (j := pr 0 19) rfl) (sem3 (off3 c))) fun _ => ?_
  exact Tri.pure (BI.Entails.refl _)

theorem part68 (v2 : BitVec 32) : Tri m K c (AGst m c 20) ((onArgs (k0_part68 (F := F))) c v2)
    (fun _ => AGst m c 22) := by
  unfold onArgs; rw [k0_part68_eq_skeleton]; unfold k0_part68_skel; dsimp only
  refine Tri.bind (step_ag (by decide) (dev83 c) (off10 c) (sem2 (j := pr 0 20) rfl) (sem3 (off3 c))) fun _ => ?_
  refine Tri.bind (step_ag (by decide) (dev84 c) (off10 c) (sem2 (j := pr 0 21) rfl) (sem3 (off3 c))) fun _ => ?_
  exact Tri.pure (BI.Entails.refl _)

theorem part69 (v2 : BitVec 32) (v2305 : BitVec 32) (v2310 : BitVec 1) (v2311 : BitVec 32) : Tri m K c (AGst m c 22) ((onArgs (k0_part69 (F := F))) c v2 v2305 v2310 v2311)
    (fun _ => AGst m c 24) := by
  unfold onArgs; rw [k0_part69_eq_skeleton]; unfold k0_part69_skel; dsimp only
  refine Tri.bind (step_ag (by decide) (dev85 c) (off10 c) (sem2 (j := pr 0 22) rfl) (sem3 (off3 c))) fun _ => ?_
  refine Tri.bind (step_ag (by decide) (dev86 c) (off10 c) (sem2 (j := pr 0 23) rfl) (sem3 (off3 c))) fun _ => ?_
  exact Tri.pure (BI.Entails.refl _)

theorem part70 (v2 : BitVec 32) (v2344 : BitVec 32) (c32_i32_1624 : BitVec 32) (v2345 : BitVec 1) : Tri m K c (AGst m c 24) ((onArgs (k0_part70 (F := F))) c v2 v2344 c32_i32_1624 v2345)
    (fun _ => AGst m c 25) := by
  unfold onArgs; rw [k0_part70_eq_skeleton]; unfold k0_part70_skel; dsimp only
  refine Tri.bind (step_ag (by decide) (dev87 c) (off10 c) (sem2 (j := pr 0 24) rfl) (sem3 (off3 c))) fun _ => ?_
  exact Tri.pure (BI.Entails.refl _)

theorem part71 (v2 : BitVec 32) : Tri m K c (AGst m c 25) ((onArgs (k0_part71 (F := F))) c v2)
    (fun _ => AGst m c 27) := by
  unfold onArgs; rw [k0_part71_eq_skeleton]; unfold k0_part71_skel; dsimp only
  refine Tri.bind (step_ag (by decide) (dev88 c) (off10 c) (sem2 (j := pr 0 25) rfl) (sem3 (off3 c))) fun _ => ?_
  refine Tri.bind (step_ag (by decide) (dev89 c) (off10 c) (sem2 (j := pr 0 26) rfl) (sem3 (off3 c))) fun _ => ?_
  exact Tri.pure (BI.Entails.refl _)

theorem part72 (v2 : BitVec 32) (v2410 : BitVec 32) (v2415 : BitVec 1) (v2416 : BitVec 32) : Tri m K c (AGst m c 27) ((onArgs (k0_part72 (F := F))) c v2 v2410 v2415 v2416)
    (fun _ => AGst m c 29) := by
  unfold onArgs; rw [k0_part72_eq_skeleton]; unfold k0_part72_skel; dsimp only
  refine Tri.bind (step_ag (by decide) (dev90 c) (off10 c) (sem2 (j := pr 0 27) rfl) (sem3 (off3 c))) fun _ => ?_
  refine Tri.bind (step_ag (by decide) (dev91 c) (off10 c) (sem2 (j := pr 0 28) rfl) (sem3 (off3 c))) fun _ => ?_
  exact Tri.pure (BI.Entails.refl _)

theorem part73 (v2 : BitVec 32) (v2449 : BitVec 32) (c32_i32_1694 : BitVec 32) (v2450 : BitVec 1) : Tri m K c (AGst m c 29) ((onArgs (k0_part73 (F := F))) c v2 v2449 c32_i32_1694 v2450)
    (fun _ => AGst m c 30) := by
  unfold onArgs; rw [k0_part73_eq_skeleton]; unfold k0_part73_skel; dsimp only
  refine Tri.bind (step_ag (by decide) (dev92 c) (off10 c) (sem2 (j := pr 0 29) rfl) (sem3 (off3 c))) fun _ => ?_
  exact Tri.pure (BI.Entails.refl _)

end Cert.AttnProof
-- ==== Proof.PAr.lean ====
/-
The parts of the kernel that receive the results.
-/
module

public import proofs.«01_k».proof.Proof.Steps
public import proofs.«01_k».proof.Proof.Comp
public import proofs.«01_k».proof.Proof.Args
public import proofs.«01_k».proof.Proof.Gen.KernelIdeal.Skeleton

@[expose] public section

noncomputable section

namespace Cert.AttnProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable {m : (ℓ : Loc nD τ sig) → Buf (Elt F) ℓ} {K : Dev nD × CK → ℕ} {c : Dev nD}

theorem part75 (v2 : BitVec 32) (v2520 : BitVec 32) (c8_i32_1742 : BitVec 32) : Tri m K c (ARst m c 1) ((onArgs (k0_part75 (F := F))) c v2 v2520 c8_i32_1742)
    (fun _ => ARst m c 3) := by
  unfold onArgs; rw [k0_part75_eq_skeleton]; unfold k0_part75_skel; dsimp only
  refine Tri.bind (step_ar (r := 1) (by decide) (sem3 (off8 c 1)) rfl) fun _ => ?_
  refine Tri.bind (step_ar (r := 2) (by decide) (sem3 (off8 c 2)) rfl) fun _ => ?_
  exact Tri.pure (BI.Entails.refl _)

theorem part76 (v2 : BitVec 32) (v2550 : BitVec 32) (v2551 : BitVec 32) (v2552 : BitVec 1) (c0_i32_1768 : BitVec 32) : Tri m K c (ARst m c 3) ((onArgs (k0_part76 (F := F))) c v2 v2550 v2551 v2552 c0_i32_1768)
    (fun _ => ARst m c 5) := by
  unfold onArgs; rw [k0_part76_eq_skeleton]; unfold k0_part76_skel; dsimp only
  refine Tri.bind (step_ar (r := 3) (by decide) (sem3 (off8 c 3)) rfl) fun _ => ?_
  refine Tri.bind (step_ar (r := 4) (by decide) (sem3 (off8 c 4)) rfl) fun _ => ?_
  exact Tri.pure (BI.Entails.refl _)

theorem part77 (v2 : BitVec 32) (v2586 : BitVec 32) (c32_i32_1792 : BitVec 32) : Tri m K c (ARst m c 5) ((onArgs (k0_part77 (F := F))) c v2 v2586 c32_i32_1792)
    (fun _ => ARst m c 6) := by
  unfold onArgs; rw [k0_part77_eq_skeleton]; unfold k0_part77_skel; dsimp only
  refine Tri.bind (step_ar (r := 5) (by decide) (sem3 (off8 c 5)) rfl) fun _ => ?_
  exact Tri.pure (BI.Entails.refl _)

theorem part78 (v2 : BitVec 32) : Tri m K c (ARst m c 6) ((onArgs (k0_part78 (F := F))) c v2)
    (fun _ => ARst m c 8) := by
  unfold onArgs; rw [k0_part78_eq_skeleton]; unfold k0_part78_skel; dsimp only
  refine Tri.bind (step_ar (r := 6) (by decide) (sem3 (off8 c 6)) rfl) fun _ => ?_
  refine Tri.bind (step_ar (r := 7) (by decide) (sem3 (off8 c 7)) rfl) fun _ => ?_
  exact Tri.pure (BI.Entails.refl _)

theorem part79 (v2 : BitVec 32) (v2653 : BitVec 32) (c8_i32_1841 : BitVec 32) : Tri m K c (ARst m c 8) ((onArgs (k0_part79 (F := F))) c v2 v2653 c8_i32_1841)
    (fun _ => ARst m c 10) := by
  unfold onArgs; rw [k0_part79_eq_skeleton]; unfold k0_part79_skel; dsimp only
  refine Tri.bind (step_ar (r := 8) (by decide) (sem3 (off8 c 8)) rfl) fun _ => ?_
  refine Tri.bind (step_ar (r := 9) (by decide) (sem3 (off8 c 9)) rfl) fun _ => ?_
  exact Tri.pure (BI.Entails.refl _)

theorem part80 (v2 : BitVec 32) (v2683 : BitVec 32) (v2684 : BitVec 32) (v2685 : BitVec 1) (v2686 : BitVec 1) (c0_i32_1867 : BitVec 32) : Tri m K c (ARst m c 10) ((onArgs (k0_part80 (F := F))) c v2 v2683 v2684 v2685 v2686 c0_i32_1867)
    (fun _ => ARst m c 12) := by
  unfold onArgs; rw [k0_part80_eq_skeleton]; unfold k0_part80_skel; dsimp only
  refine Tri.bind (step_ar (r := 10) (by decide) (sem3 (off8 c 10)) rfl) fun _ => ?_
  refine Tri.bind (step_ar (r := 11) (by decide) (sem3 (off8 c 11)) rfl) fun _ => ?_
  exact Tri.pure (BI.Entails.refl _)

theorem part81 (v2 : BitVec 32) (v2719 : BitVec 32) (c32_i32_1890 : BitVec 32) (v2720 : BitVec 1) : Tri m K c (ARst m c 12) ((onArgs (k0_part81 (F := F))) c v2 v2719 c32_i32_1890 v2720)
    (fun _ => ARst m c 13) := by
  unfold onArgs; rw [k0_part81_eq_skeleton]; unfold k0_part81_skel; dsimp only
  refine Tri.bind (step_ar (r := 12) (by decide) (sem3 (off8 c 12)) rfl) fun _ => ?_
  exact Tri.pure (BI.Entails.refl _)

theorem part82 (v2 : BitVec 32) : Tri m K c (ARst m c 13) ((onArgs (k0_part82 (F := F))) c v2)
    (fun _ => ARst m c 15) := by
  unfold onArgs; rw [k0_part82_eq_skeleton]; unfold k0_part82_skel; dsimp only
  refine Tri.bind (step_ar (r := 13) (by decide) (sem3 (off8 c 13)) rfl) fun _ => ?_
  refine Tri.bind (step_ar (r := 14) (by decide) (sem3 (off8 c 14)) rfl) fun _ => ?_
  exact Tri.pure (BI.Entails.refl _)

theorem part83 (v2 : BitVec 32) (v2786 : BitVec 32) : Tri m K c (ARst m c 15) ((onArgs (k0_part83 (F := F))) c v2 v2786)
    (fun _ => ARst m c 17) := by
  unfold onArgs; rw [k0_part83_eq_skeleton]; unfold k0_part83_skel; dsimp only
  refine Tri.bind (step_ar (r := 15) (by decide) (sem3 (off8 c 15)) rfl) fun _ => ?_
  refine Tri.bind (step_ar (r := 16) (by decide) (sem3 (off8 c 16)) rfl) fun _ => ?_
  exact Tri.pure (BI.Entails.refl _)

theorem part84 (v2 : BitVec 32) (v2816 : BitVec 32) (v2817 : BitVec 32) (v2818 : BitVec 1) (v2821 : BitVec 1) : Tri m K c (ARst m c 17) ((onArgs (k0_part84 (F := F))) c v2 v2816 v2817 v2818 v2821)
    (fun _ => ARst m c 19) := by
  unfold onArgs; rw [k0_part84_eq_skeleton]; unfold k0_part84_skel; dsimp only
  refine Tri.bind (step_ar (r := 17) (by decide) (sem3 (off8 c 17)) rfl) fun _ => ?_
  refine Tri.bind (step_ar (r := 18) (by decide) (sem3 (off8 c 18)) rfl) fun _ => ?_
  exact Tri.pure (BI.Entails.refl _)

theorem part85 (v2 : BitVec 32) (v2852 : BitVec 32) (v2854 : BitVec 32) : Tri m K c (ARst m c 19) ((onArgs (k0_part85 (F := F))) c v2 v2852 v2854)
    (fun _ => ARst m c 20) := by
  unfold onArgs; rw [k0_part85_eq_skeleton]; unfold k0_part85_skel; dsimp only
  refine Tri.bind (step_ar (r := 19) (by decide) (sem3 (off8 c 19)) rfl) fun _ => ?_
  exact Tri.pure (BI.Entails.refl _)

theorem part86 (v2 : BitVec 32) : Tri m K c (ARst m c 20) ((onArgs (k0_part86 (F := F))) c v2)
    (fun _ => ARst m c 22) := by
  unfold onArgs; rw [k0_part86_eq_skeleton]; unfold k0_part86_skel; dsimp only
  refine Tri.bind (step_ar (r := 20) (by decide) (sem3 (off8 c 20)) rfl) fun _ => ?_
  refine Tri.bind (step_ar (r := 21) (by decide) (sem3 (off8 c 21)) rfl) fun _ => ?_
  exact Tri.pure (BI.Entails.refl _)

theorem part87 (v2 : BitVec 32) (v2922 : BitVec 32) : Tri m K c (ARst m c 22) ((onArgs (k0_part87 (F := F))) c v2 v2922)
    (fun _ => ARst m c 24) := by
  unfold onArgs; rw [k0_part87_eq_skeleton]; unfold k0_part87_skel; dsimp only
  refine Tri.bind (step_ar (r := 22) (by decide) (sem3 (off8 c 22)) rfl) fun _ => ?_
  refine Tri.bind (step_ar (r := 23) (by decide) (sem3 (off8 c 23)) rfl) fun _ => ?_
  exact Tri.pure (BI.Entails.refl _)

theorem part88 (v2 : BitVec 32) (v2950 : BitVec 32) (v2955 : BitVec 1) (v2956 : BitVec 32) : Tri m K c (ARst m c 24) ((onArgs (k0_part88 (F := F))) c v2 v2950 v2955 v2956)
    (fun _ => ARst m c 26) := by
  unfold onArgs; rw [k0_part88_eq_skeleton]; unfold k0_part88_skel; dsimp only
  refine Tri.bind (step_ar (r := 24) (by decide) (sem3 (off8 c 24)) rfl) fun _ => ?_
  refine Tri.bind (step_ar (r := 25) (by decide) (sem3 (off8 c 25)) rfl) fun _ => ?_
  exact Tri.pure (BI.Entails.refl _)

theorem part89 (v2 : BitVec 32) (v2987 : BitVec 32) (v2988 : BitVec 32) (c0_i32_2089 : BitVec 32) : Tri m K c (ARst m c 26) ((onArgs (k0_part89 (F := F))) c v2 v2987 v2988 c0_i32_2089)
    (fun _ => ARst m c 28) := by
  unfold onArgs; rw [k0_part89_eq_skeleton]; unfold k0_part89_skel; dsimp only
  refine Tri.bind (step_ar (r := 26) (by decide) (sem3 (off8 c 26)) rfl) fun _ => ?_
  refine Tri.bind (step_ar (r := 27) (by decide) (sem3 (off8 c 27)) rfl) fun _ => ?_
  exact Tri.pure (BI.Entails.refl _)

theorem part90 (v2 : BitVec 32) (c29_i32_2113 : BitVec 32) : Tri m K c (ARst m c 28) ((onArgs (k0_part90 (F := F))) c v2 c29_i32_2113)
    (fun _ => ARst m c 29) := by
  unfold onArgs; rw [k0_part90_eq_skeleton]; unfold k0_part90_skel; dsimp only
  refine Tri.bind (step_ar (r := 28) (by decide) (sem3 (off8 c 28)) rfl) fun _ => ?_
  exact Tri.pure (BI.Entails.refl _)

theorem part91 (v2 : BitVec 32) : Tri m K c (ARst m c 29) ((onArgs (k0_part91 (F := F))) c v2)
    (fun _ => ARst m c 31) := by
  unfold onArgs; rw [k0_part91_eq_skeleton]; unfold k0_part91_skel; dsimp only
  refine Tri.bind (step_ar (r := 29) (by decide) (sem3 (off8 c 29)) rfl) fun _ => ?_
  refine Tri.bind (step_ar (r := 30) (by decide) (sem3 (off8 c 30)) rfl) fun _ => ?_
  exact Tri.pure (BI.Entails.refl _)

end Cert.AttnProof
-- ==== Proof.PSw.lean ====
/-
The parts of the kernel that wait for the sends.
-/
module

public import proofs.«01_k».proof.Proof.Steps
public import proofs.«01_k».proof.Proof.Comp
public import proofs.«01_k».proof.Proof.Args
public import proofs.«01_k».proof.Proof.Gen.KernelIdeal.Skeleton

@[expose] public section

noncomputable section

namespace Cert.AttnProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable {m : (ℓ : Loc nD τ sig) → Buf (Elt F) ℓ} {K : Dev nD × CK → ℕ} {c : Dev nD}

theorem part92 (v2 : BitVec 32) (v3090 : BitVec 32) (c8_i32_2162 : BitVec 32) : Tri m K c (SWst m c 0 0) ((onArgs (k0_part92 (F := F))) c v2 v3090 c8_i32_2162)
    (fun _ => SWst m c 2 1) := by
  unfold onArgs; rw [k0_part92_eq_skeleton]; unfold k0_part92_skel; dsimp only
  refine Tri.bind (step_sw0 (r := 0) (by decide) (sem0 (j := pr 0 0) rfl) rfl) fun _ => ?_
  refine Tri.bind (step_sw2 (s := 0) (by decide) (sem2 (j := pr 0 0) rfl) rfl) fun _ => ?_
  refine Tri.bind (step_sw0 (r := 1) (by decide) (sem0 (j := pr 0 1) rfl) rfl) fun _ => ?_
  exact Tri.pure (BI.Entails.refl _)

theorem part93 (v2 : BitVec 32) : Tri m K c (SWst m c 2 1) ((onArgs (k0_part93 (F := F))) c v2)
    (fun _ => SWst m c 3 3) := by
  unfold onArgs; rw [k0_part93_eq_skeleton]; unfold k0_part93_skel; dsimp only
  refine Tri.bind (step_sw2 (s := 1) (by decide) (sem2 (j := pr 0 1) rfl) rfl) fun _ => ?_
  refine Tri.bind (step_sw0 (r := 2) (by decide) (sem0 (j := pr 0 2) rfl) rfl) fun _ => ?_
  refine Tri.bind (step_sw2 (s := 2) (by decide) (sem2 (j := pr 0 2) rfl) rfl) fun _ => ?_
  exact Tri.pure (BI.Entails.refl _)

theorem part94 (v2 : BitVec 32) (v3149 : BitVec 32) (v3151 : BitVec 32) : Tri m K c (SWst m c 3 3) ((onArgs (k0_part94 (F := F))) c v2 v3149 v3151)
    (fun _ => SWst m c 4 4) := by
  unfold onArgs; rw [k0_part94_eq_skeleton]; unfold k0_part94_skel; dsimp only
  refine Tri.bind (step_sw0 (r := 3) (by decide) (sem0 (j := pr 0 3) rfl) rfl) fun _ => ?_
  refine Tri.bind (step_sw2 (s := 3) (by decide) (sem2 (j := pr 0 3) rfl) rfl) fun _ => ?_
  exact Tri.pure (BI.Entails.refl _)

theorem part95 (v2 : BitVec 32) : Tri m K c (SWst m c 4 4) ((onArgs (k0_part95 (F := F))) c v2)
    (fun _ => SWst m c 6 5) := by
  unfold onArgs; rw [k0_part95_eq_skeleton]; unfold k0_part95_skel; dsimp only
  refine Tri.bind (step_sw0 (r := 4) (by decide) (sem0 (j := pr 0 4) rfl) rfl) fun _ => ?_
  refine Tri.bind (step_sw2 (s := 4) (by decide) (sem2 (j := pr 0 4) rfl) rfl) fun _ => ?_
  refine Tri.bind (step_sw0 (r := 5) (by decide) (sem0 (j := pr 0 5) rfl) rfl) fun _ => ?_
  exact Tri.pure (BI.Entails.refl _)

theorem part96 (v2 : BitVec 32) : Tri m K c (SWst m c 6 5) ((onArgs (k0_part96 (F := F))) c v2)
    (fun _ => SWst m c 7 7) := by
  unfold onArgs; rw [k0_part96_eq_skeleton]; unfold k0_part96_skel; dsimp only
  refine Tri.bind (step_sw2 (s := 5) (by decide) (sem2 (j := pr 0 5) rfl) rfl) fun _ => ?_
  refine Tri.bind (step_sw0 (r := 6) (by decide) (sem0 (j := pr 0 6) rfl) rfl) fun _ => ?_
  refine Tri.bind (step_sw2 (s := 6) (by decide) (sem2 (j := pr 0 6) rfl) rfl) fun _ => ?_
  exact Tri.pure (BI.Entails.refl _)

theorem part97 (v2 : BitVec 32) (v3243 : BitVec 32) (v3244 : BitVec 32) (v3245 : BitVec 1) (c0_i32_2293 : BitVec 32) : Tri m K c (SWst m c 7 7) ((onArgs (k0_part97 (F := F))) c v2 v3243 v3244 v3245 c0_i32_2293)
    (fun _ => SWst m c 8 8) := by
  unfold onArgs; rw [k0_part97_eq_skeleton]; unfold k0_part97_skel; dsimp only
  refine Tri.bind (step_sw0 (r := 7) (by decide) (sem0 (j := pr 0 7) rfl) rfl) fun _ => ?_
  refine Tri.bind (step_sw2 (s := 7) (by decide) (sem2 (j := pr 0 7) rfl) rfl) fun _ => ?_
  exact Tri.pure (BI.Entails.refl _)

theorem part98 (v2 : BitVec 32) : Tri m K c (SWst m c 8 8) ((onArgs (k0_part98 (F := F))) c v2)
    (fun _ => SWst m c 10 9) := by
  unfold onArgs; rw [k0_part98_eq_skeleton]; unfold k0_part98_skel; dsimp only
  refine Tri.bind (step_sw0 (r := 8) (by decide) (sem0 (j := pr 0 8) rfl) rfl) fun _ => ?_
  refine Tri.bind (step_sw2 (s := 8) (by decide) (sem2 (j := pr 0 8) rfl) rfl) fun _ => ?_
  refine Tri.bind (step_sw0 (r := 9) (by decide) (sem0 (j := pr 0 9) rfl) rfl) fun _ => ?_
  exact Tri.pure (BI.Entails.refl _)

theorem part99 (v2 : BitVec 32) : Tri m K c (SWst m c 10 9) ((onArgs (k0_part99 (F := F))) c v2)
    (fun _ => SWst m c 11 11) := by
  unfold onArgs; rw [k0_part99_eq_skeleton]; unfold k0_part99_skel; dsimp only
  refine Tri.bind (step_sw2 (s := 9) (by decide) (sem2 (j := pr 0 9) rfl) rfl) fun _ => ?_
  refine Tri.bind (step_sw0 (r := 10) (by decide) (sem0 (j := pr 0 10) rfl) rfl) fun _ => ?_
  refine Tri.bind (step_sw2 (s := 10) (by decide) (sem2 (j := pr 0 10) rfl) rfl) fun _ => ?_
  exact Tri.pure (BI.Entails.refl _)

theorem part100 (v2 : BitVec 32) (v3335 : BitVec 32) (v3336 : BitVec 32) (v3337 : BitVec 1) (v3340 : BitVec 1) : Tri m K c (SWst m c 11 11) ((onArgs (k0_part100 (F := F))) c v2 v3335 v3336 v3337 v3340)
    (fun _ => SWst m c 13 12) := by
  unfold onArgs; rw [k0_part100_eq_skeleton]; unfold k0_part100_skel; dsimp only
  refine Tri.bind (step_sw0 (r := 11) (by decide) (sem0 (j := pr 0 11) rfl) rfl) fun _ => ?_
  refine Tri.bind (step_sw2 (s := 11) (by decide) (sem2 (j := pr 0 11) rfl) rfl) fun _ => ?_
  refine Tri.bind (step_sw0 (r := 12) (by decide) (sem0 (j := pr 0 12) rfl) rfl) fun _ => ?_
  exact Tri.pure (BI.Entails.refl _)

theorem part101 (v2 : BitVec 32) : Tri m K c (SWst m c 13 12) ((onArgs (k0_part101 (F := F))) c v2)
    (fun _ => SWst m c 14 14) := by
  unfold onArgs; rw [k0_part101_eq_skeleton]; unfold k0_part101_skel; dsimp only
  refine Tri.bind (step_sw2 (s := 12) (by decide) (sem2 (j := pr 0 12) rfl) rfl) fun _ => ?_
  refine Tri.bind (step_sw0 (r := 13) (by decide) (sem0 (j := pr 0 13) rfl) rfl) fun _ => ?_
  refine Tri.bind (step_sw2 (s := 13) (by decide) (sem2 (j := pr 0 13) rfl) rfl) fun _ => ?_
  exact Tri.pure (BI.Entails.refl _)

theorem part102 (v2 : BitVec 32) (v3402 : BitVec 32) (c32_i32_2422 : BitVec 32) : Tri m K c (SWst m c 14 14) ((onArgs (k0_part102 (F := F))) c v2 v3402 c32_i32_2422)
    (fun _ => SWst m c 15 15) := by
  unfold onArgs; rw [k0_part102_eq_skeleton]; unfold k0_part102_skel; dsimp only
  refine Tri.bind (step_sw0 (r := 14) (by decide) (sem0 (j := pr 0 14) rfl) rfl) fun _ => ?_
  refine Tri.bind (step_sw2 (s := 14) (by decide) (sem2 (j := pr 0 14) rfl) rfl) fun _ => ?_
  exact Tri.pure (BI.Entails.refl _)

theorem part103 (v2 : BitVec 32) (v3435 : BitVec 32) (c8_i32_2447 : BitVec 32) : Tri m K c (SWst m c 15 15) ((onArgs (k0_part103 (F := F))) c v2 v3435 c8_i32_2447)
    (fun _ => SWst m c 17 16) := by
  unfold onArgs; rw [k0_part103_eq_skeleton]; unfold k0_part103_skel; dsimp only
  refine Tri.bind (step_sw0 (r := 15) (by decide) (sem0 (j := pr 0 15) rfl) rfl) fun _ => ?_
  refine Tri.bind (step_sw2 (s := 15) (by decide) (sem2 (j := pr 0 15) rfl) rfl) fun _ => ?_
  refine Tri.bind (step_sw0 (r := 16) (by decide) (sem0 (j := pr 0 16) rfl) rfl) fun _ => ?_
  exact Tri.pure (BI.Entails.refl _)

theorem part104 (v2 : BitVec 32) : Tri m K c (SWst m c 17 16) ((onArgs (k0_part104 (F := F))) c v2)
    (fun _ => SWst m c 18 18) := by
  unfold onArgs; rw [k0_part104_eq_skeleton]; unfold k0_part104_skel; dsimp only
  refine Tri.bind (step_sw2 (s := 16) (by decide) (sem2 (j := pr 0 16) rfl) rfl) fun _ => ?_
  refine Tri.bind (step_sw0 (r := 17) (by decide) (sem0 (j := pr 0 17) rfl) rfl) fun _ => ?_
  refine Tri.bind (step_sw2 (s := 17) (by decide) (sem2 (j := pr 0 17) rfl) rfl) fun _ => ?_
  exact Tri.pure (BI.Entails.refl _)

theorem part105 (v2 : BitVec 32) (v3494 : BitVec 32) (v3496 : BitVec 32) : Tri m K c (SWst m c 18 18) ((onArgs (k0_part105 (F := F))) c v2 v3494 v3496)
    (fun _ => SWst m c 19 19) := by
  unfold onArgs; rw [k0_part105_eq_skeleton]; unfold k0_part105_skel; dsimp only
  refine Tri.bind (step_sw0 (r := 18) (by decide) (sem0 (j := pr 0 18) rfl) rfl) fun _ => ?_
  refine Tri.bind (step_sw2 (s := 18) (by decide) (sem2 (j := pr 0 18) rfl) rfl) fun _ => ?_
  exact Tri.pure (BI.Entails.refl _)

theorem part106 (v2 : BitVec 32) : Tri m K c (SWst m c 19 19) ((onArgs (k0_part106 (F := F))) c v2)
    (fun _ => SWst m c 21 20) := by
  unfold onArgs; rw [k0_part106_eq_skeleton]; unfold k0_part106_skel; dsimp only
  refine Tri.bind (step_sw0 (r := 19) (by decide) (sem0 (j := pr 0 19) rfl) rfl) fun _ => ?_
  refine Tri.bind (step_sw2 (s := 19) (by decide) (sem2 (j := pr 0 19) rfl) rfl) fun _ => ?_
  refine Tri.bind (step_sw0 (r := 20) (by decide) (sem0 (j := pr 0 20) rfl) rfl) fun _ => ?_
  exact Tri.pure (BI.Entails.refl _)

theorem part107 (v2 : BitVec 32) : Tri m K c (SWst m c 21 20) ((onArgs (k0_part107 (F := F))) c v2)
    (fun _ => SWst m c 22 22) := by
  unfold onArgs; rw [k0_part107_eq_skeleton]; unfold k0_part107_skel; dsimp only
  refine Tri.bind (step_sw2 (s := 20) (by decide) (sem2 (j := pr 0 20) rfl) rfl) fun _ => ?_
  refine Tri.bind (step_sw0 (r := 21) (by decide) (sem0 (j := pr 0 21) rfl) rfl) fun _ => ?_
  refine Tri.bind (step_sw2 (s := 21) (by decide) (sem2 (j := pr 0 21) rfl) rfl) fun _ => ?_
  exact Tri.pure (BI.Entails.refl _)

theorem part108 (v2 : BitVec 32) (v3588 : BitVec 32) (v3589 : BitVec 32) (v3590 : BitVec 1) (c0_i32_2578 : BitVec 32) : Tri m K c (SWst m c 22 22) ((onArgs (k0_part108 (F := F))) c v2 v3588 v3589 v3590 c0_i32_2578)
    (fun _ => SWst m c 23 23) := by
  unfold onArgs; rw [k0_part108_eq_skeleton]; unfold k0_part108_skel; dsimp only
  refine Tri.bind (step_sw0 (r := 22) (by decide) (sem0 (j := pr 0 22) rfl) rfl) fun _ => ?_
  refine Tri.bind (step_sw2 (s := 22) (by decide) (sem2 (j := pr 0 22) rfl) rfl) fun _ => ?_
  exact Tri.pure (BI.Entails.refl _)

theorem part109 (v2 : BitVec 32) : Tri m K c (SWst m c 23 23) ((onArgs (k0_part109 (F := F))) c v2)
    (fun _ => SWst m c 25 24) := by
  unfold onArgs; rw [k0_part109_eq_skeleton]; unfold k0_part109_skel; dsimp only
  refine Tri.bind (step_sw0 (r := 23) (by decide) (sem0 (j := pr 0 23) rfl) rfl) fun _ => ?_
  refine Tri.bind (step_sw2 (s := 23) (by decide) (sem2 (j := pr 0 23) rfl) rfl) fun _ => ?_
  refine Tri.bind (step_sw0 (r := 24) (by decide) (sem0 (j := pr 0 24) rfl) rfl) fun _ => ?_
  exact Tri.pure (BI.Entails.refl _)

theorem part110 (v2 : BitVec 32) : Tri m K c (SWst m c 25 24) ((onArgs (k0_part110 (F := F))) c v2)
    (fun _ => SWst m c 26 26) := by
  unfold onArgs; rw [k0_part110_eq_skeleton]; unfold k0_part110_skel; dsimp only
  refine Tri.bind (step_sw2 (s := 24) (by decide) (sem2 (j := pr 0 24) rfl) rfl) fun _ => ?_
  refine Tri.bind (step_sw0 (r := 25) (by decide) (sem0 (j := pr 0 25) rfl) rfl) fun _ => ?_
  refine Tri.bind (step_sw2 (s := 25) (by decide) (sem2 (j := pr 0 25) rfl) rfl) fun _ => ?_
  exact Tri.pure (BI.Entails.refl _)

theorem part111 (v2 : BitVec 32) (v3680 : BitVec 32) (v3681 : BitVec 32) (v3682 : BitVec 1) (v3685 : BitVec 1) : Tri m K c (SWst m c 26 26) ((onArgs (k0_part111 (F := F))) c v2 v3680 v3681 v3682 v3685)
    (fun _ => SWst m c 28 27) := by
  unfold onArgs; rw [k0_part111_eq_skeleton]; unfold k0_part111_skel; dsimp only
  refine Tri.bind (step_sw0 (r := 26) (by decide) (sem0 (j := pr 0 26) rfl) rfl) fun _ => ?_
  refine Tri.bind (step_sw2 (s := 26) (by decide) (sem2 (j := pr 0 26) rfl) rfl) fun _ => ?_
  refine Tri.bind (step_sw0 (r := 27) (by decide) (sem0 (j := pr 0 27) rfl) rfl) fun _ => ?_
  exact Tri.pure (BI.Entails.refl _)

theorem part112 (v2 : BitVec 32) : Tri m K c (SWst m c 28 27) ((onArgs (k0_part112 (F := F))) c v2)
    (fun _ => SWst m c 29 29) := by
  unfold onArgs; rw [k0_part112_eq_skeleton]; unfold k0_part112_skel; dsimp only
  refine Tri.bind (step_sw2 (s := 27) (by decide) (sem2 (j := pr 0 27) rfl) rfl) fun _ => ?_
  refine Tri.bind (step_sw0 (r := 28) (by decide) (sem0 (j := pr 0 28) rfl) rfl) fun _ => ?_
  refine Tri.bind (step_sw2 (s := 28) (by decide) (sem2 (j := pr 0 28) rfl) rfl) fun _ => ?_
  exact Tri.pure (BI.Entails.refl _)

theorem part113 (v2 : BitVec 32) (v3747 : BitVec 32) (c32_i32_2707 : BitVec 32) : Tri m K c (SWst m c 29 29) ((onArgs (k0_part113 (F := F))) c v2 v3747 c32_i32_2707)
    (fun _ => SWst m c 30 30) := by
  unfold onArgs; rw [k0_part113_eq_skeleton]; unfold k0_part113_skel; dsimp only
  refine Tri.bind (step_sw0 (r := 29) (by decide) (sem0 (j := pr 0 29) rfl) rfl) fun _ => ?_
  refine Tri.bind (step_sw2 (s := 29) (by decide) (sem2 (j := pr 0 29) rfl) rfl) fun _ => ?_
  exact Tri.pure (BI.Entails.refl _)

end Cert.AttnProof
-- ==== Proof.PCopy.lean ====
/-
The part of the kernel that ends the barrier and copies the weights in.
-/
module

public import proofs.«01_k».proof.Proof.Steps
public import proofs.«01_k».proof.Proof.Comp
public import proofs.«01_k».proof.Proof.Args
public import proofs.«01_k».proof.Proof.Gen.KernelIdeal.Skeleton

@[expose] public section

noncomputable section

namespace Cert.AttnProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable {m : (ℓ : Loc nD τ sig) → Buf (Elt F) ℓ} {K : Dev nD × CK → ℕ} {c : Dev nD}

/-- What the barrier wait uses, and what each copy uses. -/
def BarIn (c : Dev nD) : sProp 𝕄 := iprop(cred (tallyAt (bar c) () 31) ∗ atPos ER (bar c) 0 ∅ 0)
def CpA (m : (ℓ : Loc nD τ sig) → Buf (Elt F) ℓ) (c : Dev nD) : sProp 𝕄 :=
  iprop(wqSrc (m := m) (c := c) ∗ (∃ f, ((c : Thread nD τ).loc cc0_scratch1) ↦[Finset.univ]{fullShare} f) ∗ dutyTok ER (cp c 0) 0 0 ∗ atPos ER (cp c 0) 0 ∅ 0)
def CpB (m : (ℓ : Loc nD τ sig) → Buf (Elt F) ℓ) (c : Dev nD) : sProp 𝕄 :=
  iprop(woSrc (m := m) (c := c) ∗ (∃ f, ((c : Thread nD τ).loc cc0_scratch2) ↦[Finset.univ]{fullShare} f) ∗ dutyTok ER (cp c 1) 0 0 ∗ atPos ER (cp c 1) 0 ∅ 0)
/-- A copy under way. -/
def CpW (c : Dev nD) (j : Fin 2) : sProp 𝕄 := iprop(cred (tallyAt (cp c j) () (Ncp j)) ∗ atPos ER (cp c j) 0 ∅ 0)

theorem wqPay_eq (c : Dev nD) : wqPay m c = iprop(wqPts m c ∗ wqSrc (m := m) (c := c)) := by
  unfold wqPay wqPts wqSrc
  rw [show (wqM : Memref sig .tc .vmem S512x256 .f32).view.set = Finset.univ from View.set_whole _]
theorem woPay_eq (c : Dev nD) : woPay m c = iprop(woPts m c ∗ woSrc (m := m) (c := c)) := by
  unfold woPay woPts woSrc
  rw [show (woM : Memref sig .tc .vmem S256x512 .f32).view.set = Finset.univ from View.set_whole _]

theorem step_cp0 {o : Fin 2 → ℕ} (ho : o = ![0, 256 * c.val]) {s : DmaSem sig} (hs : s = cpS 0)
    {h1 : ∀ a, o a + S512x256.size a ≤ S512x8192.size a} {hsrc hdst hsem} :
    Tri m K c (CpA m c) (Prog.lift (.enqueueDma (wqA.slice (Rect.unit (s := S512x8192) o S512x256.size h1) (fun _ => rfl)) (.here wqM) (.dma s) hsrc hdst hsem))
      (fun _ => CpW c 0) := by
  subst ho hs
  unfold Tri CpA CpW Prog.lift wqSrc
  iintro ⟨#HR, Hs, ⟨%fd, Hd⟩, Ht, Ha⟩
  iapply (Rounds.wp_copy_pointsTo 𝒱₀ ER (Rd m) (c : Thread nD τ) none (src := wqSl c) (dst := wqM) (sem := .dma (cpS 0)) (κ := K (c, Sum.inr (Sum.inl 0)))
      (r := 0) (d := 0) (q := fullShare) (fs := m ((c : Thread nD τ).loc main_arg1)) (fd := fd)
      (by rw [duties_cp]; exact Finset.mem_singleton_self _) () (Ncp 0) (by rfl) (amount_cp m c 0 0)
      (by
        rw [payload_cp0]; unfold wqPay
        refine sep_mono_left (Entails.of_eq ?_)
        rw [show (wqM : Memref sig .tc .vmem S512x256 .f32).view.set = Finset.univ from View.set_whole _]
        exact congrArg _ (View.write_whole_univ _ _ _))) $$ [Hs Hd Ht]
  · isplitr; · iapply (Recs_inv m K (c, Sum.inr (Sum.inl 0))); iexact HR
    isplitl [Hs]; · iexact Hs
    isplitl [Hd]; · rw [show (wqM : Memref sig .tc .vmem S512x256 .f32).view.set = Finset.univ from View.set_whole _]; iexact Hd
    isplitl [Ht]; · iexact Ht
    iapply (Recs_reached m K (c, Sum.inr (Sum.inl 0))); iexact HR
  iintro Hc
  rw [wp_ret]; imodintro
  isplitl [Hc] <;> iassumption

theorem step_cpw0 {s : DmaSem sig} (hs : s = cpS 0) {sp : Space} {s1 : Shape} {e : EltTy} {src : Memref sig .tc sp s1 e} {hsrc hdst} :
    Tri m K c iprop(Ow c (Ob c 31 0 0) ∗ CpW c 0) (Prog.lift (.waitDma2 s src wqM hsrc hdst))
      (fun _ => iprop(Ow c (Ob c 31 0 0) ∗ atPos ER (cp c 0) 1 ∅ 0 ∗ wqPts m c ∗ wqSrc (m := m) (c := c))) := by
  subst hs
  rw [← wqPay_eq]
  exact Tri.wait (α := PUnit) (F := F) (m := m) (K := K) (c := c) (w := .waitDma2 (cpS 0) src wqM hsrc hdst) (k' := Ncp 0) (Sum.inr (Sum.inl 0)) rfl
    (wpE_waitDma2_eq 𝒱₀ (c : Thread nD τ) none Set.univ) (expect_cp m c 0) 31 0 0
    (Or.inl (lvS_cp 0)) ((rest_cp m c 0).trans (payload_cp0 m c 0))

theorem step_cp1 {o : Fin 2 → ℕ} (ho : o = ![256 * c.val, 0]) {s : DmaSem sig} (hs : s = cpS 1)
    {h1 : ∀ a, o a + S256x512.size a ≤ S8192x512.size a} {hsrc hdst hsem} :
    Tri m K c (CpB m c) (Prog.lift (.enqueueDma (woA.slice (Rect.unit (s := S8192x512) o S256x512.size h1) (fun _ => rfl)) (.here woM) (.dma s) hsrc hdst hsem))
      (fun _ => CpW c 1) := by
  subst ho hs
  unfold Tri CpB CpW Prog.lift woSrc
  iintro ⟨#HR, Hs, ⟨%fd, Hd⟩, Ht, Ha⟩
  iapply (Rounds.wp_copy_pointsTo 𝒱₀ ER (Rd m) (c : Thread nD τ) none (src := woSl c) (dst := woM) (sem := .dma (cpS 1)) (κ := K (c, Sum.inr (Sum.inl 1)))
      (r := 0) (d := 0) (q := fullShare) (fs := m ((c : Thread nD τ).loc main_arg4)) (fd := fd)
      (by rw [duties_cp]; exact Finset.mem_singleton_self _) () (Ncp 1) (by rfl) (amount_cp m c 1 0)
      (by
        rw [payload_cp1]; unfold woPay
        refine sep_mono_left (Entails.of_eq ?_)
        rw [show (woM : Memref sig .tc .vmem S256x512 .f32).view.set = Finset.univ from View.set_whole _]
        exact congrArg _ (View.write_whole_univ _ _ _))) $$ [Hs Hd Ht]
  · isplitr; · iapply (Recs_inv m K (c, Sum.inr (Sum.inl 1))); iexact HR
    isplitl [Hs]; · iexact Hs
    isplitl [Hd]; · rw [show (woM : Memref sig .tc .vmem S256x512 .f32).view.set = Finset.univ from View.set_whole _]; iexact Hd
    isplitl [Ht]; · iexact Ht
    iapply (Recs_reached m K (c, Sum.inr (Sum.inl 1))); iexact HR
  iintro Hc
  rw [wp_ret]; imodintro
  isplitl [Hc] <;> iassumption

theorem step_cpw1 {s : DmaSem sig} (hs : s = cpS 1) {sp : Space} {s1 : Shape} {e : EltTy} {src : Memref sig .tc sp s1 e} {hsrc hdst} :
    Tri m K c iprop(Ow c (Ob c 31 0 0) ∗ CpW c 1) (Prog.lift (.waitDma2 s src woM hsrc hdst))
      (fun _ => iprop(Ow c (Ob c 31 0 0) ∗ atPos ER (cp c 1) 1 ∅ 0 ∗ woPts m c ∗ woSrc (m := m) (c := c))) := by
  subst hs
  rw [← woPay_eq]
  exact Tri.wait (α := PUnit) (F := F) (m := m) (K := K) (c := c) (w := .waitDma2 (cpS 1) src woM hsrc hdst) (k' := Ncp 1) (Sum.inr (Sum.inl 1)) rfl
    (wpE_waitDma2_eq 𝒱₀ (c : Thread nD τ) none Set.univ) (expect_cp m c 1) 31 0 0
    (Or.inl (lvS_cp 1)) ((rest_cp m c 1).trans (payload_cp1 m c 0))

/-- The last two signals, the barrier wait, the copies begun, the first one waited for. -/
theorem part13 (v2 : BitVec 32) (v384 : BitVec 32) (v389 : BitVec 1) (v390 : BitVec 32) : Tri m K c iprop(SigSt c 29 ∗ BarIn c ∗ CpA m c ∗ CpB m c) ((onArgs (k0_part13 (F := F))) c v2 barA v384 v389 v390)
    (fun _ => iprop((Ow c (Ob c 31 0 0) ∗ CpW c 1) ∗ atPos ER (cp c 0) 1 ∅ 0 ∗ wqPts m c ∗ wqSrc (m := m) (c := c)
      ∗ atPos ER (bar c) 1 ∅ 0 ∗ bigSep (Finset.range 31) fun i => iprop(∃ f, slotPts (F := F) (pr c i) c f))) := by
  unfold onArgs; rw [k0_part13_eq_skeleton]; unfold k0_part13_skel; dsimp only
  refine Tri.bindR (step_sig (by decide) (dev30 c)) fun _ => ?_
  refine Tri.bindR (step_sig (by decide) (dev31 c)) fun _ => ?_
  refine Tri.part (R := iprop(CpA m c ∗ CpB m c)) ?_ step_bar fun _ => ?_
  · unfold SigSt BarIn
    iintro ⟨⟨HO, -⟩, ⟨Hc, Ha⟩, HA, HB⟩
    isplitr [HA HB]
    · isplitl [HO]; · iexact HO
      isplitl [Hc] <;> iassumption
    isplitl [HA] <;> iassumption
  refine Tri.part (P' := CpA m c) (R := iprop(Ow c (Ob c 31 0 0) ∗ CpB m c ∗ atPos ER (bar c) 1 ∅ 0 ∗ bigSep (Finset.range 31) fun i => iprop(∃ f, slotPts (F := F) (pr c i) c f))) ?_ (step_cp0 (off1 c) cpSem0) fun _ => ?_
  · iintro ⟨⟨HO, Ha, Hs⟩, HA, HB⟩
    isplitl [HA]; · iexact HA
    isplitl [HO]; · iexact HO
    isplitl [HB]; · iexact HB
    isplitl [Ha] <;> iassumption
  refine Tri.part (P' := CpB m c) (R := iprop(Ow c (Ob c 31 0 0) ∗ CpW c 0 ∗ atPos ER (bar c) 1 ∅ 0 ∗ bigSep (Finset.range 31) fun i => iprop(∃ f, slotPts (F := F) (pr c i) c f))) ?_ (step_cp1 (off2 c) cpSem1) fun _ => ?_
  · iintro ⟨HA, HO, HB, Ha, Hs⟩
    isplitl [HB]; · iexact HB
    isplitl [HO]; · iexact HO
    isplitl [HA]; · iexact HA
    isplitl [Ha] <;> iassumption
  refine Tri.part (P' := iprop(Ow c (Ob c 31 0 0) ∗ CpW c 0)) (R := iprop(CpW c 1 ∗ atPos ER (bar c) 1 ∅ 0 ∗ bigSep (Finset.range 31) fun i => iprop(∃ f, slotPts (F := F) (pr c i) c f))) ?_ (step_cpw0 cpSem0) fun _ => ?_
  · iintro ⟨HB, HO, HA, Ha, Hs⟩
    isplitl [HO HA]; · isplitl [HO] <;> iassumption
    isplitl [HB]; · iexact HB
    isplitl [Ha] <;> iassumption
  refine Tri.pure ?_
  iintro ⟨⟨HO, Ha0, Hw, Hsrc⟩, HB, Ha, Hs⟩
  isplitl [HO HB]; · isplitl [HO] <;> iassumption
  isplitl [Ha0]; · iexact Ha0
  isplitl [Hw]; · iexact Hw
  isplitl [Hsrc]; · iexact Hsrc
  isplitl [Ha] <;> iassumption

end Cert.AttnProof
-- ==== Proof.PComp.lean ====
/-
The parts of the kernel that compute the partial result.
-/
module

public import proofs.«01_k».proof.Proof.Steps
public import proofs.«01_k».proof.Proof.Comp
public import proofs.«01_k».proof.Proof.Args
public import proofs.«01_k».proof.Proof.Gen.KernelIdeal.Skeleton
public import proofs.«01_k».proof.Proof.PCopy

@[expose] public section

noncomputable section

namespace Cert.AttnProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.ValueIdx

variable {F : FTy → Type} [FloatOps F]

local notation "𝕄" => MT nD τ sig Unit (Elt F) ℕ UU ℕ

variable {m : (ℓ : Loc nD τ sig) → Buf (Elt F) ℓ} {K : Dev nD × CK → ℕ} {c : Dev nD}

/-- The second copy waited for; the loads of batch 0, heads 0 and 1. -/
theorem part14 : Tri m K c iprop((Ow c (Ob c 31 0 0) ∗ CpW c 1) ∗ xPts m c ∗ kPts m c ∗ vPts m c ∗ wqPts m c) ((onArgs (k0_part14 (F := F))) c)
    (fun v => iprop(⌜v = ⟨k0_pay3 (ldX m c 0) (ldWq m c), k0_pay4 (ldX m c 0) (ldWq m c) (ldK m c 0 0) (ldV m c 0 0), k0_pay5 (ldV m c 0 1),
        k0_pay6 (ldX m c 0) (ldWq m c) (ldK m c 0 1), k0_pay7 (F := F)⟩⌝
      ∗ Ins m c ∗ Ow c (Ob c 31 0 0) ∗ atPos ER (cp c 1) 1 ∅ 0 ∗ woSrc (m := m) (c := c))) := by
  unfold onArgs; rw [k0_part14_eq_skeleton]; unfold k0_part14_skel; dsimp only
  refine Tri.part (P' := iprop(Ow c (Ob c 31 0 0) ∗ CpW c 1)) (R := iprop(xPts m c ∗ kPts m c ∗ vPts m c ∗ wqPts m c)) (BI.Entails.refl _) (step_cpw1 cpSem1) fun _ => ?_
  refine Tri.pre (P' := iprop(Ins m c ∗ Ow c (Ob c 31 0 0) ∗ atPos ER (cp c 1) 1 ∅ 0 ∗ woSrc (m := m) (c := c))) ?_ ?_
  · unfold Ins
    iintro ⟨⟨HO, Ha, Hw, Hs⟩, Hx, Hk, Hv, Hq⟩
    isplitl [Hx Hk Hv Hq Hw]
    · isplitl [Hx]; · iexact Hx
      isplitl [Hk]; · iexact Hk
      isplitl [Hv]; · iexact Hv
      isplitl [Hq] <;> iassumption
    isplitl [HO]; · iexact HO
    isplitl [Ha] <;> iassumption
  refine Tri.bindF (ld_x (b := 0) rfl) ?_
  refine Tri.bindF (ld_wq) ?_
  refine Tri.bindF (ld_k (b := 0) (g := 0) rfl) ?_
  refine Tri.bindF (ld_v (b := 0) (g := 0) rfl) ?_
  refine Tri.bindF (ld_k (b := 0) (g := 1) rfl) ?_
  refine Tri.bindF (ld_v (b := 0) (g := 1) rfl) ?_
  refine Tri.pure ?_
  iintro H
  isplitr; · ipureintro; rfl
  iexact H

/-- The loads of batch 0, heads 2 and 3. -/
theorem part15 (v424 : FVec F S128x256 .f32) (v447 : FVec F S128x64 .f32) (v448 : FVec F S128x128 .f32) (v449 : FVec F S128x128 .f32) : Tri m K c (Ins m c) ((onArgs (k0_part15 (F := F))) v424 v447 v448 v449)
    (fun v => iprop(⌜v = ⟨k0_pay8 v447 v448 v449, k0_pay9 v424 (ldK m c 0 2) (ldV m c 0 2), k0_pay10 (ldV m c 0 3), k0_pay11 v424 (ldK m c 0 3)⟩⌝ ∗ Ins m c)) := by
  unfold onArgs; rw [k0_part15_eq_skeleton]; unfold k0_part15_skel; dsimp only
  refine Tri.bindP (ld_k (b := 0) (g := 2) rfl) ?_
  refine Tri.bindP (ld_v (b := 0) (g := 2) rfl) ?_
  refine Tri.bindP (ld_k (b := 0) (g := 3) rfl) ?_
  refine Tri.bindP (ld_v (b := 0) (g := 3) rfl) ?_
  refine Tri.pure ?_
  iintro H
  isplitr; · ipureintro; rfl
  iexact H

/-- The partial result of batch 0 stored; the loads of batch 1, head 0. -/
theorem part16 (v442 : FVec F S128x64 .f32) (v460 : FVec F S128x64 .f32) (v478 : FVec F S128x64 .f32) (v483 : FVec F S128x64 .f32) (v484 : FVec F S128x128 .f32) : Tri m K c iprop(Ins m c ∗ ∃ f, accPts c f) ((onArgs (k0_part16 (F := F))) v442 v460 v478 v483 v484)
    (fun v => iprop(⌜v = ⟨k0_pay13 (ldX m c 1) (ldWq m c), k0_pay14 (ldV m c 1 0), k0_pay15 (ldX m c 1) (ldWq m c) (ldK m c 1 0), k0_pay16 (ldX m c 1) (ldWq m c) (ldK m c 1 0)⟩⌝
      ∗ Ins m c ∗ ∃ f, accPts c ((accM.access topR).write (Elt F) f (k0_pay12 v442 v460 v478 v483 v484 (ldWo m c)) Finset.univ))) := by
  unfold onArgs; rw [k0_part16_eq_skeleton]; unfold k0_part16_skel; dsimp only
  refine Tri.bindF ld_wo ?_
  refine Tri.pre (P' := iprop(∃ f, accPts c f ∗ Ins m c)) ?_ (Tri.exists fun f => ?_)
  · iintro ⟨HI, ⟨%f, Hf⟩⟩
    iexists f
    isplitl [Hf] <;> iassumption
  refine Tri.bindF ld_acc ?_
  refine Tri.bindR st_acc fun _ => ?_
  refine Tri.pre (P' := iprop(Ins m c ∗ ∃ f, accPts c ((accM.access topR).write (Elt F) f (k0_pay12 v442 v460 v478 v483 v484 (ldWo m c)) Finset.univ))) ?_ ?_
  · iintro ⟨Hf, HI⟩
    isplitl [HI]; · iexact HI
    iexists f; iexact Hf
  refine Tri.bindF (ld_x (b := 1) rfl) ?_
  refine Tri.bindF (ld_wq) ?_
  refine Tri.bindF (ld_k (b := 1) (g := 0) rfl) ?_
  refine Tri.bindF (ld_v (b := 1) (g := 0) rfl) ?_
  refine Tri.pure ?_
  iintro H
  isplitr; · ipureintro; rfl
  iexact H

/-- The loads of batch 1, heads 1 and 2. -/
theorem part17 (v506 : FVec F S128x256 .f32) (v511 : FVec F S128x64 .f32) (v514 : FVec F S128x128 .f32) (v517 : FVec F S128x128 .f32) : Tri m K c (Ins m c) ((onArgs (k0_part17 (F := F))) v506 v511 v514 v517)
    (fun v => iprop(⌜v = ⟨k0_pay17 v511 v514 v517, k0_pay18 v506 (ldK m c 1 1) (ldV m c 1 1), k0_pay19 (ldV m c 1 2), k0_pay20 v506 (ldK m c 1 2), k0_pay21 v506 (ldK m c 1 2)⟩⌝ ∗ Ins m c)) := by
  unfold onArgs; rw [k0_part17_eq_skeleton]; unfold k0_part17_skel; dsimp only
  refine Tri.bindP (ld_k (b := 1) (g := 1) rfl) ?_
  refine Tri.bindP (ld_v (b := 1) (g := 1) rfl) ?_
  refine Tri.bindP (ld_k (b := 1) (g := 2) rfl) ?_
  refine Tri.bindP (ld_v (b := 1) (g := 2) rfl) ?_
  refine Tri.pure ?_
  iintro H
  isplitr; · ipureintro; rfl
  iexact H

/-- The loads of batch 1, head 3; the partial result of batch 1 stored. -/
theorem part18 (w : FVec F S128x512 .f32) (v2 : BitVec 32) (v506 : FVec F S128x256 .f32) (v524 : FVec F S128x64 .f32) (v542 : FVec F S128x64 .f32) (v547 : FVec F S128x64 .f32) (v550 : FVec F S128x128 .f32) (v551 : FVec F S128 .f32) : Tri m K c iprop(Ins m c ∗ ∃ f, accPts c ((accM.access topR).write (Elt F) f w Finset.univ)) ((onArgs (k0_part18 (F := F))) v2 v506 v524 v542 v547 v550 v551)
    (fun _ => iprop(Ins m c ∗ ∃ f, accPts c ((accM.access lowR).write (Elt F) ((accM.access topR).write (Elt F) f w Finset.univ)
      (k0_pay22 v506 v524 v542 v547 v550 v551 (ldK m c 1 3) (ldV m c 1 3) (ldWo m c)) Finset.univ))) := by
  unfold onArgs; rw [k0_part18_eq_skeleton]; unfold k0_part18_skel; dsimp only
  refine Tri.bindF (ld_k (b := 1) (g := 3) rfl) ?_
  refine Tri.bindF (ld_v (b := 1) (g := 3) rfl) ?_
  refine Tri.bindF (ld_wo) ?_
  refine Tri.pre (P' := iprop(∃ f, accPts c ((accM.access topR).write (Elt F) f w Finset.univ) ∗ Ins m c)) ?_ (Tri.exists fun f => ?_)
  · iintro ⟨HI, ⟨%f, Hf⟩⟩
    iexists f
    isplitl [Hf] <;> iassumption
  refine Tri.bindF ld_acc ?_
  refine Tri.bindR st_acc fun _ => ?_
  refine Tri.pure ?_
  iintro ⟨Hf, HI⟩
  isplitl [HI]; · iexact HI
  iexists f; iexact Hf

end Cert.AttnProof
-- ==== Proof.PMid.lean ====
/-
The parts of the kernel between the exchanges: the own slot filled, the sum over the slots stored, the turn from sending
the results to receiving them.
-/
module

public import proofs.«01_k».proof.Proof.Steps
public import proofs.«01_k».proof.Proof.Comp
public import proofs.«01_k».proof.Proof.Args
public import proofs.«01_k».proof.Proof.Gen.KernelIdeal.Skeleton

@[expose] public section

noncomputable section

namespace Cert.AttnProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.ValueIdx

variable {F : FTy → Type} [FloatOps F]

local notation "𝕄" => MT nD τ sig Unit (Elt F) ℕ UU ℕ

variable {m : (ℓ : Loc nD τ sig) → Buf (Elt F) ℓ} {K : Dev nD × CK → ℕ} {c : Dev nD}

theorem whole_setOn (b : Ref sig .tc) (r : Rect b.ty.shape) : (View.whole b).setOn r.toLoadRect.set ⊆ r.set := by
  intro i hi
  obtain ⟨y, hy, rfl⟩ := Finset.mem_map.mp hi
  exact hy

/-- The own row block read while the rest of the buffer is given away. -/
theorem ld_blk {f} {o : Fin 2 → ℕ} (ho : o = ![8 * c.val, 0]) {h : ∀ a, o a + S8x512.size a ≤ S256x512.size a} {hl} :
    Tri m K c (blkPts c c fullShare f) (Prog.lift (.load accM (Rect.unit (s := S256x512) o S8x512.size h).toLoadRect hl))
      (fun v => iprop(⌜v = accM.view.readAt (Elt F) (blkR c).toLoadRect f⌝ ∗ blkPts c c fullShare f)) := by
  subst ho
  have hS : (accM : Memref sig .tc .vmem S256x512 .f32).view.setOn (blkR c).toLoadRect.set ⊆ (blkV c).view.set := by
    rw [blk_set]; exact whole_setOn cc0_scratch0 (blkR c)
  have h := Tri.load (m := m) (K := K) (c := c) (M := accM) (r := (blkR c).toLoadRect) (hl := hl) (q := fullShare) (f := f) hS
  exact h

theorem st_blk {f} {o : Fin 2 → ℕ} (ho : o = ![8 * c.val, 0]) {h : ∀ a, o a + S8x512.size a ≤ S256x512.size a} {hx hm} :
    Tri m K c (blkPts c c fullShare f) (Prog.lift (.store accM (Rect.unit (s := S256x512) o S8x512.size h) (k0_pay24 (R0 m c)) Finset.univ hx hm))
      (fun _ => blkPts c c fullShare (A1 m)) := by
  subst ho
  have h := Tri.store (m := m) (K := K) (c := c) (M := accM) (r := blkR c) (w := k0_pay24 (R0 m c)) (Mk := Finset.univ) (hx := hx) (hm := hm) (f := f) (S := (blkV c).view.set)
    (by rw [blk_access_set])
  rw [← own_blk m c c fullShare f]
  exact h

/-- The own slot, read and overwritten. -/
theorem ld_slot {f} {o : Fin 3 → ℕ} (ho : o = ![c.val, 0, 0]) {h : ∀ a, o a + S1x8x512.size a ≤ S32x8x512.size a} {hl} :
    Tri m K c (slotPts c c f) (Prog.lift (.load rsM (Rect.unit (s := S32x8x512) o S1x8x512.size h).toLoadRect hl))
      (fun v => iprop(⌜v = rsM.view.readAt (Elt F) (slotR c).toLoadRect f⌝ ∗ slotPts c c f)) := by
  subst ho
  have hS : (rsM : Memref sig .tc .vmem S32x8x512 .f32).view.setOn (slotR c).toLoadRect.set ⊆ (slotV c).view.set := by
    rw [slot_set]; exact whole_setOn cc0_scratch3 (slotR c)
  have h := Tri.load (m := m) (K := K) (c := c) (M := rsM) (r := (slotR c).toLoadRect) (hl := hl) (q := fullShare) (f := f) hS
  exact h

theorem st_slot {f} {o : Fin 3 → ℕ} (ho : o = ![c.val, 0, 0]) {h : ∀ a, o a + S1x8x512.size a ≤ S32x8x512.size a} {hx hm} :
    Tri m K c (slotPts c c f) (Prog.lift (.store rsM (Rect.unit (s := S32x8x512) o S1x8x512.size h)
        (k0_pay23 (accM.view.readAt (Elt F) (blkR c).toLoadRect (A0 m c))) Finset.univ hx hm))
      (fun _ => slotPts c c (R0 m c)) := by
  subst ho
  have h := Tri.store (m := m) (K := K) (c := c) (M := rsM) (r := slotR c) (w := k0_pay23 (accM.view.readAt (Elt F) (blkR c).toLoadRect (A0 m c))) (Mk := Finset.univ) (hx := hx) (hm := hm) (f := f) (S := (slotV c).view.set)
    (by rw [slot_access_set])
  rw [← own_slot m c c f]
  exact h

/-- The last row block sent; the own one moved to its slot. -/
theorem part37 (v2 : BitVec 32) (v1215 : BitVec 32) (c32_i32_830 : BitVec 32) (v1216 : BitVec 1) (c1_i32_832 : BitVec 32) : Tri m K c iprop(RSst m c 30 ∗ blkPts c c fullShare (A0 m c) ∗ ∃ f, slotPts c c f) ((onArgs (k0_part37 (F := F))) c v2 v1215 c32_i32_830 v1216 c1_i32_832)
    (fun _ => iprop(RSst m c 31 ∗ blkPts c c fullShare (A0 m c) ∗ slotPts c c (R0 m c))) := by
  unfold onArgs; rw [k0_part37_eq_skeleton]; unfold k0_part37_skel; dsimp only
  refine Tri.bindR (step_rs (by decide) (dev62 c) (off5 c 30) (off4 c) (sem0 (j := pr 0 30) rfl) (sem1 (off3 c))) fun _ => ?_
  refine Tri.pre (P' := iprop(∃ f, blkPts c c fullShare (A0 m c) ∗ slotPts c c f ∗ RSst m c 31)) ?_ (Tri.exists fun f => ?_)
  · iintro ⟨HS, Hb, ⟨%f, Hs⟩⟩
    iexists f
    isplitl [Hb]; · iexact Hb
    isplitl [Hs] <;> iassumption
  refine Tri.bindF (ld_blk (off6 c)) ?_
  refine Tri.pre (P' := iprop(slotPts c c f ∗ blkPts c c fullShare (A0 m c) ∗ RSst m c 31)) ?_ ?_
  · iintro ⟨Hb, Hs, HS⟩
    isplitl [Hs]; · iexact Hs
    isplitl [Hb] <;> iassumption
  refine Tri.bindF (ld_slot (off7 c)) ?_
  refine Tri.bindR (st_slot (off7 c)) fun _ => ?_
  refine Tri.pure ?_
  iintro ⟨Hs, Hb, HS⟩
  isplitl [HS]; · iexact HS
  isplitl [Hb] <;> iassumption

/-- What is owned once the own sum is stored: the exchange buffer whole, the row blocks that came along, the own result. -/
def RRend (m : (ℓ : Loc nD τ sig) → Buf (Elt F) ℓ) (c : Dev nD) : sProp 𝕄 :=
  iprop(Ow c (Ob c 31 31 0) ∗ (bigSep (Finset.range 31) fun i => atPos ER (xc c 1 (pr c i)) 1 ∅ 0)
    ∗ (bigSep (Finset.range 31) fun i => blkPts (pr c i) c fullShare (A0 m (pr c i)))
    ∗ rsPts c (R0 m c) ∗ blkPts c c fullShare (A1 m))

theorem rs_join (c : Dev nD) (f) : (rsPts (F := F) c f) = iprop(slotPts c c f ∗ bigSep (Finset.range 31) fun i => slotPts c (pr c i) f) :=
  (rs_split c f).trans (bigSep_devs c _)
theorem acc_join (c : Dev nD) (f) : (accPts (F := F) c f) = iprop(blkPts c c fullShare f ∗ bigSep (Finset.range 31) fun i => blkPts c (pr c i) fullShare f) :=
  (acc_split c f).trans (bigSep_devs c _)

theorem ld_rs {f} {h : ∀ a, (![0, 0, 0] : Fin 3 → ℕ) a + S32x8x512.size a ≤ S32x8x512.size a} {hl} :
    Tri m K c (rsPts c f) (Prog.lift (.load rsM (Rect.unit (s := S32x8x512) ![0, 0, 0] S32x8x512.size h).toLoadRect hl))
      (fun v => iprop(⌜v = f⌝ ∗ rsPts c f)) :=
  (Tri.load (M := rsM) (q := fullShare) (f := f) (S := Finset.univ) (Finset.subset_univ _)).post fun v =>
    sep_mono_left (BI.pure_mono fun e => e.trans (Memref.readAt_unit_zero (Elt F) cc0_scratch3 zero3 _ f))

/-- The last row block received; the sum over the slots stored as the own result. -/
theorem part55 (v2 : BitVec 32) (v1817 : BitVec 32) (v1822 : BitVec 1) (v1823 : BitVec 32) : Tri m K c iprop(RRst m c 30 ∗ blkPts c c fullShare (A0 m c) ∗ slotPts c c (R0 m c)) ((onArgs (k0_part55 (F := F))) c v2 v1817 v1822 v1823)
    (fun _ => RRend m c) := by
  unfold onArgs; rw [k0_part55_eq_skeleton]; unfold k0_part55_skel; dsimp only
  refine Tri.bindR (step_rr (r := 30) (by decide) (sem1 (off8 c 30)) rfl) fun _ => ?_
  refine Tri.pre (P' := iprop(rsPts c (R0 m c) ∗ blkPts c c fullShare (A0 m c) ∗ Ow c (Ob c 31 31 0)
      ∗ (bigSep (Finset.range 31) fun i => atPos ER (xc c 1 (pr c i)) 1 ∅ 0)
      ∗ (bigSep (Finset.range 31) fun i => blkPts (pr c i) c fullShare (A0 m (pr c i))))) ?_ ?_
  · unfold RRst
    rw [rs_join, show Finset.range (30 + 1) = Finset.range 31 from rfl, bigSep_sep', bigSep_sep', bigSep_sep']
    iintro ⟨⟨HO, -, Ha, Hs, Hb⟩, Hbb, Hss⟩
    isplitl [Hs Hss]; · isplitl [Hss] <;> iassumption
    isplitl [Hbb]; · iexact Hbb
    isplitl [HO]; · iexact HO
    isplitl [Ha] <;> iassumption
  refine Tri.bindF ld_rs ?_
  refine Tri.pre (P' := iprop(blkPts c c fullShare (A0 m c) ∗ rsPts c (R0 m c) ∗ Ow c (Ob c 31 31 0)
      ∗ (bigSep (Finset.range 31) fun i => atPos ER (xc c 1 (pr c i)) 1 ∅ 0)
      ∗ (bigSep (Finset.range 31) fun i => blkPts (pr c i) c fullShare (A0 m (pr c i))))) ?_ ?_
  · iintro ⟨Hr, Hb, H⟩
    isplitl [Hb]; · iexact Hb
    isplitl [Hr] <;> iassumption
  refine Tri.bindF (ld_blk (off6 c)) ?_
  refine Tri.bindR (st_blk (off6 c)) fun _ => ?_
  refine Tri.pure ?_
  unfold RRend
  iintro ⟨Hb, Hr, HO, Ha, Hbb⟩
  isplitl [HO]; · iexact HO
  isplitl [Ha]; · iexact Ha
  isplitl [Hbb]; · iexact Hbb
  isplitl [Hr] <;> iassumption

/-- The last result sent, the first received. -/
theorem part74 (v2 : BitVec 32) : Tri m K c iprop(AGst m c 30 ∗ bigSep (Finset.Ico 0 31) fun i => iprop(cred (tallyAt (xc c 3 (pr c i)) () N) ∗ atPos ER (xc c 3 (pr c i)) 0 ∅ 0)) ((onArgs (k0_part74 (F := F))) c v2)
    (fun _ => iprop(ARst m c 1 ∗ bigSep (Finset.range 31) fun i => cred (tallyAt (xc c 2 (pr 0 i)) () N))) := by
  unfold onArgs; rw [k0_part74_eq_skeleton]; unfold k0_part74_skel; dsimp only
  refine Tri.bindR (step_ag (by decide) (dev93 c) (off10 c) (sem2 (j := pr 0 30) rfl) (sem3 (off3 c))) fun _ => ?_
  refine Tri.pre (P' := iprop(ARst m c 0 ∗ bigSep (Finset.range 31) fun i => cred (tallyAt (xc c 2 (pr 0 i)) () N))) ?_ ?_
  · unfold AGst ARst
    iintro ⟨⟨HO, -, Hc⟩, Hr⟩
    isplitl [HO Hr]
    · isplitl [HO]; · iexact HO
      isplitl [Hr]; · iexact Hr
      rw [Finset.range_zero, bigSep_empty]; iempintro
    iexact Hc
  refine Tri.bindR (step_ar (r := 0) (by decide) (sem3 (off8 c 0)) rfl) fun _ => ?_
  exact Tri.pure (BI.Entails.refl _)

end Cert.AttnProof
-- ==== Proof.Body.lean ====
/-
The kernel's body in two stretches and its end: from what a device starts with, it runs safely and ends with every
landing place filled, the result written and its semaphores waited on.
-/
module

public import proofs.«01_k».proof.Proof.PSig
public import proofs.«01_k».proof.Proof.PRs
public import proofs.«01_k».proof.Proof.PRr
public import proofs.«01_k».proof.Proof.PAg
public import proofs.«01_k».proof.Proof.PAr
public import proofs.«01_k».proof.Proof.PSw
public import proofs.«01_k».proof.Proof.PCopy
public import proofs.«01_k».proof.Proof.PComp
public import proofs.«01_k».proof.Proof.PMid

@[expose] public section

noncomputable section

namespace Cert.AttnProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable {m : (ℓ : Loc nD τ sig) → Buf (Elt F) ℓ} {K : Dev nD × CK → ℕ} {c : Dev nD}

/-- A first conjunct that carries a fact of the value. -/
theorem Tri.bindFact {α β : Type} {φ : α → Prop} {P R : sProp 𝕄} {Q : α → sProp 𝕄} {p : Prog (TpuEff nD τ sig (Elt F) Λ₀ .tc) α}
    {k : α → Prog (TpuEff nD τ sig (Elt F) Λ₀ .tc) β} {S : β → sProp 𝕄} (h : Tri m K c P p (fun v => iprop(⌜φ v⌝ ∗ Q v)))
    (hk : ∀ v, φ v → Tri m K c iprop(Q v ∗ R) (k v) S) : Tri m K c iprop(P ∗ R) (p >>= k) S :=
  Tri.bindR h fun v => Tri.pre sep_assoc.1 (Tri.fact (hk v))

/-- The tokens of the copies a device starts: its own landing on its send semaphore, the peer's on its receive one. -/
def TokRs (c : Dev nD) : sProp 𝕄 :=
  bigSep (Finset.range 31) fun i => iprop(dutyTok ER (xc c 0 (pr 0 i)) 0 0 ∗ dutyTok ER (xc (pr c i) 1 c) 0 0)
def TokAg (c : Dev nD) : sProp 𝕄 :=
  bigSep (Finset.range 31) fun i => iprop(dutyTok ER (xc c 2 (pr 0 i)) 0 0 ∗ dutyTok ER (xc (pr c i) 3 c) 0 0)
/-- What the waits for the row blocks of the peers use. -/
def InRr (c : Dev nD) : sProp 𝕄 :=
  bigSep (Finset.range 31) fun i => iprop(cred (tallyAt (xc c 1 (pr c i)) () N) ∗ atPos ER (xc c 1 (pr c i)) 0 ∅ 0)
def InAr (c : Dev nD) : sProp 𝕄 :=
  bigSep (Finset.range 31) fun i => iprop(cred (tallyAt (xc c 3 (pr c i)) () N) ∗ atPos ER (xc c 3 (pr c i)) 0 ∅ 0)
def InSw (c : Dev nD) : sProp 𝕄 :=
  iprop((bigSep (Finset.range 31) fun i => atPos ER (xc c 0 (pr 0 i)) 0 ∅ 0) ∗ bigSep (Finset.range 31) fun i => atPos ER (xc c 2 (pr 0 i)) 0 ∅ 0)

/-- Semaphores waited on, of one kind. -/
def Done (c : Dev nD) (a : Fin 4) (p : ℕ → Dev nD) : sProp 𝕄 := bigSep (Finset.range 31) fun i => atPos ER (xc c a (p i)) 1 ∅ 0

/-- The signals and copies of the setup, the arrays. -/
def Pre114 (m : (ℓ : Loc nD τ sig) → Buf (Elt F) ℓ) (c : Dev nD) : sProp 𝕄 :=
  iprop(SigSt (F := F) c 0 ∗ (BarIn c ∗ CpA m c ∗ CpB m c) ∗ (xPts m c ∗ kPts m c ∗ vPts m c) ∗ (∃ f, accPts c f) ∗ TokRs c ∗ InRr c ∗ TokAg c
    ∗ ∃ f, slotPts c c f)
/-- What is waited on and read after the setup. -/
def Mid (m : (ℓ : Loc nD τ sig) → Buf (Elt F) ℓ) (c : Dev nD) : sProp 𝕄 :=
  iprop((atPos ER (cp c 0) 1 ∅ 0 ∗ atPos ER (cp c 1) 1 ∅ 0 ∗ atPos ER (bar c) 1 ∅ 0) ∗ (wqSrc (m := m) (c := c) ∗ woSrc (m := m) (c := c)) ∗ Ins m c)
/-- After the exchange of row blocks. -/
def Res (m : (ℓ : Loc nD τ sig) → Buf (Elt F) ℓ) (c : Dev nD) : sProp 𝕄 :=
  iprop(Done c 1 (pr c) ∗ rsPts c (R0 m c) ∗ blkPts c c (shareDrop fullShare 31) (A1 m))

theorem some_blk (d p : Dev nD) (f) : (blkPts (F := F) d p fullShare f) ⊢ iprop(∃ f, blkPts d p fullShare f) := by
  iintro H; iexists f; iexact H

/-- The own row block, shared out to the copies that read it. -/
theorem own_tokens (c : Dev nD) (f) : (blkPts (F := F) c c fullShare f)
    ⊣⊢ iprop(blkPts c c (shareDrop fullShare 31) f ∗ bigSep (Finset.range 31) fun i => blkPts c c (shareTokN fullShare i) f) := by
  unfold blkPts; exact pointsTo_toks_range fullShare 31

/-- The kernel up to the reduction's result being sent to the first peers. -/
theorem stretch1 : Tri m K c (Pre114 m c) (onArgs (k0_part114 (F := F)))
    (fun v => iprop(⌜v.1 = c⌝ ∗ AGst m c 9 ∗ Mid m c ∗ Res m c ∗ bigSep (Finset.range 31) fun i => cred (tallyAt (xc c 0 (pr 0 i)) () N))) := by
  unfold onArgs; rw [k0_part114_eq_skeleton]; unfold k0_part114_skel; dsimp only
  unfold Pre114
  refine Tri.bindFact part1 fun v hv => ?_
  obtain ⟨_, _, _, _, _, _⟩ := v
  obtain ⟨h1, h2⟩ := hv
  dsimp only at h1 h2 ⊢
  subst h2; obtain rfl := h1.symm
  refine Tri.bindR (part2 _ _ _ _) fun v => ?_
  obtain ⟨_, _, _⟩ := v
  dsimp only
  refine Tri.bindR (part3 _ _ _ _) fun v => ?_
  obtain ⟨_, _, _⟩ := v
  dsimp only
  refine Tri.bindR (part4 _ _ _ _) fun v => ?_
  obtain ⟨_, _, _⟩ := v
  dsimp only
  refine Tri.bindR (part5 _ _ _ _) fun v => ?_
  obtain ⟨_, _, _⟩ := v
  dsimp only
  refine Tri.bindR (part6 _ _ _ _) fun v => ?_
  obtain ⟨_, _, _⟩ := v
  dsimp only
  refine Tri.bindR (part7 _ _ _ _) fun v => ?_
  obtain ⟨_, _, _⟩ := v
  dsimp only
  refine Tri.bindR (part8 _ _ _ _) fun v => ?_
  obtain ⟨_, _, _⟩ := v
  dsimp only
  refine Tri.bindR (part9 _ _ _ _) fun v => ?_
  obtain ⟨_, _, _⟩ := v
  dsimp only
  refine Tri.bindR (part10 _ _ _ _) fun v => ?_
  obtain ⟨_, _, _⟩ := v
  dsimp only
  refine Tri.bindR (part11 _ _ _ _) fun v => ?_
  obtain ⟨_, _, _⟩ := v
  dsimp only
  refine Tri.bindR (part12 _ _ _ _) fun v => ?_
  obtain ⟨_, _, _⟩ := v
  dsimp only
  refine Tri.pre (P' := iprop((SigSt (F := F) c 29 ∗ BarIn c ∗ CpA m c ∗ CpB m c) ∗ (xPts m c ∗ kPts m c ∗ vPts m c) ∗ (∃ f, accPts c f) ∗ TokRs c ∗ InRr c ∗ TokAg c
    ∗ ∃ f, slotPts c c f)) sep_assoc.2 ?_
  refine Tri.bindR (part13 _ _ _ _) fun _ => ?_
  refine Tri.pre (P' := iprop(((Ow c (Ob c 31 0 0) ∗ CpW c 1) ∗ xPts m c ∗ kPts m c ∗ vPts m c ∗ wqPts m c)
    ∗ (atPos ER (cp c 0) 1 ∅ 0 ∗ atPos ER (bar c) 1 ∅ 0) ∗ wqSrc (m := m) (c := c)
    ∗ (bigSep (Finset.range 31) fun i => iprop(∃ f, slotPts (F := F) (pr c i) c f)) ∗ (∃ f, accPts c f) ∗ TokRs c ∗ InRr c ∗ TokAg c
    ∗ ∃ f, slotPts c c f)) ?_ ?_
  · iintro ⟨⟨HOC, Hc0, Hq, Hqs, Hb, Hsl⟩, ⟨Hx, Hk, Hv⟩, Hacc, Ht1, Hr, Ht2, Hs⟩
    isplitl [HOC Hx Hk Hv Hq]
    · isplitl [HOC]
      · iexact HOC
      isplitl [Hx]
      · iexact Hx
      isplitl [Hk]
      · iexact Hk
      isplitl [Hv]
      · iexact Hv
      iexact Hq
    isplitl [Hc0 Hb]
    · isplitl [Hc0]
      · iexact Hc0
      iexact Hb
    isplitl [Hqs]
    · iexact Hqs
    isplitl [Hsl]
    · iexact Hsl
    isplitl [Hacc]
    · iexact Hacc
    isplitl [Ht1]
    · iexact Ht1
    isplitl [Hr]
    · iexact Hr
    isplitl [Ht2]
    · iexact Ht2
    iexact Hs
  refine Tri.bindF part14 ?_
  refine Tri.pre (P' := iprop(Ins m c ∗ (∃ f, accPts c f) ∗ Ow c (Ob c 31 0 0) ∗ (atPos ER (cp c 0) 1 ∅ 0 ∗ atPos ER (cp c 1) 1 ∅ 0 ∗ atPos ER (bar c) 1 ∅ 0)
    ∗ (wqSrc (m := m) (c := c) ∗ woSrc (m := m) (c := c)) ∗ (bigSep (Finset.range 31) fun i => iprop(∃ f, slotPts (F := F) (pr c i) c f)) ∗ TokRs c ∗ InRr c ∗ TokAg c ∗ ∃ f, slotPts c c f)) ?_ ?_
  · iintro ⟨⟨HI, HO, Hc1, Hos⟩, ⟨Hc0, Hb⟩, Hqs, Hsl, Hacc, Ht1, Hr, Ht2, Hs⟩
    isplitl [HI]
    · iexact HI
    isplitl [Hacc]
    · iexact Hacc
    isplitl [HO]
    · iexact HO
    isplitl [Hc0 Hc1 Hb]
    · isplitl [Hc0]
      · iexact Hc0
      isplitl [Hc1]
      · iexact Hc1
      iexact Hb
    isplitl [Hqs Hos]
    · isplitl [Hqs]
      · iexact Hqs
      iexact Hos
    isplitl [Hsl]
    · iexact Hsl
    isplitl [Ht1]
    · iexact Ht1
    isplitl [Hr]
    · iexact Hr
    isplitl [Ht2]
    · iexact Ht2
    iexact Hs
  dsimp only
  refine Tri.bindF (part15 _ _ _ _) ?_
  dsimp only
  refine Tri.pre sep_assoc.2 (Tri.bindF (part16 _ _ _ _ _) ?_)
  dsimp only
  refine Tri.pre sep_assoc.1 (Tri.bindF (part17 _ _ _ _) ?_)
  dsimp only
  refine Tri.pre sep_assoc.2 (Tri.bindR (part18 _ _ _ _ _ _ _ _) fun v => ?_)
  obtain ⟨_, _, _, _⟩ := v
  dsimp only
  refine Tri.pre (P' := iprop(RSst m c 0 ∗ (blkPts c c fullShare (A0 m c) ∗ ∃ f, slotPts c c f) ∗ Mid m c ∗ InRr c ∗ TokAg c)) ?_ ?_
  · refine (show _ ⊢ iprop((Ins m c ∗ accPts c (A0 m c)) ∗ Ow c (Ob c 31 0 0) ∗ (atPos ER (cp c 0) 1 ∅ 0 ∗ atPos ER (cp c 1) 1 ∅ 0 ∗ atPos ER (bar c) 1 ∅ 0)
      ∗ (wqSrc (m := m) (c := c) ∗ woSrc (m := m) (c := c)) ∗ (bigSep (Finset.range 31) fun i => iprop(∃ f, slotPts (F := F) (pr c i) c f)) ∗ TokRs c ∗ InRr c ∗ TokAg c ∗ ∃ f, slotPts c c f) from
      sep_mono_left (sep_mono_right (BIClass.exists_elim fun f => by have e := acc_stored (m := m) (c := c) f; unfold P0 P1 at e; rw [e]))).trans ?_
    rw [acc_join]
    unfold RSst TokRs Mid
    rw [Finset.range_zero, bigSep_empty, ← Finset.range_eq_Ico, bigSep_sep', bigSep_sep', bigSep_sep', bigSep_sep']
    iintro ⟨⟨HI, Hbc, Hbp⟩, HO, ⟨Hc0, Hc1, Hb⟩, Hsrc, Hsl, Ht, Hr, Ht2, Hs⟩
    isplitl [HO Hbp Hsl Ht]
    · isplitl [HO]
      · iexact HO
      isplitl [Hbp Hsl Ht]
      · isplitl [Hbp]
        · iexact Hbp
        isplitl [Hsl]
        · iexact Hsl
        iexact Ht
      iempintro
    isplitl [Hbc Hs]
    · isplitl [Hbc]
      · iexact Hbc
      iexact Hs
    isplitl [Hc0 Hc1 Hb Hsrc HI]
    · isplitl [Hc0 Hc1 Hb]
      · isplitl [Hc0]
        · iexact Hc0
        isplitl [Hc1]
        · iexact Hc1
        iexact Hb
      isplitl [Hsrc]
      · iexact Hsrc
      iexact HI
    isplitl [Hr]
    · iexact Hr
    iexact Ht2
  refine Tri.bindR (part19 _ _ _ _ _) fun _ => ?_
  refine Tri.bindR (part20 _) fun _ => ?_
  refine Tri.bindR (part21 _ _) fun v => ?_
  obtain ⟨_, _, _, _⟩ := v
  dsimp only
  refine Tri.bindR (part22 _ _ _ _ _) fun _ => ?_
  refine Tri.bindR (part23 _) fun _ => ?_
  refine Tri.bindR (part24 _ _) fun v => ?_
  obtain ⟨_, _, _, _⟩ := v
  dsimp only
  refine Tri.bindR (part25 _ _ _ _ _) fun _ => ?_
  refine Tri.bindR (part26 _) fun _ => ?_
  refine Tri.bindR (part27 _ _) fun v => ?_
  obtain ⟨_, _, _, _⟩ := v
  dsimp only
  refine Tri.bindR (part28 _ _ _ _ _) fun _ => ?_
  refine Tri.bindR (part29 _) fun _ => ?_
  refine Tri.bindR (part30 _ _) fun v => ?_
  obtain ⟨_, _, _, _⟩ := v
  dsimp only
  refine Tri.bindR (part31 _ _ _ _ _) fun _ => ?_
  refine Tri.bindR (part32 _) fun _ => ?_
  refine Tri.bindR (part33 _ _) fun v => ?_
  obtain ⟨_, _, _, _⟩ := v
  dsimp only
  refine Tri.bindR (part34 _ _ _ _ _) fun _ => ?_
  refine Tri.bindR (part35 _) fun _ => ?_
  refine Tri.bindR (part36 _ _) fun v => ?_
  obtain ⟨_, _, _, _⟩ := v
  dsimp only
  refine Tri.pre sep_assoc.2 ?_
  refine Tri.bindR (part37 _ _ _ _ _) fun v => ?_
  obtain ⟨_, _, _⟩ := v
  dsimp only
  refine Tri.pre (P' := iprop(RRst m c 0 ∗ (blkPts c c fullShare (A0 m c) ∗ slotPts c c (R0 m c)) ∗ Mid m c ∗ TokAg c
      ∗ bigSep (Finset.range 31) fun i => cred (tallyAt (xc c 0 (pr 0 i)) () N))) ?_ ?_
  · unfold RSst RRst InRr
    rw [Finset.range_zero, bigSep_empty, ← Finset.range_eq_Ico]
    iintro ⟨⟨⟨HO, -, Hc⟩, Hb, Hs⟩, HM, Hr, Ht⟩
    isplitl [HO Hr]
    · isplitl [HO]
      · iexact HO
      isplitl [Hr]
      · iexact Hr
      iempintro
    isplitl [Hb Hs]
    · isplitl [Hb]
      · iexact Hb
      iexact Hs
    isplitl [HM]
    · iexact HM
    isplitl [Ht]
    · iexact Ht
    iexact Hc
  refine Tri.bindR (part38 _ _ _ _) fun v => ?_
  obtain ⟨_, _, _⟩ := v
  dsimp only
  refine Tri.bindR (part39 _ _ _ _) fun _ => ?_
  refine Tri.bindR (part40 _ _) fun _ => ?_
  refine Tri.bindR (part41 _) fun _ => ?_
  refine Tri.bindR (part42 _ _) fun v => ?_
  obtain ⟨_, _, _, _⟩ := v
  dsimp only
  refine Tri.bindR (part43 _ _ _ _ _) fun v => ?_
  obtain ⟨_, _⟩ := v
  dsimp only
  refine Tri.bindR (part44 _ _ _) fun _ => ?_
  refine Tri.bindR (part45 _) fun _ => ?_
  refine Tri.bindR (part46 _ _) fun v => ?_
  obtain ⟨_, _, _, _, _⟩ := v
  dsimp only
  refine Tri.bindR (part47 _ _ _ _ _ _) fun v => ?_
  obtain ⟨_, _, _⟩ := v
  dsimp only
  refine Tri.bindR (part48 _ _ _ _) fun _ => ?_
  refine Tri.bindR (part49 _) fun _ => ?_
  refine Tri.bindR (part50 _) fun v => ?_
  obtain ⟨_, _, _, _⟩ := v
  dsimp only
  refine Tri.bindR (part51 _ _ _ _ _) fun v => ?_
  obtain ⟨_, _⟩ := v
  dsimp only
  refine Tri.bindR (part52 _ _ _) fun _ => ?_
  refine Tri.bindR (part53 _) fun _ => ?_
  refine Tri.bindR (part54 _) fun v => ?_
  obtain ⟨_, _, _⟩ := v
  dsimp only
  refine Tri.pre sep_assoc.2 ?_
  refine Tri.bindR (part55 _ _ _ _) fun _ => ?_
  refine Tri.pre (P' := iprop(AGst m c 0 ∗ Mid m c ∗ Res m c ∗ bigSep (Finset.range 31) fun i => cred (tallyAt (xc c 0 (pr 0 i)) () N))) ?_ ?_
  · unfold RRend AGst Res TokAg Done
    rw [Finset.range_zero, bigSep_empty, ← Finset.range_eq_Ico, bigSep_sep', bigSep_sep', bigSep_sep', bigSep_sep']
    refine (show _ ⊢ iprop((Ow c (Ob c 31 31 0) ∗ (bigSep (Finset.range 31) fun i => atPos ER (xc c 1 (pr c i)) 1 ∅ 0)
      ∗ (bigSep (Finset.range 31) fun i => iprop(∃ f, blkPts (F := F) (pr c i) c fullShare f))
      ∗ rsPts c (R0 m c) ∗ blkPts c c (shareDrop fullShare 31) (A1 m) ∗ bigSep (Finset.range 31) fun i => blkPts c c (shareTokN fullShare i) (A1 m)) ∗ _) from
      sep_mono_left (sep_mono_right (sep_mono_right (BIClass.sep_mono (bigSep_mono fun i _ => some_blk (pr c i) c (A0 m (pr c i))) (sep_mono_right (own_tokens c (A1 m)).1))))).trans ?_
    iintro ⟨⟨HO, Hd, Hbp, Hrs, Hdr, Htk⟩, HM, Ht, Hc⟩
    isplitl [HO Htk Hbp Ht]
    · isplitl [HO]
      · iexact HO
      isplitl [Htk Hbp Ht]
      · isplitl [Htk]
        · iexact Htk
        isplitl [Hbp]
        · iexact Hbp
        iexact Ht
      iempintro
    isplitl [HM]
    · iexact HM
    isplitl [Hd Hrs Hdr]
    · isplitl [Hd]
      · iexact Hd
      isplitl [Hrs]
      · iexact Hrs
      iexact Hdr
    iexact Hc
  refine Tri.bindR (part56 _) fun v => ?_
  obtain ⟨_, _, _⟩ := v
  dsimp only
  refine Tri.bindR (part57 _ _ _ _) fun v => ?_
  obtain ⟨_, _, _⟩ := v
  dsimp only
  refine Tri.bindR (part58 _ _ _ _) fun _ => ?_
  refine Tri.bindR (part59 _) fun v => ?_
  obtain ⟨_, _, _⟩ := v
  dsimp only
  refine Tri.bindR (part60 _ _ _ _) fun v => ?_
  obtain ⟨_, _, _⟩ := v
  dsimp only
  refine Tri.pure ?_
  iintro H
  isplitr; · ipureintro; rfl
  iexact H

/-- After the results are received. -/
def Got (m : (ℓ : Loc nD τ sig) → Buf (Elt F) ℓ) (c : Dev nD) : sProp 𝕄 :=
  iprop(Done c 3 (pr c) ∗ bigSep (Finset.range 31) fun i => blkPts c (pr c i) fullShare (A1 m))

/-- The rest of the sends, the receives, the waits for the sends up to the last two. -/
theorem stretch2 (v2 v2029 c32 : BitVec 32) (v2030 : BitVec 1) :
    Tri m K c iprop(AGst m c 9 ∗ InAr c ∗ InSw c ∗ bigSep (Finset.range 31) fun i => cred (tallyAt (xc c 0 (pr 0 i)) () N)) ((onArgs (k0_part115 (F := F))) c v2 v2029 c32 v2030)
    (fun _ => iprop(SWst m c 30 30 ∗ Got m c)) := by
  unfold onArgs; rw [k0_part115_eq_skeleton]; unfold k0_part115_skel; dsimp only
  refine Tri.bindR (part61 _ _ _ _) fun _ => ?_
  refine Tri.bindR (part62 _) fun v => ?_
  obtain ⟨_, _, _⟩ := v
  dsimp only
  refine Tri.bindR (part63 _ _ _ _) fun v => ?_
  obtain ⟨_, _, _⟩ := v
  dsimp only
  refine Tri.bindR (part64 _ _ _ _) fun _ => ?_
  refine Tri.bindR (part65 _) fun v => ?_
  obtain ⟨_, _, _⟩ := v
  dsimp only
  refine Tri.bindR (part66 _ _ _ _) fun v => ?_
  obtain ⟨_, _, _⟩ := v
  dsimp only
  refine Tri.bindR (part67 _ _ _ _) fun _ => ?_
  refine Tri.bindR (part68 _) fun v => ?_
  obtain ⟨_, _, _⟩ := v
  dsimp only
  refine Tri.bindR (part69 _ _ _ _) fun v => ?_
  obtain ⟨_, _, _⟩ := v
  dsimp only
  refine Tri.bindR (part70 _ _ _ _) fun _ => ?_
  refine Tri.bindR (part71 _) fun v => ?_
  obtain ⟨_, _, _⟩ := v
  dsimp only
  refine Tri.bindR (part72 _ _ _ _) fun v => ?_
  obtain ⟨_, _, _⟩ := v
  dsimp only
  refine Tri.bindR (part73 _ _ _ _) fun _ => ?_
  refine Tri.pre (P' := iprop((AGst m c 30 ∗ bigSep (Finset.Ico 0 31) fun i => iprop(cred (tallyAt (xc c 3 (pr c i)) () N) ∗ atPos ER (xc c 3 (pr c i)) 0 ∅ 0)) ∗ InSw c
    ∗ bigSep (Finset.range 31) fun i => cred (tallyAt (xc c 0 (pr 0 i)) () N))) ?_ ?_
  · unfold InAr; rw [← Finset.range_eq_Ico]; exact sep_assoc.2
  refine Tri.bindR (part74 _) fun v => ?_
  obtain ⟨_, _⟩ := v
  dsimp only
  refine Tri.pre sep_assoc.1 ?_
  refine Tri.bindR (part75 _ _ _) fun v => ?_
  obtain ⟨_, _, _, _⟩ := v
  dsimp only
  refine Tri.bindR (part76 _ _ _ _ _) fun v => ?_
  obtain ⟨_, _⟩ := v
  dsimp only
  refine Tri.bindR (part77 _ _ _) fun _ => ?_
  refine Tri.bindR (part78 _) fun v => ?_
  obtain ⟨_, _⟩ := v
  dsimp only
  refine Tri.bindR (part79 _ _ _) fun v => ?_
  obtain ⟨_, _, _, _, _⟩ := v
  dsimp only
  refine Tri.bindR (part80 _ _ _ _ _ _) fun v => ?_
  obtain ⟨_, _, _⟩ := v
  dsimp only
  refine Tri.bindR (part81 _ _ _ _) fun _ => ?_
  refine Tri.bindR (part82 _) fun _ => ?_
  refine Tri.bindR (part83 _ _) fun v => ?_
  obtain ⟨_, _, _, _⟩ := v
  dsimp only
  refine Tri.bindR (part84 _ _ _ _ _) fun v => ?_
  obtain ⟨_, _⟩ := v
  dsimp only
  refine Tri.bindR (part85 _ _ _) fun _ => ?_
  refine Tri.bindR (part86 _) fun _ => ?_
  refine Tri.bindR (part87 _ _) fun v => ?_
  obtain ⟨_, _, _⟩ := v
  dsimp only
  refine Tri.bindR (part88 _ _ _ _) fun v => ?_
  obtain ⟨_, _, _⟩ := v
  dsimp only
  refine Tri.bindR (part89 _ _ _ _) fun _ => ?_
  refine Tri.bindR (part90 _ _) fun _ => ?_
  refine Tri.bindR (part91 _) fun v => ?_
  obtain ⟨_, _⟩ := v
  dsimp only
  refine Tri.pre (P' := iprop(SWst m c 0 0 ∗ Got m c)) ?_ ?_
  · unfold ARst SWst Got InSw Done
    rw [Finset.range_zero, bigSep_empty, bigSep_empty, ← Finset.range_eq_Ico, bigSep_sep', bigSep_sep']
    rw [bigSep_sep', bigSep_sep']
    iintro ⟨⟨HO, -, Hd, Hb⟩, Hc2, ⟨Ha0, Ha2⟩, Hc0⟩
    isplitl [HO Hc0 Ha0 Hc2 Ha2]
    · isplitl [HO]
      · iexact HO
      isplitl [Hc0 Ha0]
      · isplitl [Hc0 Ha0]
        · isplitl [Hc0]
          · iexact Hc0
          iexact Ha0
        iempintro
      isplitl [Hc2 Ha2]
      · isplitl [Hc2]
        · iexact Hc2
        iexact Ha2
      iempintro
    isplitl [Hd]
    · iexact Hd
    iexact Hb
  refine Tri.bindR (part92 _ _ _) fun _ => ?_
  refine Tri.bindR (part93 _) fun v => ?_
  obtain ⟨_, _⟩ := v
  dsimp only
  refine Tri.bindR (part94 _ _ _) fun _ => ?_
  refine Tri.bindR (part95 _) fun _ => ?_
  refine Tri.bindR (part96 _) fun v => ?_
  obtain ⟨_, _, _, _⟩ := v
  dsimp only
  refine Tri.bindR (part97 _ _ _ _ _) fun _ => ?_
  refine Tri.bindR (part98 _) fun _ => ?_
  refine Tri.bindR (part99 _) fun v => ?_
  obtain ⟨_, _, _, _⟩ := v
  dsimp only
  refine Tri.bindR (part100 _ _ _ _ _) fun _ => ?_
  refine Tri.bindR (part101 _) fun v => ?_
  obtain ⟨_, _⟩ := v
  dsimp only
  refine Tri.bindR (part102 _ _ _) fun v => ?_
  obtain ⟨_, _⟩ := v
  dsimp only
  refine Tri.bindR (part103 _ _ _) fun _ => ?_
  refine Tri.bindR (part104 _) fun v => ?_
  obtain ⟨_, _⟩ := v
  dsimp only
  refine Tri.bindR (part105 _ _ _) fun _ => ?_
  refine Tri.bindR (part106 _) fun _ => ?_
  refine Tri.bindR (part107 _) fun v => ?_
  obtain ⟨_, _, _, _⟩ := v
  dsimp only
  refine Tri.bindR (part108 _ _ _ _ _) fun _ => ?_
  refine Tri.bindR (part109 _) fun _ => ?_
  refine Tri.bindR (part110 _) fun v => ?_
  obtain ⟨_, _, _, _⟩ := v
  dsimp only
  refine Tri.bindR (part111 _ _ _ _ _) fun _ => ?_
  refine Tri.bindR (part112 _) fun v => ?_
  obtain ⟨_, _⟩ := v
  dsimp only
  refine Tri.bindR (part113 _ _ _) fun v => ?_
  obtain ⟨_, _⟩ := v
  exact Tri.pure (BI.Entails.refl _)

/-- What the body ends with: nothing owed, every semaphore it used waited on, its buffers back, the result in its staging buffer. -/
def Post (m : (ℓ : Loc nD τ sig) → Buf (Elt F) ℓ) (c : Dev nD) : sProp 𝕄 :=
  iprop(Ow c 0 ∗ Mid m c ∗ (Done c 0 (pr 0) ∗ Done c 1 (pr c) ∗ Done c 2 (pr 0) ∗ Done c 3 (pr c)) ∗ rsPts c (R0 m c) ∗ accPts c (A1 m) ∗ oPts c (outC m))

theorem Tri.swap {α : Type} {A B R : sProp 𝕄} {p : Prog (TpuEff nD τ sig (Elt F) Λ₀ .tc) α} {Q : α → sProp 𝕄}
    (h : Tri m K c iprop(B ∗ A ∗ R) p Q) : Tri m K c iprop(A ∗ B ∗ R) p Q :=
  Tri.pre (by
    iintro ⟨HA, HB, HR⟩
    isplitl [HB]; · iexact HB
    isplitl [HA] <;> iassumption) h

/-- The body on device `c`. -/
theorem body_tri : Tri m K c iprop(Pre114 m c ∗ InAr c ∗ InSw c ∗ ∃ f, oPts c f) (onArgs (cc0_body (F := F))) (fun _ => Post m c) := by
  unfold onArgs; rw [cc0_body_eq_skeleton]; unfold cc0_body_skel; dsimp only
  refine Tri.bindFact stretch1 fun v hv => ?_
  obtain ⟨_, _, _, _, _⟩ := v
  dsimp only at hv ⊢
  obtain rfl := hv.symm
  refine Tri.pre (P' := iprop((AGst m c 9 ∗ InAr c ∗ InSw c ∗ bigSep (Finset.range 31) fun i => cred (tallyAt (xc c 0 (pr 0 i)) () N))
    ∗ (∃ f, oPts c f) ∗ Mid m c ∗ Res m c)) ?_ ?_
  · iintro ⟨⟨HA, HM, HR, Hc⟩, Hr, Hw, Ho⟩
    isplitl [HA Hr Hw Hc]
    · isplitl [HA]
      · iexact HA
      isplitl [Hr]
      · iexact Hr
      isplitl [Hw]
      · iexact Hw
      iexact Hc
    isplitl [Ho]
    · iexact Ho
    isplitl [HM]
    · iexact HM
    iexact HR
  refine Tri.bindR (stretch2 _ _ _ _) fun _ => ?_
  refine Tri.pre sep_assoc.1 ?_
  refine Tri.bindR (step_sw0 (r := 30) (by decide) (sem0 (j := pr 0 30) rfl) rfl) fun _ => ?_
  refine Tri.bindR (step_sw2 (s := 30) (by decide) (sem2 (j := pr 0 30) rfl) rfl) fun _ => ?_
  refine Tri.pre (P' := iprop(∃ f, accPts c (A1 m) ∗ oPts c f ∗ Ow c 0 ∗ Mid m c ∗ (Done c 0 (pr 0) ∗ Done c 1 (pr c) ∗ Done c 2 (pr 0) ∗ Done c 3 (pr c)) ∗ rsPts c (R0 m c))) ?_ (Tri.exists fun f => ?_)
  · unfold SWst Got Res Done
    rw [Ob_end, acc_join, bigSep_sep']
    rw [bigSep_sep', bigSep_sep']
    iintro ⟨⟨HO, ⟨-, H0⟩, ⟨-, H2, Htk⟩⟩, ⟨H3, Hb⟩, ⟨%f, Ho⟩, HM, H1, Hrs, Hdr⟩
    iexists f
    isplitl [Hb Htk Hdr]
    · isplitr [Hb]
      · iapply (own_tokens c (A1 m)).2
        isplitl [Hdr] <;> iassumption
      iexact Hb
    isplitl [Ho]
    · iexact Ho
    isplitl [HO]
    · iexact HO
    isplitl [HM]
    · iexact HM
    isplitl [H0 H1 H2 H3]
    · isplitl [H0]
      · iexact H0
      isplitl [H1]
      · iexact H1
      isplitl [H2]
      · iexact H2
      iexact H3
    iexact Hrs
  refine Tri.bindF ld_acc (Tri.swap ?_)
  refine Tri.bindF ld_out ?_
  refine Tri.bindR st_out fun _ => Tri.swap ?_
  refine Tri.bindF ld_acc (Tri.swap ?_)
  refine Tri.bindF ld_out ?_
  refine Tri.bindR st_out fun _ => ?_
  refine Tri.pure ?_
  unfold Post
  refine (sep_mono_left (by have e := out_stored (m := m) f; rw [← e]) :  _ ⊢ iprop(oPts c (outC m) ∗ accPts c (A1 m) ∗ Ow c 0 ∗ Mid m c ∗ (Done c 0 (pr 0) ∗ Done c 1 (pr c) ∗ Done c 2 (pr 0) ∗ Done c 3 (pr c)) ∗ rsPts c (R0 m c))).trans ?_
  iintro ⟨Ho, Ha, HO, HM, HD, Hrs⟩
  isplitl [HO]
  · iexact HO
  isplitl [HM]
  · iexact HM
  isplitl [HD]
  · iexact HD
  isplitl [Hrs]
  · iexact Hrs
  isplitl [Ha]
  · iexact Ha
  iexact Ho

end Cert.AttnProof
-- ==== Proof.Ghost.lean ====
/-
The launch: the cells' invariants allocated, the tokens dealt to the devices that pay with them, the credits the
launch owes each device.
-/
module

public import proofs.«01_k».proof.Proof.Body
public import proofs.«01_k».proof.Proof.Gen.KernelIdeal.Launch

@[expose] public section

noncomputable section

namespace Cert.AttnProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-- A family over a sum of index types. -/
theorem sum_split {A B : Type} [Fintype A] [Fintype B] (Φ : A ⊕ B → sProp 𝕄) :
    bigSep Finset.univ Φ = iprop((bigSep Finset.univ fun a => Φ (.inl a)) ∗ bigSep Finset.univ fun b => Φ (.inr b)) := bigSep_univ_sum Φ

variable (m : (ℓ : Loc nD τ sig) → Buf (Elt F) ℓ)

theorem csem_injective : Function.Injective csem := by
  rintro (⟨⟩ | j | ⟨a, j⟩) (⟨⟩ | j' | ⟨a', j'⟩) h
  · rfl
  · exact absurd h (by simp [csem])
  · exact absurd h (by simp [csem])
  · exact absurd h (by simp [csem])
  · have h1 : (4 + j.val) = 4 + j'.val := congrArg Fin.val (SemLoc.dma.inj h)
    have : j = j' := Fin.ext (by omega)
    subst this; rfl
  · have h1 : 4 + j.val = 6 + 32 * a'.val + j'.val := congrArg Fin.val (SemLoc.dma.inj h)
    have := j.isLt; omega
  · exact absurd h (by simp [csem])
  · have h1 : 6 + 32 * a.val + j.val = 4 + j'.val := congrArg Fin.val (SemLoc.dma.inj h)
    have := j'.isLt; omega
  · have h1 : 6 + 32 * a.val + j.val = 6 + 32 * a'.val + j'.val := congrArg Fin.val (SemLoc.dma.inj h)
    have := dev_lt j; have := dev_lt j'
    have ha : a = a' := Fin.ext (by omega)
    have hj : j = j' := Fin.ext (by omega)
    subst ha hj; rfl

theorem kcell_injective : Function.Injective kcell := by
  rintro ⟨c, k⟩ ⟨c', k'⟩ h
  have h1 : c = c' := congrArg (fun g : GSem nD τ sig => g.1.1) h
  have h2 : csem k = csem k' := congrArg Prod.snd h
  rw [h1, csem_injective h2]
def allCells : Finset (GSem nD τ sig) := Finset.univ.map ⟨kcell, kcell_injective⟩

/-- A device's duty tokens: one for every device at its barrier, one at every other semaphore. -/
abbrev TK : Type := Dev nD ⊕ (Fin 2 ⊕ (Fin 4 × Dev nD))
abbrev tokOf (x : Dev nD × TK) : GSem nD τ sig × ℕ × Dev nD := match x.2 with
  | .inl d => (kcell (x.1, .inl ()), 0, d)
  | .inr k => (kcell (x.1, .inr k), 0, 0)
theorem tokOf_injective : Function.Injective tokOf := by
  rintro ⟨c, d | k⟩ ⟨c', d' | k'⟩ h
  · have h1 := congrArg (fun x : GSem nD τ sig × ℕ × Dev nD => x.1.1.1) h
    have h2 := congrArg (fun x : GSem nD τ sig × ℕ × Dev nD => x.2.2) h
    dsimp at h1 h2; rw [h1, h2]
  · have h1 := kcell_injective (congrArg (fun x : GSem nD τ sig × ℕ × Dev nD => x.1) h)
    exact absurd (congrArg Prod.snd h1) (by simp)
  · have h1 := kcell_injective (congrArg (fun x : GSem nD τ sig × ℕ × Dev nD => x.1) h)
    exact absurd (congrArg Prod.snd h1) (by simp)
  · have h1 := kcell_injective (congrArg (fun x : GSem nD τ sig × ℕ × Dev nD => x.1) h)
    have h2 := congrArg Prod.fst h1
    have h3 := Sum.inr.inj (congrArg Prod.snd h1)
    dsimp at h2 h3; rw [h2, h3]
def allToks : Finset (GSem nD τ sig × ℕ × Dev nD) := Finset.univ.map ⟨tokOf, tokOf_injective⟩

def u₀ : UU := (initOf (Pipeline.cells cfgs cellOf_inj) (Pipeline.launchToks cfgs cellOf_inj), initOf allCells allToks)

/-- The tokens of a device's own semaphores. -/
def toks (c : Dev nD) : sProp 𝕄 :=
  iprop((bigSep Finset.univ fun d : Dev nD => dutyTok ER (bar c) 0 d)
    ∗ (bigSep Finset.univ fun j : Fin 2 => dutyTok ER (cp c j) 0 0)
    ∗ bigSep Finset.univ fun a : Fin 4 => bigSep Finset.univ fun j : Dev nD => dutyTok ER (xc c a j) 0 0)
/-- The tokens it pays with. -/
def payToks (c : Dev nD) : sProp 𝕄 :=
  iprop((bigSep (Finset.range 31) fun i => dutyTok ER (bar (pr c i)) 0 c) ∗ (dutyTok ER (cp c 0) 0 0 ∗ dutyTok ER (cp c 1) 0 0) ∗ TokRs c ∗ TokAg c)
/-- Its positions. -/
def pos (c : Dev nD) : sProp 𝕄 := bigSep Finset.univ fun k : CK => atPos ER (kcell (c, k)) 0 ∅ 0

def G (c : Dev nD) : sProp 𝕄 :=
  iprop((bigSep Finset.univ fun k : CK => roundState ER (Rd m) (kcell (c, k)) 0)
    ∗ (pos c ∗ bigSep Finset.univ fun k : CK => reached ER (kcell (c, k)) 0) ∗ toks c)

/-- The invariants and the marks of round 0. -/
def marks (K : Dev nD × CK → ℕ) : sProp 𝕄 :=
  iprop((bigSep Finset.univ fun x : Dev nD × CK => cellInv ER (Rd m) (K x) (kcell x)) ∗ bigSep Finset.univ fun x : Dev nD × CK => reached ER (kcell x) 0)
instance marks_persistent (K : Dev nD × CK → ℕ) : BI.Persistent (marks (F := F) m K) := by unfold marks; infer_instance

def G' (c : Dev nD) : sProp 𝕄 := iprop(∃ K, marks m K ∗ pos c ∗ payToks c)

theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CK => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    refine bigSep_congr fun c _ => ?_
    unfold toks
    rw [sum_split, sum_split, bigSep_univ_prod]
    rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G pos; simp only [bigSep_sep']
  isplitl [Hst']; · iexact Hst'
  isplitl [Hat' Hr']
  · isplitl [Hat'] <;> iassumption
  iexact Htok'

/-- The kernel's own semaphores; the barrier is the one left over. -/
abbrev osem : Fin 2 ⊕ (Fin 4 × Dev nD) → SemLoc sig := fun k => csem (.inr k)

theorem unscopedSems0_eq (c : Dev nD) : (unscopedSems0 c : sProp 𝕄) = semVal (bar c) 0 := by
  unfold unscopedSems0; rw [bigSep_eq_bigSepL_of_eq [SemLoc.reg barS] (by decide) (by decide)]; rfl

theorem sems0_eq (c : Dev nD) :
    (bigSep Finset.univ fun k : CK => semVal (kcell (c, k)) 0 : sProp 𝕄)
      = iprop(unscopedSems0 c ∗ Pipeline.ownSems0 (Ix := Unit) (Name := ℕ) (U := UU) (Lvl := ℕ) (Val := Elt F) (τ := τ) osem c) := by
  rw [unscopedSems0_eq, sum_split]
  unfold Pipeline.ownSems0
  rw [show (Finset.univ : Finset Unit) = {()} from rfl, bigSep_singleton]

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (Rd m) κ (kcell (c, k))))
          ∗ (pos c ∗ bigSep Finset.univ fun k : CK => reached ER (kcell (c, k)) 0) ∗ toks c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : CK => semVal (kcell (c, k)) 0) ∗ bigSep Finset.univ fun k : CK => roundState ER (Rd m) (kcell (c, k)) 0)
      ⊢ (|={Set.univ}=> bigSep Finset.univ fun k : CK => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem bigSep_swap (Φ : Dev nD → Dev nD → sProp 𝕄) :
    (bigSep Finset.univ fun c : Dev nD => bigSep Finset.univ fun d : Dev nD => Φ c d) = bigSep Finset.univ fun d : Dev nD => bigSep Finset.univ fun c : Dev nD => Φ c d :=
by
  rw [← bigSep_univ_prod (fun x : Dev nD × Dev nD => Φ x.1 x.2), bigSep_univ_equiv (Equiv.prodComm (Dev nD) (Dev nD)), bigSep_univ_prod]
  rfl

/-- A family over all devices, without the member at `c`. -/
theorem drop_own (c : Dev nD) (Φ : Dev nD → sProp 𝕄) : bigSep Finset.univ Φ ⊢ bigSep (Finset.range 31) fun i => Φ (pr c i) := by
  rw [bigSep_devs c]; iintro ⟨-, H⟩; iexact H

theorem drop_all (e : Dev nD → Dev nD) (Φ : Dev nD → Dev nD → sProp 𝕄) :
    (bigSep Finset.univ fun c : Dev nD => bigSep Finset.univ fun d : Dev nD => Φ c d) ⊢ bigSep Finset.univ fun c : Dev nD => bigSep (Finset.range 31) fun i => Φ c (pr (e c) i) :=
  bigSep_mono fun c _ => drop_own (F := F) (e c) (Φ c)

theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ
theorem bigSep_fin2 (Φ : Fin 2 → sProp 𝕄) : bigSep Finset.univ Φ = iprop(Φ 0 ∗ Φ 1) := bigSep_univ_eq_bigSepL [0, 1] (by decide) (by decide) Φ

/-- The tokens dealt: a barrier's token for `d` to `d`, a receive semaphore's token to the device that sends. -/
theorem toks_around : (bigSep Finset.univ fun c : Dev nD => (toks c : sProp 𝕄)) ⊢ bigSep Finset.univ fun c : Dev nD => payToks c := by
  unfold toks payToks TokRs TokAg
  simp only [bigSep_fin4, bigSep_fin2, bigSep_sep']
  rw [bigSep_swap (F := F) fun c d => dutyTok ER (bar c) 0 d, bigSep_swap (F := F) fun c d => dutyTok ER (xc c 1 d) 0 0,
    bigSep_swap (F := F) fun c d => dutyTok ER (xc c 3 d) 0 0]
  iintro ⟨Hb, ⟨H4, H5⟩, H0, H1, H2, H3⟩
  isplitl [Hb]
  · iapply (drop_all (F := F) id fun c d => dutyTok ER (bar d) 0 c); iexact Hb
  isplitl [H4 H5]
  · isplitl [H4] <;> iassumption
  isplitl [H0 H1]
  · isplitl [H0]
    · iapply (drop_all (F := F) (fun _ => 0) fun c d => dutyTok ER (xc c 0 d) 0 0); iexact H0
    · iapply (drop_all (F := F) id fun c d => dutyTok ER (xc d 1 c) 0 0); iexact H1
  · isplitl [H2]
    · iapply (drop_all (F := F) (fun _ => 0) fun c d => dutyTok ER (xc c 2 d) 0 0); iexact H2
    · iapply (drop_all (F := F) id fun c d => dutyTok ER (xc d 3 c) 0 0); iexact H3

theorem deal {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CK => iprop(∃ κ : ℕ, cellInv ER (Rd m) κ (kcell (c, k))))
          ∗ (pos c ∗ bigSep Finset.univ fun k : CK => reached ER (kcell (c, k)) 0) ∗ toks c) : sProp 𝕄)
      ⊢ bigSep Finset.univ (G' m) := by
  rw [bigSep_sep', bigSep_sep', bigSep_sep', ← bigSep_univ_prod (fun x : Dev nD × CK => iprop(∃ κ : ℕ, cellInv ER (Rd m) κ (kcell x))),
    ← bigSep_univ_prod (fun x : Dev nD × CK => (reached ER (kcell x) 0 : sProp 𝕄))]
  iintro ⟨HI, ⟨Hat, #HR⟩, Htok⟩
  ihave HK := (BI.bigSep_exists_pi Finset.univ (fun (x : Dev nD × CK) (κ : ℕ) => (cellInv ER (Rd m) κ (kcell x) : sProp 𝕄))) $$ HI
  icases HK with ⟨%K, #HI⟩
  ihave Htk := (toks_around (F := F)) $$ Htok
  iapply (deal (R := marks m K) (Φ := fun c => iprop(pos c ∗ payToks c)) fun c _ => by
    unfold G'
    iintro ⟨#HM, H⟩
    iexists K
    isplitr; · iexact HM
    iexact H)
  isplitr
  · unfold marks; isplitl; · iexact HI
    iexact HR
  · rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credits -/

/-- What every device owes at the start. -/
abbrev O₀ (c : Dev nD) : CellTallies nD τ sig Unit := Ob c 0 0 0

theorem sum_peers (d : Dev nD) (f : Dev nD → ℕ) : ∑ i ∈ Finset.Ico 0 31, f (pr d i) = ∑ p ∈ Finset.univ.erase d, f p := by
  rw [erase_eq_peers, Finset.sum_image (pr_injOn d), Finset.range_eq_Ico]

theorem owed_at (d : Dev nD) (g : GSem nD τ sig) : O₀ d g () = (∑ i ∈ Finset.Ico 0 31, (if g = bar (pr d i) then 1 else 0))
    + (∑ i ∈ Finset.Ico 0 31, (if g = xc (pr d i) 1 d then N else 0)) + ∑ i ∈ Finset.Ico 0 31, (if g = xc (pr d i) 3 d then N else 0) := by
  unfold O₀ Ob
  rw [Pi.add_apply, Pi.add_apply, Finsupp.add_apply, Finsupp.add_apply, Finset.sum_apply, Finset.sum_apply, Finset.sum_apply,
    Finsupp.finset_sum_apply, Finsupp.finset_sum_apply, Finsupp.finset_sum_apply]
  simp only [tallyAt_apply, and_true]

theorem bar_iff {a b : Dev nD} : bar a = bar b ↔ a = b :=
  ⟨fun h => congrArg (fun g : GSem nD τ sig => g.1.1) h, fun h => h ▸ rfl⟩
theorem xc_iff {a b : Dev nD} {k l : Fin 4} {p q : Dev nD} : xc a k p = xc b l q ↔ a = b ∧ k = l ∧ p = q :=
  ⟨fun h => by
    have := @kcell_injective (a, .inr (.inr (k, p))) (b, .inr (.inr (l, q))) h
    simpa using this, fun h => by obtain ⟨rfl, rfl, rfl⟩ := h; rfl⟩
theorem bar_ne_xc {a b : Dev nD} {k : Fin 4} {p : Dev nD} : bar a ≠ xc b k p := fun h => by
  have := congrArg Prod.snd h; simp at this

theorem owed_bar (d c : Dev nD) : O₀ d (bar c) () = if d = c then 0 else 1 := by
  rw [owed_at]
  simp only [bar_iff, bar_ne_xc, if_false, Finset.sum_const_zero, Nat.add_zero]
  rw [sum_peers d fun p => if c = p then 1 else 0, Finset.sum_ite_eq]
  by_cases h : d = c
  · subst h; simp
  · rw [if_pos (Finset.mem_erase.mpr ⟨fun e => h e.symm, Finset.mem_univ _⟩), if_neg h]

theorem owed_x1 (d c p : Dev nD) (hp : p ≠ c) : O₀ d (xc c 1 p) () = if d = p then N else 0 := by
  rw [owed_at]
  simp only [bar_ne_xc.symm, xc_iff, if_false, Finset.sum_const_zero, Nat.zero_add, show ((1 : Fin 4) = 3) = False from by decide, false_and, and_false, Nat.add_zero, true_and]
  rw [sum_peers d fun q => if c = q ∧ p = d then N else 0]
  by_cases h : d = p
  · subst h; simp only [and_true]
    rw [Finset.sum_ite_eq, if_pos (Finset.mem_erase.mpr ⟨hp.symm, Finset.mem_univ _⟩)]; simp
  · rw [if_neg h]; exact Finset.sum_eq_zero fun q _ => if_neg fun e => h e.2.symm
theorem owed_x3 (d c p : Dev nD) (hp : p ≠ c) : O₀ d (xc c 3 p) () = if d = p then N else 0 := by
  rw [owed_at]
  simp only [bar_ne_xc.symm, xc_iff, if_false, Finset.sum_const_zero, Nat.zero_add, show ((3 : Fin 4) = 1) = False from by decide, false_and, and_false, Nat.add_zero, true_and]
  rw [sum_peers d fun q => if c = q ∧ p = d then N else 0]
  by_cases h : d = p
  · subst h; simp only [and_true]
    rw [Finset.sum_ite_eq, if_pos (Finset.mem_erase.mpr ⟨hp.symm, Finset.mem_univ _⟩)]; simp
  · rw [if_neg h]; exact Finset.sum_eq_zero fun q _ => if_neg fun e => h e.2.symm

theorem launch_bar (c : Dev nD) :
    tallyOn (bar c) (launchCredit (Pipeline.owing O₀) 0 (bar c)) = (tallyAt (bar c) () 31 : CellTallies nD τ sig Unit) := by
  unfold tallyAt; refine congrArg _ (Finsupp.ext fun u => ?_); cases u
  rw [Pipeline.launchCredit_owing, Finsupp.single_eq_same, Finset.sum_congr rfl fun d _ => owed_bar d c]
  rw [← Finset.sum_erase (s := Finset.univ) (a := c) (f := fun d => if d = c then 0 else 1) (if_pos rfl),
    Finset.sum_congr rfl fun d hd => if_neg (Finset.ne_of_mem_erase hd), Finset.sum_const, Finset.card_erase_of_mem (Finset.mem_univ _)]
  rfl
theorem launch_x1 (c p : Dev nD) (hp : p ≠ c) :
    tallyOn (xc c 1 p) (launchCredit (Pipeline.owing O₀) 0 (xc c 1 p)) = (tallyAt (xc c 1 p) () N : CellTallies nD τ sig Unit) := by
  unfold tallyAt; refine congrArg _ (Finsupp.ext fun u => ?_); cases u
  rw [Pipeline.launchCredit_owing, Finsupp.single_eq_same, Finset.sum_congr rfl fun d _ => owed_x1 d c p hp, Finset.sum_ite_eq' Finset.univ p fun _ => N,
    if_pos (Finset.mem_univ _)]
theorem launch_x3 (c p : Dev nD) (hp : p ≠ c) :
    tallyOn (xc c 3 p) (launchCredit (Pipeline.owing O₀) 0 (xc c 3 p)) = (tallyAt (xc c 3 p) () N : CellTallies nD τ sig Unit) := by
  unfold tallyAt; refine congrArg _ (Finsupp.ext fun u => ?_); cases u
  rw [Pipeline.launchCredit_owing, Finsupp.single_eq_same, Finset.sum_congr rfl fun d _ => owed_x3 d c p hp, Finset.sum_ite_eq' Finset.univ p fun _ => N,
    if_pos (Finset.mem_univ _)]

/-- The credits of a device: a unit for every peer's signal, a row block from every peer at both exchanges. -/
def creds (c : Dev nD) : sProp 𝕄 :=
  iprop(cred (tallyAt (bar c) () 31) ∗ (bigSep (Finset.range 31) fun i => cred (tallyAt (xc c 1 (pr c i)) () N))
    ∗ bigSep (Finset.range 31) fun i => cred (tallyAt (xc c 3 (pr c i)) () N))

theorem sub_all {I : Type} [DecidableEq I] (S T : Finset I) (h : T ⊆ S) (Φ : I → sProp 𝕄) : bigSep S Φ ⊢ bigSep T Φ := bigSep_subset h

theorem drop_cred (c : Dev nD) (a : Fin 4) (h : ∀ p, p ≠ c → tallyOn (xc c a p) (launchCredit (Pipeline.owing O₀) 0 (xc c a p)) = (tallyAt (xc c a p) () N : CellTallies nD τ sig Unit)) :
    (bigSep Finset.univ fun p : Dev nD => (cred (tallyOn (xc c a p) (launchCredit (Pipeline.owing O₀) 0 (xc c a p))) : sProp 𝕄))
      ⊢ bigSep (Finset.range 31) fun i => cred (tallyAt (xc c a (pr c i)) () N) := by
  refine (drop_own (F := F) c fun p => cred (tallyOn (xc c a p) (launchCredit (Pipeline.owing O₀) 0 (xc c a p)))).trans ?_
  rw [bigSep_congr (Ψ := fun i => (cred (tallyAt (xc c a (pr c i)) () N) : sProp 𝕄)) fun i hi => congrArg cred (h (pr c i) (pr_ne c (Finset.mem_range.mp hi)))]

theorem creds_intro (c : Dev nD) : (Pipeline.launchCred O₀ c : sProp 𝕄) ⊢ creds c := by
  unfold Pipeline.launchCred creds
  refine (sub_all Finset.univ (Finset.univ.map ⟨csem, csem_injective⟩) (Finset.subset_univ _) _).trans ?_
  rw [bigSep_map, sum_split, sum_split, bigSep_univ_prod, bigSep_fin4, show (Finset.univ : Finset Unit) = {()} from rfl, bigSep_singleton]
  iintro ⟨Hb, -, -, H1, -, H3⟩
  isplitl [Hb]
  · iapply (Entails.of_eq (congrArg cred (launch_bar c))); iexact Hb
  isplitl [H1]
  · iapply (drop_cred (F := F) c 1 fun p hp => launch_x1 c p hp); iexact H1
  · iapply (drop_cred (F := F) c 3 fun p hp => launch_x3 c p hp); iexact H3

end Cert.AttnProof
-- ==== Proof.Region.lean ====
/-
The kernel body as the one grid point of the launch: what the launch hands it is what the body starts from, and what
it ends with gives back every array, staging buffer and semaphore.
-/
module

public import proofs.«01_k».proof.Proof.Ghost
public import proofs.«01_k».proof.Proof.Gen.KernelIdeal.Points

@[expose] public section

noncomputable section

namespace Cert.AttnProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)
variable {F : FTy → Type} [FloatOps F]

local notation "𝕄" => MT nD τ sig Unit (Elt F) ℕ UU ℕ

variable (m : (ℓ : Loc nD τ sig) → Buf (Elt F) ℓ) (ρ : Dev nD → PrngReg)

/-! ## The semaphores of one device, kind by kind -/

/-- A family over a device's semaphores: the barrier, the two local copies, the four arrays, each array with the
    entry no copy uses apart. -/
theorem fam_split (c : Dev nD) (Φ : CK → sProp 𝕄) : bigSep Finset.univ Φ
    = iprop(Φ (.inl ()) ∗ (Φ (.inr (.inl 0)) ∗ Φ (.inr (.inl 1)))
      ∗ (Φ (.inr (.inr (0, 0))) ∗ bigSep (Finset.range 31) fun i => Φ (.inr (.inr (0, pr 0 i))))
      ∗ (Φ (.inr (.inr (1, c))) ∗ bigSep (Finset.range 31) fun i => Φ (.inr (.inr (1, pr c i))))
      ∗ (Φ (.inr (.inr (2, 0))) ∗ bigSep (Finset.range 31) fun i => Φ (.inr (.inr (2, pr 0 i))))
      ∗ (Φ (.inr (.inr (3, c))) ∗ bigSep (Finset.range 31) fun i => Φ (.inr (.inr (3, pr c i))))) := by
  rw [sum_split, sum_split, show (Finset.univ : Finset Unit) = {()} from rfl, bigSep_singleton, bigSep_fin2, bigSep_univ_prod, bigSep_fin4,
    bigSep_devs 0 (fun j => Φ (.inr (.inr (0, j)))), bigSep_devs c (fun j => Φ (.inr (.inr (1, j)))),
    bigSep_devs 0 (fun j => Φ (.inr (.inr (2, j)))), bigSep_devs c (fun j => Φ (.inr (.inr (3, j))))]

/-- The semaphores no copy uses. -/
def Idle (c : Dev nD) : sProp 𝕄 :=
  iprop(atPos ER (xc c 0 0) 0 ∅ 0 ∗ atPos ER (xc c 1 c) 0 ∅ 0 ∗ atPos ER (xc c 2 0) 0 ∅ 0 ∗ atPos ER (xc c 3 c) 0 ∅ 0)

/-- A semaphore past its last round reads zero. -/
theorem close_at (K : Dev nD × CK → ℕ) (x : Dev nD × CK) (R : ℕ) (hR : ∀ r, R ≤ r → (Rd (F := F) m).duties (kcell x) r = ∅) :
    iprop(Recs m K ∗ atPos ER (kcell x) R ∅ 0) ⊢ |={Set.univ}=> (semVal (kcell x) 0 : sProp 𝕄) :=
  (sep_mono_left (Recs_inv m K x)).trans (Rounds.cell_close ER (Rd m) (Set.mem_univ (K x)) (fun h => h) hR)

/-- A family of waited semaphores reads zero. -/
theorem close_many (K : Dev nD × CK → ℕ) (S : Finset ℕ) (x : ℕ → Dev nD × CK) :
    iprop(Recs m K ∗ bigSep S fun i => atPos ER (kcell (x i)) 1 ∅ 0) ⊢ |={Set.univ}=> (bigSep S fun i => semVal (kcell (x i)) 0 : sProp 𝕄) :=
  (sep_mono_left (BI.bigSep_of_persistent S (Recs (F := F) m K))).trans
    (by rw [← bigSep_sep']; exact (bigSep_mono fun i _ => close_at m K (x i) 1 (duties_later m _)).trans (bigSep_fupd _ _))

theorem idle_send (c : Dev nD) (a : Fin 4) (h : a = 0 ∨ a = 2) : ∀ r, 0 ≤ r → (Rd (F := F) m).duties (xc c a 0) r = ∅ :=
  duties_unused m c a 0 (by unfold xDuties; dsimp only; rw [if_pos h, if_pos rfl])
theorem idle_recv (c : Dev nD) (a : Fin 4) (h : ¬ (a = 0 ∨ a = 2)) : ∀ r, 0 ≤ r → (Rd (F := F) m).duties (xc c a c) r = ∅ :=
  duties_unused m c a c (by unfold xDuties; dsimp only; rw [if_neg h, if_pos rfl])

/-- When the body ends every semaphore of the device reads zero. -/
theorem close_all (K : Dev nD × CK → ℕ) (c : Dev nD) :
    iprop(Recs m K ∗ (atPos ER (cp c 0) 1 ∅ 0 ∗ atPos ER (cp c 1) 1 ∅ 0 ∗ atPos ER (bar c) 1 ∅ 0)
      ∗ (Done c 0 (pr 0) ∗ Done c 1 (pr c) ∗ Done c 2 (pr 0) ∗ Done c 3 (pr c)) ∗ Idle c)
    ⊢ |={Set.univ}=> (bigSep Finset.univ fun k : CK => semVal (kcell (c, k)) 0 : sProp 𝕄) := by
  rw [fam_split c]
  unfold Done Idle
  iintro ⟨#HR, ⟨H4, H5, HB⟩, ⟨D0, D1, D2, D3⟩, I0, I1, I2, I3⟩
  imod (close_at m K (c, .inl ()) 1 (duties_later m _)) $$ [HB] with ZB
  · isplitr; · iexact HR
    iexact HB
  imod (close_at m K (c, .inr (.inl 0)) 1 (duties_later m _)) $$ [H4] with Z4
  · isplitr; · iexact HR
    iexact H4
  imod (close_at m K (c, .inr (.inl 1)) 1 (duties_later m _)) $$ [H5] with Z5
  · isplitr; · iexact HR
    iexact H5
  imod (close_at m K (c, .inr (.inr (0, 0))) 0 (idle_send m c 0 (by decide))) $$ [I0] with J0
  · isplitr; · iexact HR
    iexact I0
  imod (close_many m K (Finset.range 31) fun i => (c, .inr (.inr (0, pr 0 i)))) $$ [D0] with Z0
  · isplitr; · iexact HR
    iexact D0
  imod (close_at m K (c, .inr (.inr (1, c))) 0 (idle_recv m c 1 (by decide))) $$ [I1] with J1
  · isplitr; · iexact HR
    iexact I1
  imod (close_many m K (Finset.range 31) fun i => (c, .inr (.inr (1, pr c i)))) $$ [D1] with Z1
  · isplitr; · iexact HR
    iexact D1
  imod (close_at m K (c, .inr (.inr (2, 0))) 0 (idle_send m c 2 (by decide))) $$ [I2] with J2
  · isplitr; · iexact HR
    iexact I2
  imod (close_many m K (Finset.range 31) fun i => (c, .inr (.inr (2, pr 0 i)))) $$ [D2] with Z2
  · isplitr; · iexact HR
    iexact D2
  imod (close_at m K (c, .inr (.inr (3, c))) 0 (idle_recv m c 3 (by decide))) $$ [I3] with J3
  · isplitr; · iexact HR
    iexact I3
  imod (close_many m K (Finset.range 31) fun i => (c, .inr (.inr (3, pr c i)))) $$ [D3] with Z3
  · isplitr; · iexact HR
    iexact D3
  imodintro
  isplitl [ZB]; · iexact ZB
  isplitl [Z4 Z5]
  · isplitl [Z4]; · iexact Z4
    iexact Z5
  isplitl [J0 Z0]
  · isplitl [J0]; · iexact J0
    iexact Z0
  isplitl [J1 Z1]
  · isplitl [J1]; · iexact J1
    iexact Z1
  isplitl [J2 Z2]
  · isplitl [J2]; · iexact J2
    iexact Z2
  isplitl [J3]; · iexact J3
  iexact Z3

/-! ## The proof data of the one grid point -/

/-- The two weight arrays, whole. -/
def Args (c : Dev nD) : sProp 𝕄 :=
  iprop(((c : Thread nD τ).loc main_arg1 ↦{fullShare} m ((c : Thread nD τ).loc main_arg1))
    ∗ ((c : Thread nD τ).loc main_arg4 ↦{fullShare} m ((c : Thread nD τ).loc main_arg4)))

/-- What a device's body starts from besides its staging buffers and scratch. -/
def Start (c : Dev nD) : sProp 𝕄 := iprop((∃ K, Recs m K ∗ pos c ∗ payToks c) ∗ creds c ∗ Args m c)

/-- The scratch buffers, at any contents. -/
def Scr (c : Dev nD) : sProp 𝕄 :=
  iprop((∃ f : Buf (Elt F) ((c : Thread nD τ).loc cc0_scratch0), (c : Thread nD τ).loc cc0_scratch0 ↦{fullShare} f)
    ∗ (∃ f : Buf (Elt F) ((c : Thread nD τ).loc cc0_scratch1), (c : Thread nD τ).loc cc0_scratch1 ↦{fullShare} f)
    ∗ (∃ f : Buf (Elt F) ((c : Thread nD τ).loc cc0_scratch2), (c : Thread nD τ).loc cc0_scratch2 ↦{fullShare} f)
    ∗ (∃ f : Buf (Elt F) ((c : Thread nD τ).loc cc0_scratch3), (c : Thread nD τ).loc cc0_scratch3 ↦{fullShare} f))

def Φ₀ (c : Dev nD) : sProp 𝕄 := iprop(Start m c ∗ Scr c)
def Φ₁ (c : Dev nD) : sProp 𝕄 := iprop((Args m c ∗ bigSep Finset.univ fun k : CK => semVal (kcell (c, k)) 0) ∗ Scr c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xC m c
    | ⟨1, _⟩ => kC m c
    | ⟨2, _⟩ => vC m c
    | ⟨3, _⟩ => outC m
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## Into and out of the body -/

theorem some_slot (d p : Dev nD) (f) : (slotPts (F := F) d p f) ⊢ iprop(∃ f, slotPts d p f) := by
  iintro H; iexists f; iexact H

/-- What the launch hands over is what the body starts from, and the rest of the weight arrays and the unused
    semaphores. -/
theorem into (c : Dev nD) :
    iprop((pos c ∗ payToks c) ∗ (creds c ∗ Args m c) ∗ Scr c ∗ Ow c (O₀ c) ∗ (xPts m c ∗ kPts m c ∗ vPts m c) ∗ ∃ f, oPts (F := F) c f)
    ⊢ iprop((Pre114 m c ∗ InAr c ∗ InSw c ∗ ∃ f, oPts c f) ∗ (wqRest (m := m) (c := c) ∗ woRest (m := m) (c := c)) ∗ Idle c) := by
  unfold pos payToks creds Args Scr Pre114 InRr InAr InSw Idle SigSt BarIn CpA CpB O₀
  rw [fam_split c, ← Finset.range_eq_Ico]
  simp only [bigSep_sep']
  iintro ⟨⟨⟨PB, ⟨P4, P5⟩, ⟨I0, P0⟩, ⟨I1, P1⟩, ⟨I2, P2⟩, I3, P3⟩, TB, ⟨T4, T5⟩, TR, TA⟩, ⟨⟨CB, C1, C3⟩, A1, A4⟩, ⟨Sa, Sq, So, ⟨%fr, Sr⟩⟩, HO, HI, Hout⟩
  ihave A1' := (show _ ⊢ iprop(wqSrc (m := m) (c := c) ∗ wqRest (m := m) (c := c)) from (pointsTo_split_subset (Finset.subset_univ (wqSl c).view.set)).1) $$ A1
  icases A1' with ⟨A1s, A1r⟩
  ihave A4' := (show _ ⊢ iprop(woSrc (m := m) (c := c) ∗ woRest (m := m) (c := c)) from (pointsTo_split_subset (Finset.subset_univ (woSl c).view.set)).1) $$ A4
  icases A4' with ⟨A4s, A4r⟩
  ihave Sr' := (Entails.of_eq (rs_join c fr)) $$ Sr
  icases Sr' with ⟨Sc, Sp⟩
  isplitr [A1r A4r I0 I1 I2 I3]
  · isplitr [P3 C3 P0 P2 Hout]
    · isplitl [HO TB Sp]
      · isplitl [HO]; · iexact HO
        isplitl [TB]; · iexact TB
        iapply (show (bigSep (Finset.range 31) fun i => slotPts (F := F) c (pr c i) fr) ⊢ bigSep (Finset.range 31) fun i => iprop(∃ f, slotPts (F := F) c (pr c i) f) from
          bigSep_mono fun i _ => some_slot c (pr c i) fr)
        iexact Sp
      isplitl [PB P4 P5 T4 T5 CB A1s A4s Sq So]
      · isplitl [PB CB]
        · isplitl [CB] <;> iassumption
        isplitl [P4 T4 A1s Sq]
        · isplitl [A1s]; · iexact A1s
          isplitl [Sq]; · iexact Sq
          isplitl [T4] <;> iassumption
        · isplitl [A4s]; · iexact A4s
          isplitl [So]; · iexact So
          isplitl [T5] <;> iassumption
      isplitl [HI]; · iexact HI
      isplitl [Sa]; · iexact Sa
      isplitl [TR]; · iexact TR
      isplitl [C1 P1]
      · isplitl [C1]; · iexact C1
        iexact P1
      isplitl [TA]; · iexact TA
      iexists fr; iexact Sc
    isplitl [C3 P3]
    · isplitl [C3]; · iexact C3
      iexact P3
    isplitl [P0 P2]
    · isplitl [P0]; · iexact P0
      iexact P2
    iexact Hout
  isplitl [A1r A4r]
  · isplitl [A1r] <;> iassumption
  isplitl [I0]; · iexact I0
  isplitl [I1]; · iexact I1
  isplitl [I2]; · iexact I2
  iexact I3

/-- What the body ends with gives back the arrays, the scratch and the semaphores at zero. -/
theorem outof (K : Dev nD × CK → ℕ) (c : Dev nD) :
    iprop(Recs m K ∗ Post m c ∗ (wqRest (m := m) (c := c) ∗ woRest (m := m) (c := c)) ∗ Idle c)
    ⊢ |={Set.univ}=> iprop(Φ₁ m c ∗ Ow c 0 ∗ (xPts m c ∗ kPts m c ∗ vPts m c) ∗ oPts (F := F) c (outC m)) := by
  unfold Post Mid Ins Φ₁ Args Scr
  iintro ⟨#HR, ⟨HO, ⟨Hat, ⟨A1s, A4s⟩, ⟨Hx, Hk, Hv, Hq, Ho⟩⟩, HD, Hrs, Hacc, Hout⟩, ⟨A1r, A4r⟩, HI⟩
  imod (close_all m K c) $$ [Hat HD HI] with HZ
  · isplitr; · iexact HR
    isplitl [Hat]; · iexact Hat
    isplitl [HD] <;> iassumption
  imodintro
  isplitl [A1s A1r A4s A4r HZ Hrs Hacc Hq Ho]
  · isplitl [A1s A1r A4s A4r HZ]
    · isplitl [A1s A1r A4s A4r]
      · isplitl [A1s A1r]
        · iapply (show iprop(wqSrc (m := m) (c := c) ∗ wqRest (m := m) (c := c)) ⊢ _ from (pointsTo_split_subset (Finset.subset_univ (wqSl c).view.set)).2)
          isplitl [A1s] <;> iassumption
        · iapply (show iprop(woSrc (m := m) (c := c) ∗ woRest (m := m) (c := c)) ⊢ _ from (pointsTo_split_subset (Finset.subset_univ (woSl c).view.set)).2)
          isplitl [A4s] <;> iassumption
      iexact HZ
    isplitl [Hacc]; · iexists (A1 m); iexact Hacc
    isplitl [Hq]; · iexists (wqC m c); unfold wqPts; iexact Hq
    isplitl [Ho]; · iexists (woC m c); unfold woPts; iexact Ho
    iexists (R0 m c); iexact Hrs
  isplitl [HO]; · iexact HO
  isplitl [Hx Hk Hv]
  · isplitl [Hx]; · iexact Hx
    isplitl [Hk] <;> iassumption
  iexact Hout

/-! ## The body obligation -/

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))

def bodyPost (c : Dev nD) : sProp 𝕄 :=
  iprop(Φ₁ m c ∗ (dats m ρ 0 c).owesAt () t0_0.succ
    ∗ stg c cc0_stg0_0 (xC m c) ∗ stg c cc0_stg1_0 (kC m c) ∗ stg c cc0_stg2_0 (vC m c) ∗ stg c cc0_stg3_0 (outC m))

/-- The staging buffers hold the arrays' blocks when the body starts. -/
theorem pre_open (c : Dev nD) : bodyPre m ρ c
    ⊢ iprop(∃ K, Recs m K ∗ (pos c ∗ payToks c) ∗ (creds c ∗ Args m c) ∗ Scr c ∗ Ow c (O₀ c) ∗ (xPts m c ∗ kPts m c ∗ vPts m c) ∗ ∃ f, oPts (F := F) c f) := by
  unfold bodyPre Φ₀ Start
  iintro ⟨⟨⟨⟨%K, HR, Hp, Ht⟩, Hc, Ha⟩, Hs⟩, Ho, ⟨%d0, %g0, %hg0, Hx⟩, ⟨%d1, %g1, %hg1, Hk⟩, ⟨%d2, %g2, %hg2, Hv⟩, ⟨%d3, %g3, %hg3, Hout⟩⟩
  have hx : g0 = xC m c := by rw [hg0]; unfold Dat.before; rw [if_pos (fetch0_0 t0_0)]; rfl
  have hk : g1 = kC m c := by rw [hg1]; unfold Dat.before; rw [if_pos (fetch0_1 t0_0)]; rfl
  have hv : g2 = vC m c := by rw [hg2]; unfold Dat.before; rw [if_pos (fetch0_2 t0_0)]; rfl
  subst hx hk hv
  unfold Dat.owesAt Pipeline.owesWithin
  icases Ho with ⟨%W, %hW, HO⟩
  rw [show (dats m ρ 0 c).owed t0_0.castSucc = O₀ c from rfl]
  iexists K
  isplitl [HR]; · iexact HR
  isplitl [Hp Ht]
  · isplitl [Hp] <;> iassumption
  isplitl [Hc Ha]
  · isplitl [Hc] <;> iassumption
  isplitl [Hs]; · iexact Hs
  isplitl [HO]; · unfold Ow; iexists W; iexact HO
  isplitl [Hx Hk Hv]
  · isplitl [Hx]; · unfold xPts; iexact Hx
    isplitl [Hk]; · unfold kPts; iexact Hk
    unfold vPts; iexact Hv
  iexists g3; unfold oPts; iexact Hout

/-- What the body ends with is what the grid point is to leave. -/
theorem post_close (c : Dev nD) : iprop(Φ₁ m c ∗ Ow c 0 ∗ (xPts m c ∗ kPts m c ∗ vPts m c) ∗ oPts (F := F) c (outC m)) ⊢ bodyPost m ρ c := by
  unfold bodyPost Dat.owesAt Pipeline.owesWithin Ow xPts kPts vPts oPts
  rw [show (dats m ρ 0 c).owed t0_0.succ = 0 from rfl]
  iintro ⟨HΦ, ⟨%W, HO⟩, ⟨Hx, Hk, Hv⟩, Ho⟩
  isplitl [HΦ]; · iexact HΦ
  isplitl [HO]
  · iexists W
    isplitr; · ipureintro; exact fun _ _ => Or.inl trivial
    iexact HO
  isplitl [Hx]
  · iexists _; isplitr; · (ipureintro; rfl)
    iexact Hx
  isplitl [Hk]
  · iexists _; isplitr; · (ipureintro; rfl)
    iexact Hk
  isplitl [Hv]
  · iexists _; isplitr; · (ipureintro; rfl)
    iexact Hv
  iexists _; isplitr; · (ipureintro; rfl)
  iexact Ho

/-- The body with the unused resources aside, ending with every semaphore at zero. -/
theorem body_run_of (K : Dev nD × CK → ℕ) (c : Dev nD) :
    iprop(Recs m K ∗ (Pre114 m c ∗ InAr c ∗ InSw c ∗ ∃ f, oPts (F := F) c f) ∗ (wqRest (m := m) (c := c) ∗ woRest (m := m) (c := c)) ∗ Idle c)
    ⊢ wp Idealize.ShloMosaic.frame (wpE (defs₀ (F := F)) 𝒱₀ (c : Thread nD τ) none) Set.univ (onArgs (cc0_body (F := F))) (fun _ => bodyPost m ρ c) := by
  have h := Tri.frame iprop(Recs m K ∗ (wqRest (m := m) (c := c) ∗ woRest (m := m) (c := c)) ∗ Idle c) (body_tri (m := m) (K := K) (c := c))
  unfold Tri at h
  refine BIBase.Entails.trans ?_ ((h.trans (wp_mono _ _ _ fun _ => ?_)).trans (wp_fupd _ _ _ _ _))
  · iintro ⟨#HR, H1, H2⟩
    isplitr; · iexact HR
    isplitl [H1]; · iexact H1
    isplitr; · iexact HR
    iexact H2
  · refine BIBase.Entails.trans ?_ ((outof m K c).trans (BI.fupd_mono (post_close m ρ c)))
    iintro ⟨HP, HR, Hfr⟩
    isplitl [HR]; · iexact HR
    isplitl [HP] <;> iassumption

/-- The body, from what the launch hands it to what the launch takes back. -/
theorem body_run (c : Dev nD) : bodyPre m ρ c ⊢ wp Idealize.ShloMosaic.frame (wpE (defs₀ (F := F)) 𝒱₀ (c : Thread nD τ) none) Set.univ (onArgs (cc0_body (F := F))) (fun _ => bodyPost m ρ c) := by
  refine (pre_open m ρ c).trans ?_
  iintro ⟨%K, HR, Hrest⟩
  ihave Hin := (into m c) $$ Hrest
  iapply (body_run_of m ρ K c)
  isplitl [HR] <;> iassumption

set_option maxRecDepth 100000 in
/-- The grid point's obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp Idealize.ShloMosaic.frame (wpE (defs₀ (F := F)) 𝒱₀ (c : Thread nD τ) none) Set.univ (onArgs (cc0_body (F := F))) (fun _ => bodyPost m ρ c)
  exact body_run m ρ c

end Cert.AttnProof
-- ==== Proof.Run.lean ====
/-
The run of @main on all devices: it ends, every semaphore reads zero, the arguments are as launched and the result
arrays hold what the body leaves.
-/
module

public import proofs.«01_k».proof.Proof.Region
public import Idealize.ShloMosaic.Lib.Pipeline.CollectiveSegs

@[expose] public section

noncomputable section

namespace Cert.AttnProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)
variable {F : FTy → Type} [FloatOps F]

local notation "𝕄" => MT nD τ sig Unit (Elt F) ℕ UU ℕ

variable (m : (ℓ : Loc nD τ sig) → Buf (Elt F) ℓ) (ρ : Dev nD → PrngReg)

/-! ## The side conditions of the launch -/

theorem ownSemFacts : Pipeline.OwnSemFacts cfg0.spec osem := by decide

theorem share_eq (c : Dev nD) (w : Fin cfg0.W) : (dats m ρ 0 c).share w = fullShare := by unfold Dat.share; split <;> rfl

/-- What a device starts from, out of what the launch deals it. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(Start m c ∗ emp) := by
  rw [show (Pipeline.unscopedRestP Pipeline.Prefetch.none cfg0.spec c (fun b => m ((c : Thread nD τ).loc b)) : sProp 𝕄) = Args m c from
    (Pipeline.unscopedRestP_none cfg0.spec c _).trans (unscopedRest0_eq c _)]
  unfold Start G' marks Recs
  iintro ⟨Ha, Hlev, Hcr, -, ⟨%K, ⟨Hi, Hr⟩, Hp, Ht⟩⟩
  imodintro
  isplitl
  · isplitr [Hcr Ha]
    · iexists K
      isplitl [Hi Hr Hlev]
      · isplitl [Hi]; · iexact Hi
        isplitl [Hr] <;> iassumption
      isplitl [Hp] <;> iassumption
    isplitl [Hcr]
    · iapply (creds_intro (F := F) c); iexact Hcr
    iexact Ha
  · iempintro

theorem phi0_intro (c : Dev nD) :
    iprop(Start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, show (Pipeline.scopedRest cfg0.spec c : sProp 𝕄) = Scr c from scopedRest0_eq c]
  unfold Φ₀
  iintro ⟨Hs, -, Hr⟩
  isplitl [Hs] <;> iassumption

theorem phi1_exit (c : Dev nD) :
    (dats m ρ 0 c).Φ (Fin.last cfg0.N) ⊢ iprop((unscopedSems0 c ∗ Args m c) ∗ Pipeline.ownSems0 osem c ∗ Pipeline.scopedRest cfg0.spec c) := by
  rw [show (dats m ρ 0 c).Φ (Fin.last cfg0.N) = Φ₁ m c from rfl, show (Pipeline.scopedRest cfg0.spec c : sProp 𝕄) = Scr c from scopedRest0_eq c]
  unfold Φ₁
  rw [sems0_eq c]
  iintro ⟨⟨Ha, ⟨Hu, Ho⟩⟩, Hr⟩
  isplitl [Hu Ha]
  · isplitl [Hu] <;> iassumption
  isplitl [Ho] <;> iassumption

theorem stage_low : ∀ (w : Fin cfg0.W) (s : Fin ((cfg0.win w).nbuf)), ((cfg0.win w).sem s : DmaSem sig).val < 4 := by decide

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait c _ 0 0 0 (Or.inl (lvS_low _ (stage_low w s)))
    · rw [show (dats m ρ 0 c).owed ⟨_ + 1, ht⟩ = 0 from rfl, MayWait_zero]; exact BI.true_intro

/-! ## The run -/

def finalA (c : Dev nD) (w : Fin cfg0.W) : Buf (Elt F) ((cfg0.win w).arr.view.loc (c : Thread nD τ)) := (dats m ρ 0 c).arrAt w cfg0.N

/-- Every window's array at its final contents, the two weight arrays as launched. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)
    ∧ r.2.mem ((c : Thread nD τ).loc main_arg4) = m ((c : Thread nD τ).loc main_arg4)

/-- What one device's run leaves: its weight arrays and its semaphores, read off the final state. -/
theorem read_end (c : Dev nD) (s' : Phys nD τ sig (Elt F)) :
    iprop((unscopedSems0 c ∗ Args m c) ∗ emp ∗ SI s')
      ⊢ |={Set.univ}=> iprop(⌜(s'.mem.mem ((c : Thread nD τ).loc main_arg1) = m ((c : Thread nD τ).loc main_arg1)
          ∧ s'.mem.mem ((c : Thread nD τ).loc main_arg4) = m ((c : Thread nD τ).loc main_arg4))
        ∧ ∀ sm : SemLoc sig, sm.isScoped .tc = false → s'.mem.sem ((c.tc : Thread nD τ), sm) = 0⌝ ∗ (SI s' : sProp 𝕄)) := by
  unfold Args
  iintro ⟨⟨Hu, H1, H4⟩, -, HSI⟩
  icombine HSI H1 gives %h1
  icombine HSI H4 gives %h4
  imod (Pipeline.unscopedSems0_read (X := unscopedSems0 c) (c := c) fupd_intro s') $$ [Hu HSI] with ⟨%hs, HSI⟩
  · isplitl [Hu] <;> iassumption
  imodintro
  isplitr
  · ipureintro
    exact ⟨⟨Buf.eq_of_forall_mem_univ h1, Buf.eq_of_forall_mem_univ h4⟩, hs⟩
  iexact HSI

set_option maxRecDepth 100000 in
/-- At the compiled mesh, for any float values, from any memory with zero counters: every weakly fair execution of
    @main ends, and in every final state the windows' arrays hold their computed contents, the weight arrays what they
    held, and every semaphore counter is zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := Start m) (Y := fun c => iprop(unscopedSems0 c ∗ Args m c)) (Z := fun _ => iprop(emp))
    (hX := start_intro m ρ) (hin := phi0_intro m ρ) (hout := phi1_exit m ρ)
    (QY := fun c s => (s.mem ((c : Thread nD τ).loc main_arg1) = m ((c : Thread nD τ).loc main_arg1)
          ∧ s.mem ((c : Thread nD τ).loc main_arg4) = m ((c : Thread nD τ).loc main_arg4))
        ∧ ∀ sm : SemLoc sig, sm.isScoped .tc = false → s.sem ((c.tc : Thread nD τ), sm) = 0)
    (hY := fun c s' => read_end m c s')
    (hQ := fun _ h hs => ⟨fun c => ⟨(h c).1, (h c).2.2.1⟩, sem_eq_zero hs fun c => (h c).2.2.2⟩)

end Cert.AttnProof
-- ==== Proof.Frames.lean ====
/-
What the run leaves on each device: the arguments as launched, the result array at `outC`, every semaphore at zero; and
the frame claims of both kernel programs from it.
-/
module

public import proofs.«01_k».proof.Proof.Run
public import proofs.«01_k».proof.Proof.Gen.Kernel
public import proofs.«01_k».proof.Defs
public import Idealize.ShloMosaic.Lib.Pipeline.ValueKit.Geometry

@[expose] public section

noncomputable section

namespace Cert.AttnProof

open Cert.KernelIdeal Cert.KernelIdeal.Gen

open Idealize.ShloMosaic Idealize.ShloMosaic.TcCoe
open Idealize.SL.Sem

variable {F : FTy → Type} [FloatOps F]
variable (m : (ℓ : Loc nD τ sig) → Buf (Elt F) ℓ) (ρ : Dev nD → PrngReg)

/-- The arrays the kernel reads through windows end as launched. -/
theorem finalA_x (c : Dev nD) : finalA m ρ c (0 : Fin 4) = m ((c : Thread nD τ).loc main_arg0) :=
  (dats (F := F) m ρ 0 c).arrAt_in (0 : Fin 4) rfl _
theorem finalA_k (c : Dev nD) : finalA m ρ c (1 : Fin 4) = m ((c : Thread nD τ).loc main_arg2) :=
  (dats (F := F) m ρ 0 c).arrAt_in (1 : Fin 4) rfl _
theorem finalA_v (c : Dev nD) : finalA m ρ c (2 : Fin 4) = m ((c : Thread nD τ).loc main_arg3) :=
  (dats (F := F) m ρ 0 c).arrAt_in (2 : Fin 4) rfl _

set_option maxRecDepth 100000 in
/-- The result array ends holding what the body left in its staging buffer. -/
theorem finalA_o (c : Dev nD) : finalA m ρ c (3 : Fin 4) = (outC m : Buf (Elt F) ((c : Thread nD τ).loc main_v1)) :=
  (dats (F := F) m ρ 0 c).arrAt_eq_of_after_last (3 : Fin 4) t0_0 (by decide +kernel) (outC m) (fun _ => rfl) (Memref.isWhole_whole _)

/-- The run's end, array by array. -/
theorem run_end : θ_run defs (onTc (τ := τ) (main (F := F))) ⟨m, fun _ => 0, ρ⟩ (fun r => (∀ c : Dev nD,
      r.2.mem ((c.tc : Thread nD τ).loc main_v1) = (outC m : Buf (Elt F) ((c : Thread nD τ).loc main_v1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).1 (3 : Fin 4)).trans (finalA_o m ρ c), ((h.1 c).1 (0 : Fin 4)).trans (finalA_x m ρ c), (h.1 c).2.1,
    ((h.1 c).1 (1 : Fin 4)).trans (finalA_k m ρ c), ((h.1 c).1 (2 : Fin 4)).trans (finalA_v m ρ c), (h.1 c).2.2⟩, h.2⟩) (run_main m ρ)

/-- The run terminates, leaves the arguments unchanged and every semaphore at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2, h.2⟩) (run_end m ρ)

/-- The idealized kernel's frame claim. -/
theorem frame_ideal : Cert.quiescent_KernelIdeal := fun m ρ _ => run_frame (F := Ideal) m ρ

set_option maxRecDepth 100000 in
/-- Both kernel programs call the same body. -/
theorem table₀_eq : @Cert.Kernel.defs₀ F _ Cert.Kernel.Gen.facts = @Cert.KernelIdeal.defs₀ F _ Cert.KernelIdeal.Gen.facts := by
  unfold Cert.Kernel.defs₀ Cert.KernelIdeal.defs₀
  refine congrArg Defs.onTc ?_
  funext l x
  match l, x with
  | 0, (t, s) => rfl
theorem table_eq : @Cert.Kernel.defs F _ Cert.Kernel.Gen.facts = @Cert.KernelIdeal.defs F _ Cert.KernelIdeal.Gen.facts :=
  congrArg (Pipeline.defs Cert.KernelIdeal.pcfgs) table₀_eq

/-- The frame over any table equal to the idealized kernel's. -/
theorem run_frame_of (D) (h : D = @Cert.KernelIdeal.defs F _ Cert.KernelIdeal.Gen.facts) : θ_run D (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  subst h; exact run_frame m ρ

set_option maxRecDepth 100000 in
/-- The kernel's frame claim: its text is the idealized kernel's. -/
theorem frame_kernel : Cert.quiescent_Kernel := fun m ρ _ => run_frame_of (F := Bits) m ρ _ table_eq

end Cert.AttnProof
-- ==== Proof.Softmax.lean ====
/-
What one head of one device computes, at exact values: the scaled scores of a query block against a key block, and
their row softmax applied to a value block.  The program writes this eight times over; here it is said once.
-/
module

public import proofs.«01_k».proof.Proof.Proto
public import Idealize.ShloMosaic.Lib.MatmulPlain
public import Idealize.ShloMosaic.Lib.ValueLayout
public import Idealize.ShloMosaic.Lib.ValueLayoutCasts
public import Idealize.ShloMosaic.Lib.Pipeline.Value

@[expose] public section

noncomputable section

namespace Cert.AttnProof

open Cert.KernelIdeal Cert.KernelIdeal.Gen
open Idealize.ShloMosaic Idealize.ShloMosaic.ValueIdx

/-! ## Softmax of a row of extended reals -/

/-- The largest entry of a row of scores. -/
def rowMax (s : Fin 128 → EReal) : EReal := Finset.univ.fold max (FloatOps.ofBits (F := Ideal) .f32 0xFF800000#32) s
/-- A row of scores less its largest entry, exponentiated. -/
def rowExp (s : Fin 128 → EReal) (j : Fin 128) : EReal := Ideal.exp (s j - rowMax s)
/-- The softmax of a row of scores. -/
def soft (s : Fin 128 → EReal) (j : Fin 128) : EReal := Ideal.div (rowExp s j) (∑ k, rowExp s k)
/-- The factor on the scores: one eighth, the number the word denotes. -/
def scale : EReal := FloatOps.ofBits (F := Ideal) .f32 0x3E000000#32

/-! ## The same, as the program writes it -/

section Terms
variable {F : FTy → Type} [FloatOps F]

/-- The activations times the device's query weights. -/
def qT (x : FVec F S1x128x512 .f32) (w : FVec F S512x256 .f32) : FVec F S128x256 .f32 :=
  matmul dot_S128x512_S512x256_S128x256_1_0_0_1_n_n none (shapeCast S128x512 x shapeCasts_S1x128x512_S128x512) w
    (constant S128x256 .f32 0x00000000#32)
/-- A key or value block as a matrix. -/
def kvT (k : FVec F S1x128x1x64 .f32) : FVec F S128x64 .f32 := shapeCast S128x64 k shapeCasts_S1x128x1x64_S128x64
/-- Queries against keys, scaled. -/
def scoreT (q k : FVec F S128x64 .f32) : FVec F S128x128 .f32 :=
  mulf (matmul dot_S128x64_S128x64_S128x128_1_1_0_0_n_n none q k (constant S128x128 .f32 0x00000000#32))
    (broadcast S128x128 (Scalar.ofBits .f32 0x3E000000#32))
/-- Scores less their row maximum, exponentiated. -/
def expT (s : FVec F S128x128 .f32) : FVec F S128x128 .f32 :=
  exp (subf s (broadcastTo S128x128 (shapeCast S128x1 (multiReduction .maximumf [1] S128 s 0xFF800000#32 reduces_S128x128_S128 (.inl rfl) rfl)
    shapeCasts_S128_S128x1) broadcasts_S128x1_S128x128))
/-- The row softmax of the scores times the values. -/
def headT (s : FVec F S128x128 .f32) (v : FVec F S128x64 .f32) : FVec F S128x64 .f32 :=
  matmul dot_S128x128_S128x64_S128x64_1_0_0_1_n_n none
    (divf (expT s) (broadcastTo S128x128 (shapeCast S128x1 (multiReduction .add [1] S128 (expT s) 0x00000000#32 reduces_S128x128_S128 (.inl rfl) rfl)
      shapeCasts_S128_S128x1) broadcasts_S128x1_S128x128)) v (constant S128x64 .f32 0x00000000#32)
/-- Four heads side by side, times the device's rows of the output weights. -/
def projT (a b c d : FVec F S128x64 .f32) (w : FVec F S256x512 .f32) : FVec F S128x512 .f32 :=
  matmul dot_S128x256_S256x512_S128x512_1_0_0_1_n_n none
    (concatenate S128x256 1 [⟨S128x64, a⟩, ⟨S128x64, b⟩, ⟨S128x64, c⟩, ⟨S128x64, d⟩] concatenates_S128x64_S128x64_S128x64_S128x64_S128x256_d1)
    w (constant S128x512 .f32 0x00000000#32)

end Terms

/-! ## Read at an index, at exact values -/

theorem qT_apply (x : FVec Ideal S1x128x512 .f32) (w : FVec Ideal S512x256 .f32) (i : Fin 128) (e : Fin 256) :
    qT x w (ix2 i e) = ∑ t : Fin 512, x (ix3 (0 : Fin 1) i t) * w (ix2 t e) := by
  refine (Ideal.matmul_plain_apply (M := 128) (K := 512) (N := 256) none _ _ _ i e).trans ?_
  rw [show (constant S128x256 .f32 0x00000000#32 : FVec Ideal S128x256 .f32) (ix2 i e) = 0 from Ideal.ofBits_zero_f32, zero_add]
  refine Finset.sum_congr rfl fun t _ => ?_
  rw [shapeCast_1ab_ab_apply]

theorem kvT_apply (k : FVec Ideal S1x128x1x64 .f32) (j : Fin 128) (d : Fin 64) :
    kvT k (ix2 j d) = k (ix4 (0 : Fin 1) j (0 : Fin 1) d) :=
  shapeCast_apply k _ _ _ (by
    rw [Shape.rowMajor_val_two, Shape.rowMajor_val_four]
    show ((0 * 128 + j.val) * 1 + 0) * 64 + d.val = j.val * 64 + d.val
    omega)

theorem scoreT_apply (q k : FVec Ideal S128x64 .f32) (i j : Fin 128) :
    scoreT q k (ix2 i j) = (∑ d : Fin 64, q (ix2 i d) * k (ix2 j d)) * scale := by
  show FloatOps.matmul (DotDims.transposedRhs 128 64 128) none q k (constant S128x128 .f32 0x00000000#32) (ix2 i j) * scale = _
  rw [Ideal.matmul_transposedRhs_apply]
  rw [show (constant S128x128 .f32 0x00000000#32 : FVec Ideal S128x128 .f32) (ix2 i j) = 0 from Ideal.ofBits_zero_f32, zero_add]

/-- A column laid along every row reads the column. -/
theorem column_apply (v : FVec Ideal S128 .f32) (i j : Fin 128) :
    broadcastTo S128x128 (shapeCast S128x1 v shapeCasts_S128_S128x1) broadcasts_S128x1_S128x128 (ix2 i j) = v (ix1 i) := by
  rw [broadcastTo_apply _ _ _ (ix2 i (0 : Fin 1)) (fun a => by match a with | ⟨0, _⟩ => rfl | ⟨1, _⟩ => rfl)]
  exact shapeCast_a_a1_apply v _ i 0

/-- A row's index with the reduced coordinate put back. -/
theorem row_lift (i k : Fin 128) : (reduces_S128x128_S128 : S128x128.Reduces [1] S128).lift (ix1 i) k = (ix2 i k : S128x128.Idx) := by
  funext a; match a with | ⟨0, _⟩ => rfl | ⟨1, _⟩ => rfl

theorem expT_apply (s : FVec Ideal S128x128 .f32) (i j : Fin 128) : expT s (ix2 i j) = rowExp (fun k => s (ix2 i k)) j := by
  show Ideal.exp (s (ix2 i j) - broadcastTo S128x128 _ _ (ix2 i j)) = _
  rw [column_apply]
  refine congrArg (fun z => Ideal.exp (s (ix2 i j) - z)) ((Ideal.multiReduction_maximumf_single s _ reduces_S128x128_S128 (.inl rfl) rfl (ix1 i)).trans ?_)
  exact congrArg (Finset.univ.fold max (FloatOps.ofBits (F := Ideal) .f32 0xFF800000#32)) (funext fun k => congrArg s (row_lift i k))

theorem headT_apply (s : FVec Ideal S128x128 .f32) (v : FVec Ideal S128x64 .f32) (i : Fin 128) (d : Fin 64) :
    headT s v (ix2 i d) = ∑ j : Fin 128, soft (fun k => s (ix2 i k)) j * v (ix2 j d) := by
  refine (Ideal.matmul_plain_apply (M := 128) (K := 128) (N := 64) none _ _ _ i d).trans ?_
  rw [show (constant S128x64 .f32 0x00000000#32 : FVec Ideal S128x64 .f32) (ix2 i d) = 0 from Ideal.ofBits_zero_f32, zero_add]
  refine Finset.sum_congr rfl fun j _ => ?_
  congr 1
  show Ideal.div (expT s (ix2 i j)) (broadcastTo S128x128 _ _ (ix2 i j)) = _
  rw [column_apply, expT_apply]
  refine congrArg (Ideal.div _) ((Ideal.multiReduction_add_single (expT s) _ reduces_S128x128_S128 (.inl rfl) rfl (ix1 i)).trans ?_)
  refine Finset.sum_congr rfl fun k _ => ?_
  exact (congrArg (expT s) (row_lift i k)).trans (expT_apply s i k)

/-- The four heads side by side, at column `64 h + d`. -/
theorem cat_apply (a : Fin 4 → FVec Ideal S128x64 .f32) (i : Fin 128) (h : Fin 4) (d : Fin 64) (e : Fin 256) (he : e.val = 64 * h.val + d.val) :
    concatenate S128x256 1 [⟨S128x64, a 0⟩, ⟨S128x64, a 1⟩, ⟨S128x64, a 2⟩, ⟨S128x64, a 3⟩]
      concatenates_S128x64_S128x64_S128x64_S128x64_S128x256_d1 (ix2 i e) = a h (ix2 i d) := by
  refine concatenate_apply_piece (1 : Fin S128x256.rank) [⟨S128x64, a 0⟩, ⟨S128x64, a 1⟩, ⟨S128x64, a 2⟩, ⟨S128x64, a 3⟩] _ (ix2 i e) h.val h.isLt S128x64 (a h) ?_ rfl (64 * h.val) ?_ (ix2 i d) ?_ ?_
  · match h with | 0 => rfl | 1 => rfl | 2 => rfl | 3 => rfl
  · match h with | 0 => rfl | 1 => rfl | 2 => rfl | 3 => rfl
  · intro b hb
    match b with
    | ⟨0, _⟩ => rfl
    | ⟨1, _⟩ => exact absurd rfl hb
  · exact he.symm

theorem projT_apply (a : Fin 4 → FVec Ideal S128x64 .f32) (w : FVec Ideal S256x512 .f32) (i : Fin 128) (k : Fin 512) :
    projT (a 0) (a 1) (a 2) (a 3) w (ix2 i k)
      = ∑ e : Fin 256, a ⟨e.val / 64, by omega⟩ (ix2 i (⟨e.val % 64, Nat.mod_lt _ (by decide)⟩ : Fin 64)) * w (ix2 e k) := by
  refine (Ideal.matmul_plain_apply (M := 128) (K := 256) (N := 512) none _ _ _ i k).trans ?_
  rw [show (constant S128x512 .f32 0x00000000#32 : FVec Ideal S128x512 .f32) (ix2 i k) = 0 from Ideal.ofBits_zero_f32, zero_add]
  refine Finset.sum_congr rfl fun e _ => ?_
  rw [cat_apply a i ⟨e.val / 64, by omega⟩ ⟨e.val % 64, Nat.mod_lt _ (by decide)⟩ e (Nat.div_add_mod _ _).symm]

end Cert.AttnProof

end
-- ==== Proof.Device.lean ====
/-
What one device computes, at exact values: its four heads of attention for each batch, projected by its rows of the output
weights; and what the whole exchange leaves in the result.
-/
module

public import proofs.«01_k».proof.Proof.Softmax

@[expose] public section

noncomputable section

namespace Cert.AttnProof

open Cert.KernelIdeal Cert.KernelIdeal.Gen
open Idealize.ShloMosaic Idealize.ShloMosaic.TcCoe Idealize.ShloMosaic.ValueIdx

/-! ## The partial results in the terms of the program -/

section Terms
variable {F : FTy → Type} [FloatOps F] (m : (ℓ : Loc nD τ sig) → Buf (Elt F) ℓ)

/-- The 64 columns of one head. -/
def slT (q : FVec F S128x256 .f32) : Fin 4 → FVec F S128x64 .f32
  | 0 => extractStridedSlice S128x64 ![0, 0] q slices_S128x256_o0_0_S128x64
  | 1 => extractStridedSlice S128x64 ![0, 64] q slices_S128x256_o0_64_S128x64
  | 2 => extractStridedSlice S128x64 ![0, 128] q slices_S128x256_o0_128_S128x64
  | 3 => extractStridedSlice S128x64 ![0, 192] q slices_S128x256_o0_192_S128x64

/-- Head `h` of device `c` for batch `b`. -/
def hdT (c : Dev nD) (b : Fin 2) (h : Fin 4) : FVec F S128x64 .f32 :=
  headT (scoreT (slT (qT (ldX m c b) (ldWq m c)) h) (kvT (ldK m c b h))) (kvT (ldV m c b h))

/-- The partial result for batch 0 is the projection of the four heads. -/
theorem P0_eq (c : Dev nD) : P0 m c = projT (hdT m c 0 0) (hdT m c 0 1) (hdT m c 0 2) (hdT m c 0 3) (ldWo m c) :=
  shapeCast_self _ _
/-- The partial result for batch 1 is the projection of the four heads. -/
theorem P1_eq (c : Dev nD) : P1 m c = projT (hdT m c 1 0) (hdT m c 1 1) (hdT m c 1 2) (hdT m c 1 3) (ldWo m c) :=
  shapeCast_self _ _

end Terms

/-! ## At exact values -/

theorem slT_apply (q : FVec Ideal S128x256 .f32) (h : Fin 4) (i : Fin 128) (d : Fin 64) :
    slT q h (ix2 i d) = q (ix2 i (⟨64 * h.val + d.val, by omega⟩ : Fin 256)) := by
  match h with
  | 0 => exact extractStridedSlice_apply _ q slices_S128x256_o0_0_S128x64 _ _ (fun a => by
      match a with | ⟨0, _⟩ => exact (Nat.zero_add _).symm | ⟨1, _⟩ => exact rfl)
  | 1 => exact extractStridedSlice_apply _ q slices_S128x256_o0_64_S128x64 _ _ (fun a => by
      match a with | ⟨0, _⟩ => exact (Nat.zero_add _).symm | ⟨1, _⟩ => exact rfl)
  | 2 => exact extractStridedSlice_apply _ q slices_S128x256_o0_128_S128x64 _ _ (fun a => by
      match a with | ⟨0, _⟩ => exact (Nat.zero_add _).symm | ⟨1, _⟩ => exact rfl)
  | 3 => exact extractStridedSlice_apply _ q slices_S128x256_o0_192_S128x64 _ _ (fun a => by
      match a with | ⟨0, _⟩ => exact (Nat.zero_add _).symm | ⟨1, _⟩ => exact rfl)

variable (m : (ℓ : Loc nD τ sig) → Buf (Elt Ideal) ℓ)

/-- The device's staged inputs, as extended reals: activations, query weights, keys, values, output weights. -/
def xE (c : Dev nD) (b : Fin 2) (i : Fin 128) (t : Fin 512) : EReal := xC m c (ix3 b i t)
def wqE (c : Dev nD) (t : Fin 512) (e : Fin 256) : EReal := wqC m c (ix2 t e)
def kE (c : Dev nD) (b : Fin 2) (j : Fin 128) (h : Fin 4) (d : Fin 64) : EReal := kC m c (ix4 b j h d)
def vE (c : Dev nD) (b : Fin 2) (j : Fin 128) (h : Fin 4) (d : Fin 64) : EReal := vC m c (ix4 b j h d)
def woE (c : Dev nD) (e : Fin 256) (k : Fin 512) : EReal := woC m c (ix2 e k)

/-- The device's queries for batch `b`: the activations times its columns of the query weights. -/
def qV (c : Dev nD) (b : Fin 2) (i : Fin 128) (e : Fin 256) : EReal :=
  ∑ t : Fin 512, xE m c b i t * wqE m c t e
/-- The scores of its head `h`. -/
def scV (c : Dev nD) (b : Fin 2) (h : Fin 4) (i j : Fin 128) : EReal :=
  (∑ d : Fin 64, qV m c b i ⟨64 * h.val + d.val, by omega⟩ * kE m c b j h d) * scale
/-- The softmax of the scores of head `h` times its values, at column `d`. -/
def ctxV (c : Dev nD) (b : Fin 2) (h : Fin 4) (i : Fin 128) (d : Fin 64) : EReal :=
  ∑ j : Fin 128, soft (scV m c b h i) j * vE m c b j h d
/-- The partial result of the device: its heads times its rows of the output weights. -/
def partV (c : Dev nD) (b : Fin 2) (i : Fin 128) (k : Fin 512) : EReal :=
  ∑ e : Fin 256, ctxV m c b ⟨e.val / 64, by omega⟩ i ⟨e.val % 64, Nat.mod_lt _ (by decide)⟩ * woE m c e k

theorem hdT_apply (c : Dev nD) (b : Fin 2) (h : Fin 4) (i : Fin 128) (d : Fin 64) : hdT m c b h (ix2 i d) = ctxV m c b h i d := by
  unfold hdT ctxV
  rw [headT_apply]
  refine Finset.sum_congr rfl fun j _ => ?_
  have hs : (fun k => scoreT (slT (qT (ldX m c b) (ldWq m c)) h) (kvT (ldK m c b h)) (ix2 i k)) = scV m c b h i := by
    funext k
    rw [scoreT_apply]
    unfold scV qV
    congr 1
    refine Finset.sum_congr rfl fun d _ => ?_
    rw [slT_apply, qT_apply, kvT_apply]
    rfl
  rw [hs, kvT_apply]
  rfl

theorem P0_apply (c : Dev nD) (i : Fin 128) (k : Fin 512) : P0 m c (ix2 i k) = partV m c 0 i k := by
  rw [P0_eq, projT_apply (hdT m c 0)]
  unfold partV
  refine Finset.sum_congr rfl fun e _ => ?_
  rw [hdT_apply]
  rfl
theorem P1_apply (c : Dev nD) (i : Fin 128) (k : Fin 512) : P1 m c (ix2 i k) = partV m c 1 i k := by
  rw [P1_eq, projT_apply (hdT m c 1)]
  unfold partV
  refine Finset.sum_congr rfl fun e _ => ?_
  rw [hdT_apply]
  rfl

/-- Row `128 b + i` of the partial-result buffer. -/
theorem A0_apply (c : Dev nD) (b : Fin 2) (i : Fin 128) (k : Fin 512) (r : Fin 256) (hr : r.val = 128 * b.val + i.val) :
    A0 m c (ix2 r k) = partV m c b i k := by
  have hi := i.isLt
  unfold A0
  match b with
  | 0 =>
    have h : r.val < 128 := by rw [hr]; show 128 * 0 + i.val < 128; omega
    refine (dif_pos h).trans ?_
    rw [← P0_apply]
    exact congrArg (P0 m c) (congrArg (fun z : Fin 128 => (ix2 z k : S128x512.Idx)) (Fin.ext (by show r.val = i.val; rw [hr]; show 128 * 0 + i.val = i.val; omega)))
  | 1 =>
    have h : ¬ r.val < 128 := by rw [hr]; show ¬ 128 * 1 + i.val < 128; omega
    refine (dif_neg h).trans ?_
    rw [← P1_apply]
    exact congrArg (P1 m c) (congrArg (fun z : Fin 128 => (ix2 z k : S128x512.Idx)) (Fin.ext (by show r.val - 128 = i.val; rw [hr]; show 128 * 1 + i.val - 128 = i.val; omega)))

/-- The sum over the exchange slots. -/
theorem pay24_apply (v : FVec Ideal S32x8x512 .f32) (a : Fin 8) (k : Fin 512) : k0_pay24 v (ix2 a k) = ∑ p : Fin 32, v (ix3 p a k) := by
  unfold k0_pay24
  show shapeCast S8x512 (multiReduction .add [0] S8x512 v 0x00000000#32 reduces_S32x8x512_S8x512 (.inl rfl) rfl) _ (ix2 a k) = _
  rw [shapeCast_self]
  refine (Ideal.multiReduction_add_single v _ reduces_S32x8x512_S8x512 (.inl rfl) rfl (ix2 a k)).trans ?_
  refine Finset.sum_congr rfl fun p _ => congrArg v ?_
  funext x; match x with | ⟨0, _⟩ => rfl | ⟨1, _⟩ => rfl | ⟨2, _⟩ => rfl

/-- The result is, at every index, the sum over the devices of their partial results. -/
theorem result_apply (b : Fin 2) (i : Fin 128) (k : Fin 512) : outC m (ix3 b i k) = ∑ p : Fin 32, partV m p b i k := by
  have hb := b.isLt
  have hi := i.isLt
  refine (pay24_apply _ _ k).trans ?_
  refine Finset.sum_congr rfl fun p _ => ?_
  refine A0_apply m p b i k _ ?_
  show 8 * ((128 * b.val + i.val) / 8) + (128 * b.val + i.val) % 8 = 128 * b.val + i.val
  omega

/-! ## The device's blocks in the launch memory -/

theorem xC_apply (c : Dev nD) (b : Fin 2) (i : Fin 128) (t : Fin 512) :
    xC m c (ix3 b i t) = m ((c : Thread nD τ).loc main_arg0) (ix3 b i t) := by
  unfold xC
  rw [View.read_apply]
  refine congrArg (m ((c : Thread nD τ).loc main_arg0)) ?_
  funext ax; apply Fin.ext
  match ax with
  | ⟨0, _⟩ => show 0 + 1 * b.val = b.val; omega
  | ⟨1, _⟩ => show 0 + 1 * i.val = i.val; omega
  | ⟨2, _⟩ => show 0 + 1 * t.val = t.val; omega
theorem kC_apply (c : Dev nD) (b : Fin 2) (j : Fin 128) (h : Fin 4) (d : Fin 64) :
    kC m c (ix4 b j h d) = m ((c : Thread nD τ).loc main_arg2) (ix4 b j h d) := by
  unfold kC
  rw [View.read_apply]
  refine congrArg (m ((c : Thread nD τ).loc main_arg2)) ?_
  funext ax; apply Fin.ext
  match ax with
  | ⟨0, _⟩ => show 0 + 1 * b.val = b.val; omega
  | ⟨1, _⟩ => show 0 + 1 * j.val = j.val; omega
  | ⟨2, _⟩ => show 0 + 1 * h.val = h.val; omega
  | ⟨3, _⟩ => show 0 + 1 * d.val = d.val; omega
theorem vC_apply (c : Dev nD) (b : Fin 2) (j : Fin 128) (h : Fin 4) (d : Fin 64) :
    vC m c (ix4 b j h d) = m ((c : Thread nD τ).loc main_arg3) (ix4 b j h d) := by
  unfold vC
  rw [View.read_apply]
  refine congrArg (m ((c : Thread nD τ).loc main_arg3)) ?_
  funext ax; apply Fin.ext
  match ax with
  | ⟨0, _⟩ => show 0 + 1 * b.val = b.val; omega
  | ⟨1, _⟩ => show 0 + 1 * j.val = j.val; omega
  | ⟨2, _⟩ => show 0 + 1 * h.val = h.val; omega
  | ⟨3, _⟩ => show 0 + 1 * d.val = d.val; omega
theorem wqC_apply (c : Dev nD) (t : Fin 512) (e : Fin 256) :
    wqC m c (ix2 t e) = m ((c : Thread nD τ).loc main_arg1) (ix2 t (⟨256 * c.val + e.val, by have := dev_lt c; omega⟩ : Fin 8192)) := by
  unfold wqC
  rw [View.read_apply]
  refine congrArg (m ((c : Thread nD τ).loc main_arg1)) ?_
  funext ax; apply Fin.ext
  match ax with
  | ⟨0, _⟩ => show 0 + 1 * t.val = t.val; omega
  | ⟨1, _⟩ => show 256 * c.val + 1 * e.val = 256 * c.val + e.val; omega
theorem woC_apply (c : Dev nD) (e : Fin 256) (k : Fin 512) :
    woC m c (ix2 e k) = m ((c : Thread nD τ).loc main_arg4) (ix2 (⟨256 * c.val + e.val, by have := dev_lt c; omega⟩ : Fin 8192) k) := by
  unfold woC
  rw [View.read_apply]
  refine congrArg (m ((c : Thread nD τ).loc main_arg4)) ?_
  funext ax; apply Fin.ext
  match ax with
  | ⟨0, _⟩ => show 256 * c.val + 1 * e.val = 256 * c.val + e.val; omega
  | ⟨1, _⟩ => show 0 + 1 * k.val = k.val; omega

end Cert.AttnProof

end
-- ==== Proof.RefTerms.lean ====
/-
The reference's composed term cut into named stages — queries, scores, mask, softmax weights, context, projection — and
each stage read at an index, at exact values.  The distance mask admits every pair of positions, since no two of the 128
positions are more than 128 apart, so each selection on it takes its first choice.
-/
module

public import proofs.«01_k».proof.Proof.Softmax
public import proofs.«01_k».proof.Proof.Gen.ReferenceIdeal.Run
public import Idealize.ShloMosaic.PureOps.Reduce
public import Idealize.ShloMosaic.Lib.IdealHost

@[expose] public section

noncomputable section

namespace Cert.AttnRef

open Cert.ReferenceIdeal Cert.ReferenceIdeal.Gen
open Idealize.ShloMosaic Idealize.ShloMosaic.TcCoe Idealize.ShloMosaic.ValueIdx
open Cert.AttnProof (rowMax rowExp soft scale)

/-! ## The stages -/

/-- Which key positions a query position attends to. -/
def maskR : IVec S128x128 1 :=
  cmpi .sle (absi (subi (broadcastInDim S128x128 ![0, 1] bcast_S128x1_S128x128_0_1 (broadcastInDim S128x1 ![0] bcast_S128_S128x1_0 (iotaInDim S128 32 0)))
    (broadcastInDim S128x128 ![0, 1] bcast_S1x128_S128x128_0_1 (broadcastInDim S1x128 ![1] bcast_S128_S1x128_1 (iotaInDim S128 32 0)))))
    (broadcastInDim S128x128 ![] bcast_S_S128x128 (constantI S_ 32 128#32))
/-- Whether a query position attends to any. -/
def anyR : IVec S128 1 := Host.reduce IntOp.ori maskR (constantI S_ 1 0#1) reducesTo_S128x128_S128_d1 h_S_

/-- The queries, by head. -/
def qR (X : FVec Ideal S2x128x512 .f32) (W : FVec Ideal S512x8192 .f32) : FVec Ideal S2x128x128x64 .f32 :=
  shapeCast S2x128x128x64 (Host.dotGeneral dot_S2x128x512_S512x8192_S2x128x8192_2_0_01_1_n_n none X W) shapeCasts_S2x128x8192_S2x128x128x64
/-- The scaled scores. -/
def scR (q K : FVec Ideal S2x128x128x64 .f32) : FVec Ideal S2x128x128x128 .f32 :=
  mulf (Host.dotGeneral dot_S2x128x128x64_S2x128x128x64_S2x128x128x128_3_3_1_1_02_02 none q K)
    (broadcastInDim S2x128x128x128 ![] bcast_S_S2x128x128x128 (constant S_ .f32 0x3E000000#32))
/-- The scores with the pairs outside the mask replaced. -/
def scmR (s : FVec Ideal S2x128x128x128 .f32) : FVec Ideal S2x128x128x128 .f32 :=
  select (broadcastInDim S2x128x128x128 ![0, 1, 2, 3] bcast_S1x1x128x128_S2x128x128x128_0_1_2_3
    (broadcastInDim S1x1x128x128 ![2, 3] bcast_S128x128_S1x1x128x128_2_3 maskR)) s
    (broadcastInDim S2x128x128x128 ![] bcast_S_S2x128x128x128 (id (constant S_ .f32 0xCE6E6B28#32)))
/-- Scores less their row maximum, exponentiated. -/
def expR (s : FVec Ideal S2x128x128x128 .f32) : FVec Ideal S2x128x128x128 .f32 :=
  Host.exp (subf s (broadcastInDim S2x128x128x128 ![0, 1, 2, 3] bcast_S2x128x128x1_S2x128x128x128_0_1_2_3
    (broadcastInDim S2x128x128x1 ![0, 1, 2] bcast_S2x128x128_S2x128x128x1_0_1_2
      (Host.reduce FloatOps.maximumf s (constant S_ .f32 0xFF800000#32) reducesTo_S2x128x128x128_S2x128x128_d3 h_S_))))
/-- The row sums, one where a row attends to nothing. -/
def sumR (s : FVec Ideal S2x128x128x128 .f32) : FVec Ideal S2x128x128x1 .f32 :=
  select (broadcastInDim S2x128x128x1 ![0, 1, 2, 3] bcast_S1x1x128x1_S2x128x128x1_0_1_2_3 (broadcastInDim S1x1x128x1 ![2] bcast_S128_S1x1x128x1_2 anyR))
    (broadcastInDim S2x128x128x1 ![0, 1, 2] bcast_S2x128x128_S2x128x128x1_0_1_2
      (Host.reduceAdd (expR s) (constant S_ .f32 0x00000000#32) reducesTo_S2x128x128x128_S2x128x128_d3 h_S_))
    (broadcastInDim S2x128x128x1 ![] bcast_S_S2x128x128x1 (id (constant S_ .f32 0x3F800000#32)))
/-- The softmax weights, zero where a row attends to nothing. -/
def wtR (s : FVec Ideal S2x128x128x128 .f32) : FVec Ideal S2x128x128x128 .f32 :=
  select (broadcastInDim S2x128x128x128 ![0, 1, 2, 3] bcast_S1x1x128x1_S2x128x128x128_0_1_2_3 (broadcastInDim S1x1x128x1 ![2] bcast_S128_S1x1x128x1_2 anyR))
    (Host.divf (expR s) (broadcastInDim S2x128x128x128 ![0, 1, 2, 3] bcast_S2x128x128x1_S2x128x128x128_0_1_2_3 (sumR s)))
    (broadcastInDim S2x128x128x128 ![] bcast_S_S2x128x128x128 (id (constant S_ .f32 0x00000000#32)))
/-- The context: weights times values, by position and head. -/
def ctxR (V : FVec Ideal S2x128x128x64 .f32) (w : FVec Ideal S2x128x128x128 .f32) : FVec Ideal S2x128x128x64 .f32 :=
  transpose S2x128x128x64 [0, 3, 1, 2] (Host.dotGeneral dot_S2x128x128x64_S2x128x128x128_S2x128x64x128_1_3_3_2_02_01 none V w)
    transposes_S2x128x64x128_S2x128x128x64_0_3_1_2
/-- The context times the output weights. -/
def outR (x : FVec Ideal S2x128x128x64 .f32) (W : FVec Ideal S8192x512 .f32) : FVec Ideal S2x128x512 .f32 :=
  Host.dotGeneral dot_S2x128x8192_S8192x512_S2x128x512_2_0_01_1_n_n none (shapeCast S2x128x8192 x shapeCasts_S2x128x128x64_S2x128x8192) W

/-- The reference's result is the last stage. -/
theorem res_eq (m : (ℓ : Loc nD τ sig) → Buf (Elt Ideal) ℓ) (c : Dev nD) :
    Value.res_main_v34 (F := Ideal) m c
      = outR (ctxR (m ((c.tc : Thread nD τ).loc main_arg3)) (wtR (scmR (scR (qR (m ((c.tc : Thread nD τ).loc main_arg0)) (m ((c.tc : Thread nD τ).loc main_arg1)))
          (m ((c.tc : Thread nD τ).loc main_arg2)))))) (m ((c.tc : Thread nD τ).loc main_arg4)) := rfl

/-! ## The mask admits everything -/

theorem near : ∀ i j : Fin 128, IntOp.cmpi .sle (IntOp.absi (IntOp.subi (BitVec.ofNat 32 i.val) (BitVec.ofNat 32 j.val))) 128#32 = 1#1 := by
  decide +kernel

theorem maskR_apply (i j : Fin 128) : maskR (ix2 i j) = 1#1 := by
  refine Eq.trans ?_ (near i j)
  unfold maskR
  show IntOp.cmpi .sle (IntOp.absi (IntOp.subi (broadcastInDim S128x128 _ _ _ (ix2 i j)) (broadcastInDim S128x128 _ _ _ (ix2 i j)))) _ = _
  rw [broadcastInDim_apply _ _ _ (ix2 i j) (ix2 i (0 : Fin 1)) (fun a => by match a with | ⟨0, _⟩ => rfl | ⟨1, _⟩ => rfl),
    broadcastInDim_apply _ _ _ (ix2 i j) (ix2 (0 : Fin 1) j) (fun a => by match a with | ⟨0, _⟩ => rfl | ⟨1, _⟩ => rfl),
    broadcastInDim_apply _ _ _ (ix2 i (0 : Fin 1)) (ix1 i) (fun a => by match a with | ⟨0, _⟩ => rfl),
    broadcastInDim_apply _ _ _ (ix2 (0 : Fin 1) j) (ix1 j) (fun a => by match a with | ⟨0, _⟩ => rfl)]
  rfl

theorem red2 : S128x128.Reduces [1] S128 := by decide
theorem red4 : S2x128x128x128.Reduces [3] S2x128x128 := by decide

theorem anyR_apply (i : Fin 128) : anyR (ix1 i) = 1#1 := by
  unfold anyR
  rw [Host.reduce_eq_fold_single IntOp.ori maskR _ reducesTo_S128x128_S128_d1 red2 h_S_ (ix1 i)]
  have h : maskR ∘ red2.lift (ix1 i) = fun _ => 1#1 := by
    funext k
    refine Eq.trans (congrArg maskR ?_) (maskR_apply i k)
    funext a; match a with | ⟨0, _⟩ => rfl | ⟨1, _⟩ => rfl
  rw [h, Finset.fold_const _ (by decide)]
  exact (if_neg (Finset.univ_nonempty (α := Fin 128)).ne_empty).trans (by decide)

/-! ## The stages at an index -/

theorem scmR_eq (s : FVec Ideal S2x128x128x128 .f32) : scmR s = s := by
  funext x
  obtain ⟨b, h, i, j, rfl⟩ : ∃ (b : Fin 2) (h i j : Fin 128), x = ix4 b h i j := ⟨x 0, x 1, x 2, x 3, eq_ix4 x⟩
  unfold scmR
  rw [select_apply, broadcastInDim_apply _ _ _ (ix4 b h i j) (ix4 (0 : Fin 1) (0 : Fin 1) i j)
      (fun a => by match a with | ⟨0, _⟩ => rfl | ⟨1, _⟩ => rfl | ⟨2, _⟩ => rfl | ⟨3, _⟩ => rfl),
    broadcastInDim_apply _ _ _ (ix4 (0 : Fin 1) (0 : Fin 1) i j) (ix2 i j) (fun a => by match a with | ⟨0, _⟩ => rfl | ⟨1, _⟩ => rfl),
    maskR_apply]
  rfl

/-- A row statistic laid along the row reads the row's statistic. -/
theorem lay_apply {α : Type} (v : S2x128x128x1.Idx → α) (b : Fin 2) (h i j : Fin 128) :
    broadcastInDim S2x128x128x128 ![0, 1, 2, 3] bcast_S2x128x128x1_S2x128x128x128_0_1_2_3 v (ix4 b h i j) = v (ix4 b h i (0 : Fin 1)) :=
  broadcastInDim_apply _ _ _ _ _ (fun a => by match a with | ⟨0, _⟩ => rfl | ⟨1, _⟩ => rfl | ⟨2, _⟩ => rfl | ⟨3, _⟩ => rfl)
theorem keep_apply {α : Type} (v : S2x128x128.Idx → α) (b : Fin 2) (h i : Fin 128) :
    broadcastInDim S2x128x128x1 ![0, 1, 2] bcast_S2x128x128_S2x128x128x1_0_1_2 v (ix4 b h i (0 : Fin 1)) = v (ix3 b h i) :=
  broadcastInDim_apply _ _ _ _ _ (fun a => by match a with | ⟨0, _⟩ => rfl | ⟨1, _⟩ => rfl | ⟨2, _⟩ => rfl)

theorem row_lift (b : Fin 2) (h i k : Fin 128) : red4.lift (ix3 b h i) k = (ix4 b h i k : S2x128x128x128.Idx) := by
  funext a; match a with | ⟨0, _⟩ => rfl | ⟨1, _⟩ => rfl | ⟨2, _⟩ => rfl | ⟨3, _⟩ => rfl

theorem expR_apply (s : FVec Ideal S2x128x128x128 .f32) (b : Fin 2) (h i j : Fin 128) :
    expR s (ix4 b h i j) = rowExp (fun k => s (ix4 b h i k)) j := by
  show Ideal.exp (s (ix4 b h i j) - broadcastInDim S2x128x128x128 _ _ _ (ix4 b h i j)) = _
  rw [lay_apply, keep_apply]
  refine congrArg (fun z => Ideal.exp (s (ix4 b h i j) - z))
    ((Host.reduce_eq_fold_single FloatOps.maximumf s _ reducesTo_S2x128x128x128_S2x128x128_d3 red4 h_S_ (ix3 b h i)).trans ?_)
  exact congrArg (Finset.univ.fold max (FloatOps.ofBits (F := Ideal) .f32 0xFF800000#32)) (funext fun k => congrArg s (row_lift b h i k))

theorem sumR_apply (s : FVec Ideal S2x128x128x128 .f32) (b : Fin 2) (h i : Fin 128) :
    sumR s (ix4 b h i (0 : Fin 1)) = ∑ k : Fin 128, rowExp (fun k => s (ix4 b h i k)) k := by
  unfold sumR
  rw [select_apply, broadcastInDim_apply _ _ _ (ix4 b h i (0 : Fin 1)) (ix4 (0 : Fin 1) (0 : Fin 1) i (0 : Fin 1))
      (fun a => by match a with | ⟨0, _⟩ => rfl | ⟨1, _⟩ => rfl | ⟨2, _⟩ => rfl | ⟨3, _⟩ => rfl),
    broadcastInDim_apply _ _ _ (ix4 (0 : Fin 1) (0 : Fin 1) i (0 : Fin 1)) (ix1 i) (fun a => by match a with | ⟨0, _⟩ => rfl),
    anyR_apply, select_one, keep_apply]
  refine (Ideal.hostReduceAdd_single reducesTo_S2x128x128x128_S2x128x128_d3 red4 (expR s) _ (ix3 b h i)).trans ?_
  rw [show (constant S_ .f32 0x00000000#32 : FVec Ideal S_ .f32) (Shape.Idx.first h_S_) = 0 from Ideal.ofBits_zero_f32, zero_add]
  exact Finset.sum_congr rfl fun k _ => (congrArg (expR s) (row_lift b h i k)).trans (expR_apply s b h i k)

theorem wtR_apply (s : FVec Ideal S2x128x128x128 .f32) (b : Fin 2) (h i j : Fin 128) :
    wtR s (ix4 b h i j) = soft (fun k => s (ix4 b h i k)) j := by
  unfold wtR
  rw [select_apply, broadcastInDim_apply _ _ _ (ix4 b h i j) (ix4 (0 : Fin 1) (0 : Fin 1) i (0 : Fin 1))
      (fun a => by match a with | ⟨0, _⟩ => rfl | ⟨1, _⟩ => rfl | ⟨2, _⟩ => rfl | ⟨3, _⟩ => rfl),
    broadcastInDim_apply _ _ _ (ix4 (0 : Fin 1) (0 : Fin 1) i (0 : Fin 1)) (ix1 i) (fun a => by match a with | ⟨0, _⟩ => rfl),
    anyR_apply, select_one, hostDivf_apply, lay_apply, sumR_apply, expR_apply]
  rfl

/-- A contraction with one contracted coordinate, the operands read where the result index and that coordinate put them. -/
theorem contract {sl sr so : Shape} (D : DotDims sl sr so) (n : ℕ) (hr : D.contr.rank = 1) (hn : D.contr.size ⟨0, by rw [hr]; exact Nat.one_pos⟩ = n)
    (l : FVec Ideal sl .f32) (r : FVec Ideal sr .f32) (j : so.Idx) (L : Fin n → sl.Idx) (R : Fin n → sr.Idx)
    (hl : ∀ k, D.lhsIdx j ((contrEquiv1 D n hr hn).symm k) = L k) (hR : ∀ k, D.rhsIdx j ((contrEquiv1 D n hr hn).symm k) = R k) :
    Host.dotGeneral D none l r j = ∑ k : Fin n, l (L k) * r (R k) := by
  show FloatOps.dotGeneral _ none _ l r j = _
  rw [Ideal.dotGeneral_apply, ← Equiv.sum_comp (contrEquiv1 D n hr hn).symm]
  exact Finset.sum_congr rfl fun k _ => by rw [hl, hR]

theorem qR_apply (X : FVec Ideal S2x128x512 .f32) (W : FVec Ideal S512x8192 .f32) (b : Fin 2) (i h : Fin 128) (d : Fin 64) :
    qR X W (ix4 b i h d) = ∑ t : Fin 512, X (ix3 b i t) * W (ix2 t (⟨64 * h.val + d.val, by omega⟩ : Fin 8192)) := by
  unfold qR
  rw [shapeCast_apply _ _ _ (ix3 b i (⟨64 * h.val + d.val, by omega⟩ : Fin 8192)) (by
    rw [Shape.rowMajor_val_three, Shape.rowMajor_val_four]
    show (b.val * 128 + i.val) * 8192 + (64 * h.val + d.val) = ((b.val * 128 + i.val) * 128 + h.val) * 64 + d.val
    omega)]
  let D := dot_S2x128x512_S512x8192_S2x128x8192_2_0_01_1_n_n
  refine contract D 512 rfl rfl X W _ (fun t => ix3 b i t) (fun t => ix2 t (⟨64 * h.val + d.val, by omega⟩ : Fin 8192)) (fun k => ?_) (fun k => ?_)
  · have hk := contrEquiv1_symm_val D 512 rfl rfl k
    funext a; apply Fin.ext
    match a with
    | ⟨0, _⟩ => rfl
    | ⟨1, _⟩ => rfl
    | ⟨2, _⟩ => exact hk
  · have hk := contrEquiv1_symm_val D 512 rfl rfl k
    funext a; apply Fin.ext
    match a with
    | ⟨0, _⟩ => exact hk
    | ⟨1, _⟩ => rfl

theorem scR_apply (q K : FVec Ideal S2x128x128x64 .f32) (b : Fin 2) (h i j : Fin 128) :
    scR q K (ix4 b h i j) = (∑ d : Fin 64, q (ix4 b i h d) * K (ix4 b j h d)) * scale := by
  let D := dot_S2x128x128x64_S2x128x128x64_S2x128x128x128_3_3_1_1_02_02
  show Host.dotGeneral D none q K (ix4 b h i j) * scale = _
  congr 1
  refine contract D 64 rfl rfl q K _ (fun d => ix4 b i h d) (fun d => ix4 b j h d) (fun k => ?_) (fun k => ?_)
  · have hk := contrEquiv1_symm_val D 64 rfl rfl k
    funext a; apply Fin.ext
    match a with
    | ⟨0, _⟩ => rfl
    | ⟨1, _⟩ => rfl
    | ⟨2, _⟩ => rfl
    | ⟨3, _⟩ => exact hk
  · have hk := contrEquiv1_symm_val D 64 rfl rfl k
    funext a; apply Fin.ext
    match a with
    | ⟨0, _⟩ => rfl
    | ⟨1, _⟩ => rfl
    | ⟨2, _⟩ => rfl
    | ⟨3, _⟩ => exact hk

theorem ctxR_apply (V : FVec Ideal S2x128x128x64 .f32) (w : FVec Ideal S2x128x128x128 .f32) (b : Fin 2) (i h : Fin 128) (d : Fin 64) :
    ctxR V w (ix4 b i h d) = ∑ j : Fin 128, V (ix4 b j h d) * w (ix4 b h i j) := by
  unfold ctxR
  rw [transpose_apply _ _ _ _ (ix4 b h d i) (fun a => by match a with | ⟨0, _⟩ => rfl | ⟨1, _⟩ => rfl | ⟨2, _⟩ => rfl | ⟨3, _⟩ => rfl)]
  let D := dot_S2x128x128x64_S2x128x128x128_S2x128x64x128_1_3_3_2_02_01
  refine contract D 128 rfl rfl V w _ (fun j => ix4 b j h d) (fun j => ix4 b h i j) (fun k => ?_) (fun k => ?_)
  · have hk := contrEquiv1_symm_val D 128 rfl rfl k
    funext a; apply Fin.ext
    match a with
    | ⟨0, _⟩ => rfl
    | ⟨1, _⟩ => exact hk
    | ⟨2, _⟩ => rfl
    | ⟨3, _⟩ => rfl
  · have hk := contrEquiv1_symm_val D 128 rfl rfl k
    funext a; apply Fin.ext
    match a with
    | ⟨0, _⟩ => rfl
    | ⟨1, _⟩ => rfl
    | ⟨2, _⟩ => rfl
    | ⟨3, _⟩ => exact hk

theorem outR_apply (x : FVec Ideal S2x128x128x64 .f32) (W : FVec Ideal S8192x512 .f32) (b : Fin 2) (i : Fin 128) (k : Fin 512) :
    outR x W (ix3 b i k)
      = ∑ e : Fin 8192, x (ix4 b i (⟨e.val / 64, by omega⟩ : Fin 128) (⟨e.val % 64, Nat.mod_lt _ (by decide)⟩ : Fin 64)) * W (ix2 e k) := by
  unfold outR
  let D := dot_S2x128x8192_S8192x512_S2x128x512_2_0_01_1_n_n
  refine (contract D 8192 rfl rfl _ W _ (fun e => ix3 b i e) (fun e => ix2 e k) (fun e => ?_) (fun e => ?_)).trans ?_
  · have hk := contrEquiv1_symm_val D 8192 rfl rfl e
    funext a; apply Fin.ext
    match a with
    | ⟨0, _⟩ => rfl
    | ⟨1, _⟩ => rfl
    | ⟨2, _⟩ => exact hk
  · have hk := contrEquiv1_symm_val D 8192 rfl rfl e
    funext a; apply Fin.ext
    match a with
    | ⟨0, _⟩ => exact hk
    | ⟨1, _⟩ => rfl
  · refine Finset.sum_congr rfl fun e _ => ?_
    rw [shapeCast_apply x _ _ (ix4 b i (⟨e.val / 64, by omega⟩ : Fin 128) (⟨e.val % 64, Nat.mod_lt _ (by decide)⟩ : Fin 64)) (by
      rw [Shape.rowMajor_val_three, Shape.rowMajor_val_four]
      show ((b.val * 128 + i.val) * 128 + e.val / 64) * 64 + e.val % 64 = (b.val * 128 + i.val) * 8192 + e.val
      omega)]

end Cert.AttnRef

end
-- ==== Proof.Value.lean ====
/-
The kernel's result and the reference's are one array: the reference's sum over the 8192 context columns is the sum over
the 32 devices of the sums over their 256 columns, and column `256 p + e` belongs to head `4 p + e / 64`, which is head
`e / 64` of device `p`.
-/
module

public import proofs.«01_k».proof.Proof.Device
public import proofs.«01_k».proof.Proof.RefTerms
public import proofs.«01_k».proof.Proof.Frames
public import Idealize.ShloMosaic.Lib.Layout

@[expose] public section

noncomputable section

namespace Cert.AttnProof

open Idealize.ShloMosaic Idealize.ShloMosaic.TcCoe Idealize.ShloMosaic.ValueIdx Idealize.SL.Sem
open Cert.AttnRef

/-! ## Sums over columns, device by device -/

/-- A sum over 8192 columns is the sum over 32 devices of the sums over their 256 columns. -/
theorem sum_columns (f : Fin 8192 → EReal) : ∑ e : Fin 8192, f e = ∑ p : Fin 32, ∑ e : Fin 256, f ⟨256 * p.val + e.val, by omega⟩ := by
  rw [← Equiv.sum_comp (finProdFinEquiv (m := 32) (n := 256)) f, Fintype.sum_prod_type]
  refine Finset.sum_congr rfl fun p _ => Finset.sum_congr rfl fun e _ => congrArg f (Fin.ext ?_)
  show e.val + 256 * p.val = 256 * p.val + e.val
  omega

/-! ## Blocks of the keys and values -/

/-- Head `h` of device `p`'s block is head `4 p + h` of the whole array. -/
theorem block_head (p : Fin 32) (v : (⟨4, ![2, 128, 128, 64]⟩ : Shape).Idx → EReal) (b : Fin 2) (j : Fin 128) (h : Fin 4) (d : Fin 64)
    (H : Fin 128) (hH : H.val = 4 * p.val + h.val) :
    Layout.block ⟨4, ![2, 128, 4, 64]⟩ ⟨4, ![2, 128, 128, 64]⟩ 2 32 p v (by decide) (ix4 b j h d) = v (ix4 b j H d) := by
  rw [Layout.block_apply]
  refine congrArg v (funext fun a => Fin.ext ?_)
  rw [Layout.Tiles.idx_val]
  match a with
  | ⟨0, _⟩ => rfl
  | ⟨1, _⟩ => rfl
  | ⟨2, _⟩ => show p.val * 4 + h.val = H.val; omega
  | ⟨3, _⟩ => rfl

/-! ## The equation -/

section
variable (m : (ℓ : Loc KernelIdeal.nD KernelIdeal.τ KernelIdeal.sig) → Buf (Elt Ideal) ℓ)
  (X : FVec Ideal ReferenceIdeal.S2x128x512 .f32) (Wq : FVec Ideal ReferenceIdeal.S512x8192 .f32)
  (Kx Vx : FVec Ideal ReferenceIdeal.S2x128x128x64 .f32) (Wo : FVec Ideal ReferenceIdeal.S8192x512 .f32)

/-- The devices' arguments are the reference's: whole copies of the activations and the weights, the keys and values cut
    by head. -/
structure Holds : Prop where
  x : ∀ c : Dev KernelIdeal.nD, m ((c : Thread KernelIdeal.nD KernelIdeal.τ).loc KernelIdeal.main_arg0) = X
  wq : ∀ c : Dev KernelIdeal.nD, m ((c : Thread KernelIdeal.nD KernelIdeal.τ).loc KernelIdeal.main_arg1) = Wq
  k : ∀ c : Dev KernelIdeal.nD, m ((c : Thread KernelIdeal.nD KernelIdeal.τ).loc KernelIdeal.main_arg2)
    = Layout.block ⟨4, ![2, 128, 4, 64]⟩ ⟨4, ![2, 128, 128, 64]⟩ 2 32 c Kx
  v : ∀ c : Dev KernelIdeal.nD, m ((c : Thread KernelIdeal.nD KernelIdeal.τ).loc KernelIdeal.main_arg3)
    = Layout.block ⟨4, ![2, 128, 4, 64]⟩ ⟨4, ![2, 128, 128, 64]⟩ 2 32 c Vx
  wo : ∀ c : Dev KernelIdeal.nD, m ((c : Thread KernelIdeal.nD KernelIdeal.τ).loc KernelIdeal.main_arg4) = Wo

variable {m X Wq Kx Vx Wo}

theorem Holds.xE (H : Holds m X Wq Kx Vx Wo) (c : Dev KernelIdeal.nD) (b : Fin 2) (i : Fin 128) (t : Fin 512) :
    xE m c b i t = X (ix3 b i t) := (xC_apply m c b i t).trans (congrFun (H.x c) _)
theorem Holds.wqE (H : Holds m X Wq Kx Vx Wo) (c : Dev KernelIdeal.nD) (t : Fin 512) (e : Fin 256) (e' : Fin 8192) (he : e'.val = 256 * c.val + e.val) :
    wqE m c t e = Wq (ix2 t e') := by
  refine ((wqC_apply m c t e).trans (congrFun (H.wq c) _)).trans (congrArg Wq ?_)
  exact congrArg (fun z : Fin 8192 => (ix2 t z : ReferenceIdeal.S512x8192.Idx)) (Fin.ext he.symm)
theorem Holds.woE (H : Holds m X Wq Kx Vx Wo) (c : Dev KernelIdeal.nD) (e : Fin 256) (k : Fin 512) (e' : Fin 8192) (he : e'.val = 256 * c.val + e.val) :
    woE m c e k = Wo (ix2 e' k) := by
  refine ((woC_apply m c e k).trans (congrFun (H.wo c) _)).trans (congrArg Wo ?_)
  exact congrArg (fun z : Fin 8192 => (ix2 z k : ReferenceIdeal.S8192x512.Idx)) (Fin.ext he.symm)
theorem Holds.kE (H : Holds m X Wq Kx Vx Wo) (c : Dev KernelIdeal.nD) (b : Fin 2) (j : Fin 128) (h : Fin 4) (d : Fin 64) (h' : Fin 128)
    (hh : h'.val = 4 * c.val + h.val) : kE m c b j h d = Kx (ix4 b j h' d) :=
  ((kC_apply m c b j h d).trans (congrFun (H.k c) _)).trans (block_head c Kx b j h d h' hh)
theorem Holds.vE (H : Holds m X Wq Kx Vx Wo) (c : Dev KernelIdeal.nD) (b : Fin 2) (j : Fin 128) (h : Fin 4) (d : Fin 64) (h' : Fin 128)
    (hh : h'.val = 4 * c.val + h.val) : vE m c b j h d = Vx (ix4 b j h' d) :=
  ((vC_apply m c b j h d).trans (congrFun (H.v c) _)).trans (block_head c Vx b j h d h' hh)

/-- The scores of head `h` of a device are the reference's of head `4 c + h`. -/
theorem Holds.scores (H : Holds m X Wq Kx Vx Wo) (c : Dev KernelIdeal.nD) (b : Fin 2) (h : Fin 4) (h' : Fin 128) (hh : h'.val = 4 * c.val + h.val)
    (i j : Fin 128) : scV m c b h i j = scR (qR X Wq) Kx (ix4 b h' i j) := by
  rw [scR_apply]
  unfold scV
  congr 1
  refine Finset.sum_congr rfl fun d _ => ?_
  rw [qR_apply, H.kE c b j h d h' hh]
  congr 1
  unfold qV
  refine Finset.sum_congr rfl fun t _ => ?_
  rw [H.xE, H.wqE c t _ ⟨64 * h'.val + d.val, by omega⟩ (by show 64 * h'.val + d.val = 256 * c.val + (64 * h.val + d.val); omega)]

/-- The context of head `h` of a device is the reference's of head `4 c + h`. -/
theorem Holds.context (H : Holds m X Wq Kx Vx Wo) (c : Dev KernelIdeal.nD) (b : Fin 2) (h : Fin 4) (h' : Fin 128) (hh : h'.val = 4 * c.val + h.val)
    (i : Fin 128) (d : Fin 64) : ctxV m c b h i d = ctxR Vx (wtR (scmR (scR (qR X Wq) Kx))) (ix4 b i h' d) := by
  rw [ctxR_apply, scmR_eq]
  unfold ctxV
  refine Finset.sum_congr rfl fun j _ => ?_
  rw [wtR_apply, H.vE c b j h d h' hh, mul_comm]
  congr 2
  exact funext fun k => H.scores c b h h' hh i k

/-- The kernel's result is the reference's, for every input, infinite entries included. -/
theorem Holds.result (H : Holds m X Wq Kx Vx Wo) :
    (outC m : ReferenceIdeal.S2x128x512.Idx → EReal) = outR (ctxR Vx (wtR (scmR (scR (qR X Wq) Kx)))) Wo := by
  funext x
  obtain ⟨b, i, k, rfl⟩ : ∃ (b : Fin 2) (i : Fin 128) (k : Fin 512), x = ix3 b i k := ⟨x 0, x 1, x 2, eq_ix3 x⟩
  refine Eq.trans (α := EReal) (result_apply m b i k) ?_
  rw [outR_apply, sum_columns]
  refine Finset.sum_congr rfl fun p _ => ?_
  unfold partV
  refine Finset.sum_congr rfl fun e _ => ?_
  rw [H.woE p e k ⟨256 * p.val + e.val, by omega⟩ rfl,
    H.context p b ⟨e.val / 64, by omega⟩ ⟨(256 * p.val + e.val) / 64, by omega⟩ (by show (256 * p.val + e.val) / 64 = 4 * p.val + e.val / 64; omega)]
  have hd : (⟨e.val % 64, Nat.mod_lt _ (by decide)⟩ : Fin 64) = ⟨(256 * p.val + e.val) % 64, Nat.mod_lt _ (by decide)⟩ :=
    Fin.ext (by show e.val % 64 = (256 * p.val + e.val) % 64; omega)
  exact congrArg (fun z : Fin 64 => ctxR Vx (wtR (scmR (scR (qR X Wq) Kx))) (ix4 b i (⟨(256 * p.val + e.val) / 64, by omega⟩ : Fin 128) z)
    * Wo (ix2 (⟨256 * p.val + e.val, by omega⟩ : Fin 8192) k)) hd

end

/-- The kernel leaves on every device the array the reference leaves, for all inputs. -/
theorem algebraic : Cert.algebraic_KernelIdeal_ReferenceIdeal := by
  intro m g m' g' _ hargs
  have H : Holds m (m' (((0 : Dev ReferenceIdeal.nD).tc : Thread ReferenceIdeal.nD ReferenceIdeal.τ).loc ReferenceIdeal.main_arg0))
      (m' (((0 : Dev ReferenceIdeal.nD).tc : Thread ReferenceIdeal.nD ReferenceIdeal.τ).loc ReferenceIdeal.main_arg1))
      (m' (((0 : Dev ReferenceIdeal.nD).tc : Thread ReferenceIdeal.nD ReferenceIdeal.τ).loc ReferenceIdeal.main_arg2))
      (m' (((0 : Dev ReferenceIdeal.nD).tc : Thread ReferenceIdeal.nD ReferenceIdeal.τ).loc ReferenceIdeal.main_arg3))
      (m' (((0 : Dev ReferenceIdeal.nD).tc : Thread ReferenceIdeal.nD ReferenceIdeal.τ).loc ReferenceIdeal.main_arg4)) :=
    ⟨fun c => (hargs c).1, fun c => (hargs c).2.1, fun c => (hargs c).2.2.1, fun c => (hargs c).2.2.2.1, fun c => (hargs c).2.2.2.2⟩
  have hv := H.result.trans (res_eq m' 0).symm
  refine ⟨ReferenceIdeal.Value.res_main_v34 (F := Ideal) m' 0, ?_, ?_⟩
  · exact (θ_run KernelIdeal.defs _ _).mono (fun r h c => ⟨(h.1 c).1.trans hv, (h.1 c).2⟩) (run_end m g)
  · exact (θ_run ReferenceIdeal.defs _ _).mono (fun r h => h 0) (ReferenceIdeal.Value.run (F := Ideal) m' g')

end Cert.AttnProof

end
-- ==== Proof.lean ====
/- The certificate's claim, assembled from the modules beside this one. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- The reference runs, changes no argument, and declares no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Every claim of the certificate. -/
theorem claim : Cert.Claim := ⟨Cert.Kernel.Gen.facts, Cert.KernelIdeal.Gen.facts, Cert.ReferenceIdeal.Gen.facts,
  Cert.AttnProof.frame_kernel, Cert.AttnProof.frame_ideal, frame_reference, trivial,
  Cert.AttnProof.algebraic⟩

end Cert.Proof

end
